-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_scores0 [hPre_finite_scores0 : Cert.Pre_finite_scores0.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scores0.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scores0 [hPre_finite_scores0 : Cert.Pre_finite_scores0.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scores0.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_scores0 [hKernel5Ideal : Cert.Kernel5Ideal.Facts] [hPre_finite_scores0 : Cert.Pre_finite_scores0.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scores0 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_scores0 [hReference5Ideal : Cert.Reference5Ideal.Facts] [hPre_finite_scores0 : Cert.Pre_finite_scores0.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scores0 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)) (v5 : (c : Dev Cert.Kernel2Ideal.nD) → Buf (Elt Ideal) ((c.tc : Thread Cert.Kernel2Ideal.nD Cert.Kernel2Ideal.τ).loc Cert.Kernel2Ideal.main_v17_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_v17_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v72) = v2 c
          ∧ r.2.mem ((c.tc : Thread Cert.Reference2Ideal.nD Cert.Reference2Ideal.τ).loc Cert.Reference2Ideal.main_v75) = v3 c
          ∧ r.2.mem ((c.tc : Thread Cert.Reference2Ideal.nD Cert.Reference2Ideal.τ).loc Cert.Reference2Ideal.main_v79) = v4 c
          ∧ r.2.mem ((c.tc : Thread Cert.Reference2Ideal.nD Cert.Reference2Ideal.τ).loc Cert.Reference2Ideal.main_v82) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v47_0)) (v1 : (c : Dev Cert.Kernel4Ideal.nD) → Buf (Elt Ideal) ((c.tc : Thread Cert.Kernel4Ideal.nD Cert.Kernel4Ideal.τ).loc Cert.Kernel4Ideal.main_v47_1)) (v2 : (c : Dev Cert.Kernel4Ideal.nD) → Buf (Elt Ideal) ((c.tc : Thread Cert.Kernel4Ideal.nD Cert.Kernel4Ideal.τ).loc Cert.Kernel4Ideal.main_v47_2)) (v3 : (c : Dev Cert.Kernel4Ideal.nD) → Buf (Elt Ideal) ((c.tc : Thread Cert.Kernel4Ideal.nD Cert.Kernel4Ideal.τ).loc Cert.Kernel4Ideal.main_v47_3)) (v4 : (c : Dev Cert.Kernel4Ideal.nD) → Buf (Elt Ideal) ((c.tc : Thread Cert.Kernel4Ideal.nD Cert.Kernel4Ideal.τ).loc Cert.Kernel4Ideal.main_v47_4)) (v5 : (c : Dev Cert.Kernel4Ideal.nD) → Buf (Elt Ideal) ((c.tc : Thread Cert.Kernel4Ideal.nD Cert.Kernel4Ideal.τ).loc Cert.Kernel4Ideal.main_v47_5)) (v6 : (c : Dev Cert.Kernel4Ideal.nD) → Buf (Elt Ideal) ((c.tc : Thread Cert.Kernel4Ideal.nD Cert.Kernel4Ideal.τ).loc Cert.Kernel4Ideal.main_v47_6)) (v7 : (c : Dev Cert.Kernel4Ideal.nD) → Buf (Elt Ideal) ((c.tc : Thread Cert.Kernel4Ideal.nD Cert.Kernel4Ideal.τ).loc Cert.Kernel4Ideal.main_v47_7)) (v8 : (c : Dev Cert.Kernel4Ideal.nD) → Buf (Elt Ideal) ((c.tc : Thread Cert.Kernel4Ideal.nD Cert.Kernel4Ideal.τ).loc Cert.Kernel4Ideal.main_v47_8)) (v9 : (c : Dev Cert.Kernel4Ideal.nD) → Buf (Elt Ideal) ((c.tc : Thread Cert.Kernel4Ideal.nD Cert.Kernel4Ideal.τ).loc Cert.Kernel4Ideal.main_v47_9)) (v10 : (c : Dev Cert.Kernel4Ideal.nD) → Buf (Elt Ideal) ((c.tc : Thread Cert.Kernel4Ideal.nD Cert.Kernel4Ideal.τ).loc Cert.Kernel4Ideal.main_v47_10)) (v11 : (c : Dev Cert.Kernel4Ideal.nD) → Buf (Elt Ideal) ((c.tc : Thread Cert.Kernel4Ideal.nD Cert.Kernel4Ideal.τ).loc Cert.Kernel4Ideal.main_v47_11)) (v12 : (c : Dev Cert.Kernel4Ideal.nD) → Buf (Elt Ideal) ((c.tc : Thread Cert.Kernel4Ideal.nD Cert.Kernel4Ideal.τ).loc Cert.Kernel4Ideal.main_v47_12)) (v13 : (c : Dev Cert.Kernel4Ideal.nD) → Buf (Elt Ideal) ((c.tc : Thread Cert.Kernel4Ideal.nD Cert.Kernel4Ideal.τ).loc Cert.Kernel4Ideal.main_v47_13)) (v14 : (c : Dev Cert.Kernel4Ideal.nD) → Buf (Elt Ideal) ((c.tc : Thread Cert.Kernel4Ideal.nD Cert.Kernel4Ideal.τ).loc Cert.Kernel4Ideal.main_v47_14)) (v15 : (c : Dev Cert.Kernel4Ideal.nD) → Buf (Elt Ideal) ((c.tc : Thread Cert.Kernel4Ideal.nD Cert.Kernel4Ideal.τ).loc Cert.Kernel4Ideal.main_v47_15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v47_0) = v0 c
          ∧ r.2.mem ((c.tc : Thread Cert.Kernel4Ideal.nD Cert.Kernel4Ideal.τ).loc Cert.Kernel4Ideal.main_v47_1) = v1 c
          ∧ r.2.mem ((c.tc : Thread Cert.Kernel4Ideal.nD Cert.Kernel4Ideal.τ).loc Cert.Kernel4Ideal.main_v47_2) = v2 c
          ∧ r.2.mem ((c.tc : Thread Cert.Kernel4Ideal.nD Cert.Kernel4Ideal.τ).loc Cert.Kernel4Ideal.main_v47_3) = v3 c
          ∧ r.2.mem ((c.tc : Thread Cert.Kernel4Ideal.nD Cert.Kernel4Ideal.τ).loc Cert.Kernel4Ideal.main_v47_4) = v4 c
          ∧ r.2.mem ((c.tc : Thread Cert.Kernel4Ideal.nD Cert.Kernel4Ideal.τ).loc Cert.Kernel4Ideal.main_v47_5) = v5 c
          ∧ r.2.mem ((c.tc : Thread Cert.Kernel4Ideal.nD Cert.Kernel4Ideal.τ).loc Cert.Kernel4Ideal.main_v47_6) = v6 c
          ∧ r.2.mem ((c.tc : Thread Cert.Kernel4Ideal.nD Cert.Kernel4Ideal.τ).loc Cert.Kernel4Ideal.main_v47_7) = v7 c
          ∧ r.2.mem ((c.tc : Thread Cert.Kernel4Ideal.nD Cert.Kernel4Ideal.τ).loc Cert.Kernel4Ideal.main_v47_8) = v8 c
          ∧ r.2.mem ((c.tc : Thread Cert.Kernel4Ideal.nD Cert.Kernel4Ideal.τ).loc Cert.Kernel4Ideal.main_v47_9) = v9 c
          ∧ r.2.mem ((c.tc : Thread Cert.Kernel4Ideal.nD Cert.Kernel4Ideal.τ).loc Cert.Kernel4Ideal.main_v47_10) = v10 c
          ∧ r.2.mem ((c.tc : Thread Cert.Kernel4Ideal.nD Cert.Kernel4Ideal.τ).loc Cert.Kernel4Ideal.main_v47_11) = v11 c
          ∧ r.2.mem ((c.tc : Thread Cert.Kernel4Ideal.nD Cert.Kernel4Ideal.τ).loc Cert.Kernel4Ideal.main_v47_12) = v12 c
          ∧ r.2.mem ((c.tc : Thread Cert.Kernel4Ideal.nD Cert.Kernel4Ideal.τ).loc Cert.Kernel4Ideal.main_v47_13) = v13 c
          ∧ r.2.mem ((c.tc : Thread Cert.Kernel4Ideal.nD Cert.Kernel4Ideal.τ).loc Cert.Kernel4Ideal.main_v47_14) = v14 c
          ∧ r.2.mem ((c.tc : Thread Cert.Kernel4Ideal.nD Cert.Kernel4Ideal.τ).loc Cert.Kernel4Ideal.main_v47_15) = v15 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v107) = v0 c
          ∧ r.2.mem ((c.tc : Thread Cert.Reference4Ideal.nD Cert.Reference4Ideal.τ).loc Cert.Reference4Ideal.main_v126) = v1 c
          ∧ r.2.mem ((c.tc : Thread Cert.Reference4Ideal.nD Cert.Reference4Ideal.τ).loc Cert.Reference4Ideal.main_v128) = v2 c
          ∧ r.2.mem ((c.tc : Thread Cert.Reference4Ideal.nD Cert.Reference4Ideal.τ).loc Cert.Reference4Ideal.main_v147) = v3 c
          ∧ r.2.mem ((c.tc : Thread Cert.Reference4Ideal.nD Cert.Reference4Ideal.τ).loc Cert.Reference4Ideal.main_v149) = v4 c
          ∧ r.2.mem ((c.tc : Thread Cert.Reference4Ideal.nD Cert.Reference4Ideal.τ).loc Cert.Reference4Ideal.main_v168) = v5 c
          ∧ r.2.mem ((c.tc : Thread Cert.Reference4Ideal.nD Cert.Reference4Ideal.τ).loc Cert.Reference4Ideal.main_v170) = v6 c
          ∧ r.2.mem ((c.tc : Thread Cert.Reference4Ideal.nD Cert.Reference4Ideal.τ).loc Cert.Reference4Ideal.main_v60) = v7 c
          ∧ r.2.mem ((c.tc : Thread Cert.Reference4Ideal.nD Cert.Reference4Ideal.τ).loc Cert.Reference4Ideal.main_v176) = v8 c
          ∧ r.2.mem ((c.tc : Thread Cert.Reference4Ideal.nD Cert.Reference4Ideal.τ).loc Cert.Reference4Ideal.main_v197) = v9 c
          ∧ r.2.mem ((c.tc : Thread Cert.Reference4Ideal.nD Cert.Reference4Ideal.τ).loc Cert.Reference4Ideal.main_v198) = v10 c
          ∧ r.2.mem ((c.tc : Thread Cert.Reference4Ideal.nD Cert.Reference4Ideal.τ).loc Cert.Reference4Ideal.main_v83) = v11 c
          ∧ r.2.mem ((c.tc : Thread Cert.Reference4Ideal.nD Cert.Reference4Ideal.τ).loc Cert.Reference4Ideal.main_v200) = v12 c
          ∧ r.2.mem ((c.tc : Thread Cert.Reference4Ideal.nD Cert.Reference4Ideal.τ).loc Cert.Reference4Ideal.main_v203) = v13 c
          ∧ r.2.mem ((c.tc : Thread Cert.Reference4Ideal.nD Cert.Reference4Ideal.τ).loc Cert.Reference4Ideal.main_v207) = v14 c
          ∧ r.2.mem ((c.tc : Thread Cert.Reference4Ideal.nD Cert.Reference4Ideal.τ).loc Cert.Reference4Ideal.main_v210) = v15 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_scores0 [hKernel5Ideal : Cert.Kernel5Ideal.Facts] [hReference5Ideal : Cert.Reference5Ideal.Facts] [hPre_finite_scores0 : Cert.Pre_finite_scores0.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scores0 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_scores0 : Cert.Pre_finite_scores0.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_scores0 (hKernel5Ideal := hKernel5Ideal) (hPre_finite_scores0 := hPre_finite_scores0)
    ∧ quiescent_Reference5Ideal (hReference5Ideal := hReference5Ideal)
    ∧ quiescent_Reference5Ideal_pre_finite_scores0 (hReference5Ideal := hReference5Ideal) (hPre_finite_scores0 := hPre_finite_scores0)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_scores0 (hKernel5Ideal := hKernel5Ideal) (hReference5Ideal := hReference5Ideal) (hPre_finite_scores0 := hPre_finite_scores0)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S16384x2048 : Shape := ⟨2, ![16384, 2048]⟩
abbrev S16384x256 : Shape := ⟨2, ![16384, 256]⟩
abbrev S256x512 : Shape := ⟨2, ![256, 512]⟩
abbrev S2304x1024 : Shape := ⟨2, ![2304, 1024]⟩
abbrev S16384x1024 : Shape := ⟨2, ![16384, 1024]⟩
abbrev S1024 : Shape := ⟨1, ![1024]⟩
abbrev S_ : Shape := ⟨0, ![]⟩
abbrev S256x256 : Shape := ⟨2, ![256, 256]⟩

class Facts : Prop where
  bitsLt_bf16_f32 : FTy.bits .bf16 < FTy.bits .f32
  bcast_S_S16384x256 : S_.BroadcastsInDim S16384x256 (![] : Fin 0 → Fin S16384x256.rank)
  reducesTo_S16384x256_S_d0_1 : S16384x256.ReducesTo [0, 1] S_
  h_S_ : 0 < S_.numel
  slices_S256x512_S256x256_0_0 : S256x512.Slices ![0, 0] S256x256
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16384x2048 .bf16) (main_arg1 : FVec F S16384x256 .bf16) (main_arg2 : FVec F S16384x256 .bf16) (main_arg3 : FVec F S256x512 .bf16) (main_arg4 : FVec F S2304x1024 .f32) (main_arg5 : FVec F S16384x1024 .f32) (main_arg6 : FVec F S1024 .f32) : IVec S_ 1 :=
  let main_v0 : FVec F S16384x256 .f32 := (extf .f32 · bitsLt_bf16_f32) main_arg1
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_c : IVec S_ 1 := constantI S_ 1 1#1
  let main_v4 : IVec S_ 1 := (fun x v => Host.reduce IntOp.andi x v reducesTo_S16384x256_S_d0_1 h_S_) main_v3 main_c
  let main_v5 : FVec F S256x256 .bf16 := (extractStridedSlice S256x256 ![0, 0] · slices_S256x512_S256x256_0_0) main_arg3
  let main_v6 : FVec F S256x256 .f32 := (extf .f32 · bitsLt_bf16_f32) main_v5
  let main_v7 : FVec F S256x256 .f32 := Host.absf main_v6
  let main_cst_0 : FVec F S_ .f32 := constant S_ .f32 0x7F800000#32
  let main_v8 : FVec F S256x256 .f32 := broadcastInDim S256x256 ![] bcast_S_S256x256 main_cst_0
  let main_v9 : IVec S256x256 1 := cmpf .olt main_v7 main_v8
  let main_c_1 : IVec S_ 1 := constantI S_ 1 1#1
  let main_v10 : IVec S_ 1 := (fun x v => Host.reduce IntOp.andi x v reducesTo_S256x256_S_d0_1 h_S_) main_v9 main_c_1
  let main_v11 : IVec S_ 1 := andi main_v4 main_v10
  main_v11
-- ==== Pre_finite_scores0.lean ====
abbrev S16384x512 : Shape := ⟨2, ![16384, 512]⟩
abbrev S16384x256 : Shape := ⟨2, ![16384, 256]⟩
abbrev S256x512 : Shape := ⟨2, ![256, 512]⟩
abbrev S1280x1024 : Shape := ⟨2, ![1280, 1024]⟩
abbrev S16384x1024 : Shape := ⟨2, ![16384, 1024]⟩
abbrev S_ : Shape := ⟨0, ![]⟩
abbrev S256x256 : Shape := ⟨2, ![256, 256]⟩

class Facts : Prop where
  bitsLt_bf16_f32 : FTy.bits .bf16 < FTy.bits .f32
  bcast_S_S16384x256 : S_.BroadcastsInDim S16384x256 (![] : Fin 0 → Fin S16384x256.rank)
  reducesTo_S16384x256_S_d0_1 : S16384x256.ReducesTo [0, 1] S_
  h_S_ : 0 < S_.numel
  slices_S256x512_S256x256_0_0 : S256x512.Slices ![0, 0] S256x256
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16384x512 .bf16) (main_arg1 : FVec F S16384x512 .bf16) (main_arg2 : FVec F S16384x256 .bf16) (main_arg3 : FVec F S16384x256 .bf16) (main_arg4 : FVec F S256x512 .bf16) (main_arg5 : FVec F S1280x1024 .f32) (main_arg6 : FVec F S16384x1024 .f32) : IVec S_ 1 :=
  let main_v0 : FVec F S16384x256 .f32 := (extf .f32 · bitsLt_bf16_f32) main_arg2
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_c : IVec S_ 1 := constantI S_ 1 1#1
  let main_v4 : IVec S_ 1 := (fun x v => Host.reduce IntOp.andi x v reducesTo_S16384x256_S_d0_1 h_S_) main_v3 main_c
  let main_v5 : FVec F S256x256 .bf16 := (extractStridedSlice S256x256 ![0, 0] · slices_S256x512_S256x256_0_0) main_arg4
  let main_v6 : FVec F S256x256 .f32 := (extf .f32 · bitsLt_bf16_f32) main_v5
  let main_v7 : FVec F S256x256 .f32 := Host.absf main_v6
  let main_cst_0 : FVec F S_ .f32 := constant S_ .f32 0x7F800000#32
  let main_v8 : FVec F S256x256 .f32 := broadcastInDim S256x256 ![] bcast_S_S256x256 main_cst_0
  let main_v9 : IVec S256x256 1 := cmpf .olt main_v7 main_v8
  let main_c_1 : IVec S_ 1 := constantI S_ 1 1#1
  let main_v10 : IVec S_ 1 := (fun x v => Host.reduce IntOp.andi x v reducesTo_S256x256_S_d0_1 h_S_) main_v9 main_c_1
  let main_v11 : IVec S_ 1 := andi main_v4 main_v10
  main_v11
-- ==== Kernel.lean ====
abbrev S16384x1024 : Shape := ⟨2, ![16384, 1024]⟩
abbrev S16384x2048 : Shape := ⟨2, ![16384, 2048]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S128x1024 : Shape := ⟨2, ![128, 1024]⟩
abbrev S128x2048 : Shape := ⟨2, ![128, 2048]⟩
abbrev S4x256x512 : Shape := ⟨3, ![4, 256, 512]⟩
abbrev S128x256 : Shape := ⟨2, ![128, 256]⟩
abbrev S128x512 : Shape := ⟨2, ![128, 512]⟩
abbrev S1x256x512 : Shape := ⟨3, ![1, 256, 512]⟩
abbrev S256x512 : Shape := ⟨2, ![256, 512]⟩
abbrev S1x128x1 : Shape := ⟨3, ![1, 128, 1]⟩
abbrev S1x1x1 : Shape := ⟨3, ![1, 1, 1]⟩
abbrev S1x1 : Shape := ⟨2, ![1, 1]⟩

abbrev nBuf : Space → Nat
  | .hbm => 64
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x2048, .bf16⟩
  | .hbm, ⟨3, _⟩ => ⟨S16384x2048, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S128, .f32⟩
  | .hbm, ⟨16, _⟩ => ⟨S128x1, .f32⟩
  | .hbm, ⟨17, _⟩ => ⟨S1x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .i1⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S1x128x128, .f32⟩
  | .hbm, ⟨28, _⟩ => ⟨S4x1x1, .f32⟩
  | .hbm, ⟨29, _⟩ => ⟨S4x128x128, .f32⟩
  | .hbm, ⟨30, _⟩ => ⟨S4x128x128, .f32⟩
  | .hbm, ⟨31, _⟩ => ⟨S4x128x128, .f32⟩
  | .hbm, ⟨32, _⟩ => ⟨S4x128x128, .f32⟩
  | .hbm, ⟨33, _⟩ => ⟨S_, .f32⟩
  | .hbm, ⟨34, _⟩ => ⟨S_, .f32⟩
  | .hbm, ⟨35, _⟩ => ⟨S4x128x128, .i1⟩
  | .hbm, ⟨36, _⟩ => ⟨S4x128x128, .f32⟩
  | .hbm, ⟨37, _⟩ => ⟨S4x128x128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S4x1, .f32⟩
  | .hbm, ⟨43, _⟩ => ⟨S4x128, .f32⟩
  | .hbm, ⟨44, _⟩ => ⟨S4x128, .f32⟩
  | .hbm, ⟨45, _⟩ => ⟨S4x128, .f32⟩
  | .hbm, ⟨46, _⟩ => ⟨S4x128, .f32⟩
  | .hbm, ⟨47, _⟩ => ⟨S4x128x1, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S4x1, .f32⟩
  | .hbm, ⟨53, _⟩ => ⟨S4x128, .f32⟩
  | .hbm, ⟨54, _⟩ => ⟨S4x128, .f32⟩
  | .hbm, ⟨55, _⟩ => ⟨S4x128, .f32⟩
  | .hbm, ⟨56, _⟩ => ⟨S4x128, .f32⟩
  | .hbm, ⟨57, _⟩ => ⟨S4x128x1, .f32⟩
  | .hbm, ⟨58, _⟩ => ⟨S_, .f32⟩
  | .hbm, ⟨59, _⟩ => ⟨S4, .f32⟩
  | .hbm, ⟨60, _⟩ => ⟨S4, .f32⟩
  | .hbm, ⟨61, _⟩ => ⟨S4, .f32⟩
  | .hbm, ⟨62, _⟩ => ⟨S4x1x1, .f32⟩
  | .hbm, ⟨63, _⟩ => ⟨S16384x2048, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .f32⟩
  | .local _ .vmem, ⟨3, _⟩ => ⟨S128x1024, .f32⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S4x128x128, .f32⟩
  | .local _ .vmem, ⟨9, _⟩ => ⟨S4x128x1, .f32⟩
  | .local _ .vmem, ⟨10, _⟩ => ⟨S4x128x1, .f32⟩
  | .local _ .vmem, ⟨11, _⟩ => ⟨S4x1x1, .f32⟩
  | .local _ .vmem, ⟨12, _⟩ => ⟨S128x2048, .bf16⟩
  | .local _ .vmem, ⟨13, _⟩ => ⟨S128x2048, .bf16⟩
  | .local _ .vmem, ⟨14, _⟩ => ⟨S4x256x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x1024 : Shape := ⟨2, ![16384, 1024]⟩
abbrev S16384x2048 : Shape := ⟨2, ![16384, 2048]⟩
abbrev S1x16384x4x256 : Shape := ⟨4, ![1, 16384, 4, 256]⟩
abbrev S1x16384x4x512 : Shape := ⟨4, ![1, 16384, 4, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S1x4x256x512 : Shape := ⟨4, ![1, 4, 256, 512]⟩
abbrev S1x128x128x4x256 : Shape := ⟨5, ![1, 128, 128, 4, 256]⟩
abbrev S128x1x4x128x256 : Shape := ⟨5, ![128, 1, 4, 128, 256]⟩
abbrev S1x128x128x4x512 : Shape := ⟨5, ![1, 128, 128, 4, 512]⟩
abbrev S128x1x4x128x512 : Shape := ⟨5, ![128, 1, 4, 128, 512]⟩
abbrev S1x1x4x128x256 : Shape := ⟨5, ![1, 1, 4, 128, 256]⟩
abbrev S1x4x128x256 : Shape := ⟨4, ![1, 4, 128, 256]⟩
abbrev S1x1x4x128x512 : Shape := ⟨5, ![1, 1, 4, 128, 512]⟩
abbrev S1x4x128x512 : Shape := ⟨4, ![1, 4, 128, 512]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S1x16384x4 : Shape := ⟨3, ![1, 16384, 4]⟩
abbrev S1x16384x4x1 : Shape := ⟨4, ![1, 16384, 4, 1]⟩

abbrev nBuf : Space → Nat
  | .hbm => 160
  | .vmem => 0
  | .smem => 0
  | _ => 0

abbrev hbmTy0_0 (i : Nat) : BufTy := match i % 128 with
  | 0 => ⟨S16384x1024, .bf16⟩
  | 1 => ⟨S16384x1024, .f32⟩
  | 2 => ⟨S16384x2048, .bf16⟩
  | 3 => ⟨S16384x2048, .bf16⟩
  | 4 => ⟨S16384x1024, .f32⟩
  | 5 => ⟨S1x16384x4x256, .f32⟩
  | 6 => ⟨S1x16384x4x256, .f32⟩
  | 7 => ⟨S16384x2048, .f32⟩
  | 8 => ⟨S1x16384x4x512, .f32⟩
  | 9 => ⟨S4, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S4, .f32⟩
  | 20 => ⟨S128, .f32⟩
  | 21 => ⟨S128x1, .f32⟩
  | 22 => ⟨S1x128, .f32⟩
  | 23 => ⟨S128x128, .f32⟩
  | 24 => ⟨S128x128, .f32⟩
  | 25 => ⟨S128x128, .f32⟩
  | 26 => ⟨S_, .f32⟩
  | 27 => ⟨S128x128, .f32⟩
  | 28 => ⟨S128x128, .i1⟩
  | 29 => ⟨S_, .f32⟩
  | 30 => ⟨S128x128, .f32⟩
  | 31 => ⟨S128x128, .f32⟩
  | 32 => ⟨S1x128x128, .f32⟩
  | 33 => ⟨S4x1x1, .f32⟩
  | 34 => ⟨S4x128x128, .f32⟩
  | 35 => ⟨S4x128x128, .f32⟩
  | 36 => ⟨S4x128x128, .f32⟩
  | 37 => ⟨S4x128x128, .f32⟩
  | 38 => ⟨S_, .f32⟩
  | 39 => ⟨S_, .f32⟩
  | 40 => ⟨S4x128x128, .i1⟩
  | 41 => ⟨S4x128x128, .f32⟩
  | 42 => ⟨S4x128x128, .f32⟩
  | 43 => ⟨S_, .f32⟩
  | 44 => ⟨S128, .f32⟩
  | 45 => ⟨S128, .f32⟩
  | 46 => ⟨S1x128, .f32⟩
  | 47 => ⟨S4x1, .f32⟩
  | 48 => ⟨S4x128, .f32⟩
  | 49 => ⟨S4x128, .f32⟩
  | 50 => ⟨S4x128, .f32⟩
  | 51 => ⟨S4x128, .f32⟩
  | 52 => ⟨S_, .f32⟩
  | 53 => ⟨S128, .f32⟩
  | 54 => ⟨S128, .f32⟩
  | 55 => ⟨S1x128, .f32⟩
  | 56 => ⟨S4x1, .f32⟩
  | 57 => ⟨S4x128, .f32⟩
  | 58 => ⟨S4x128, .f32⟩
  | 59 => ⟨S4x128, .f32⟩
  | 60 => ⟨S4x128, .f32⟩
  | 61 => ⟨S_, .f32⟩
  | 62 => ⟨S4, .f32⟩
  | 63 => ⟨S4, .f32⟩
  | 64 => ⟨S4, .f32⟩
  | 65 => ⟨S_, .f32⟩
  | 66 => ⟨S1x4x256x512, .f32⟩
  | 67 => ⟨S1x128x128x4x256, .f32⟩
  | 68 => ⟨S128x1x4x128x256, .f32⟩
  | 69 => ⟨S1x128x128x4x256, .f32⟩
  | 70 => ⟨S128x1x4x128x256, .f32⟩
  | 71 => ⟨S1x128x128x4x512, .f32⟩
  | 72 => ⟨S128x1x4x128x512, .f32⟩
  | 73 => ⟨S_, .f32⟩
  | 74 => ⟨S128x1x4x128x512, .f32⟩
  | 75 => ⟨S_, .i32⟩
  | 76 => ⟨S128x1x4x128x256, .f32⟩
  | 77 => ⟨S128x1x4x128x256, .f32⟩
  | 78 => ⟨S128x1x4x128x512, .f32⟩
  | 79 => ⟨S4x128x128, .f32⟩
  | 80 => ⟨S4x128, .f32⟩
  | 81 => ⟨S4, .f32⟩
  | 82 => ⟨S4x128, .f32⟩
  | 83 => ⟨S_, .i32⟩
  | 84 => ⟨S1x4x256x512, .f32⟩
  | 85 => ⟨S128x1x4x128x512, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x1x4x128x256, .f32⟩
  | 93 => ⟨S1x4x128x256, .f32⟩
  | 94 => ⟨S_, .i32⟩
  | 95 => ⟨S_, .i32⟩
  | 96 => ⟨S_, .i32⟩
  | 97 => ⟨S_, .i32⟩
  | 98 => ⟨S1x1x4x128x256, .f32⟩
  | 99 => ⟨S1x4x128x256, .f32⟩
  | 100 => ⟨S_, .i32⟩
  | 101 => ⟨S_, .i32⟩
  | 102 => ⟨S_, .i32⟩
  | 103 => ⟨S_, .i32⟩
  | 104 => ⟨S1x1x4x128x512, .f32⟩
  | 105 => ⟨S1x4x128x512, .f32⟩
  | 106 => ⟨S1x4x128x128, .f32⟩
  | 107 => ⟨S1x4x128x128, .f32⟩
  | 108 => ⟨S1x4x128x128, .f32⟩
  | 109 => ⟨S1x4x128x512, .f32⟩
  | 110 => ⟨S1x4x128x512, .f32⟩
  | 111 => ⟨S1x4x128x1, .f32⟩
  | 112 => ⟨S1x4x128x512, .f32⟩
  | 113 => ⟨S1x4x128x512, .f32⟩
  | 114 => ⟨S1x4x128x512, .f32⟩
  | 115 => ⟨S1x4x1x1, .f32⟩
  | 116 => ⟨S1x4x256x512, .f32⟩
  | 117 => ⟨S1x4x256x512, .f32⟩
  | 118 => ⟨S1x4x128x1, .f32⟩
  | 119 => ⟨S1x4x128x256, .f32⟩
  | 120 => ⟨S1x4x128x256, .f32⟩
  | 121 => ⟨S1x4x256x512, .f32⟩
  | 122 => ⟨S1x4x256x512, .f32⟩
  | 123 => ⟨S1x1x4x128x512, .f32⟩
  | 124 => ⟨S_, .i32⟩
  | 125 => ⟨S_, .i32⟩
  | 126 => ⟨S_, .i32⟩
  | 127 => ⟨S_, .i32⟩
  | _ => ⟨S16384x1024, .bf16⟩

abbrev hbmTy0_1 (i : Nat) : BufTy := match i % 128 with
  | 0 => ⟨S128x1x4x128x512, .f32⟩
  | 1 => ⟨S_, .i32⟩
  | 2 => ⟨S_, .i32⟩
  | 3 => ⟨S1x128x128x4x512, .f32⟩
  | 4 => ⟨S1x16384x4x512, .f32⟩
  | 5 => ⟨S_, .f32⟩
  | 6 => ⟨S1x16384x4, .f32⟩
  | 7 => ⟨S1x16384x4x1, .f32⟩
  | 8 => ⟨S_, .f32⟩
  | 9 => ⟨S1x16384x4x1, .f32⟩
  | 10 => ⟨S1x16384x4x1, .f32⟩
  | 11 => ⟨S1x16384x4x512, .f32⟩
  | 12 => ⟨S1x16384x4x512, .f32⟩
  | 13 => ⟨S1x16384x4x512, .f32⟩
  | 14 => ⟨S_, .f32⟩
  | 15 => ⟨S1x16384x4, .f32⟩
  | 16 => ⟨S1x16384x4x1, .f32⟩
  | 17 => ⟨S_, .f32⟩
  | 18 => ⟨S1x16384x4x1, .f32⟩
  | 19 => ⟨S1x16384x4x1, .f32⟩
  | 20 => ⟨S1x16384x4x512, .f32⟩
  | 21 => ⟨S1x16384x4x512, .f32⟩
  | 22 => ⟨S_, .f32⟩
  | 23 => ⟨S1x16384x4x1, .f32⟩
  | 24 => ⟨S1x16384x4x1, .f32⟩
  | 25 => ⟨S1x16384x4x1, .f32⟩
  | 26 => ⟨S1x16384x4x512, .f32⟩
  | 27 => ⟨S1x16384x4x512, .f32⟩
  | 28 => ⟨S16384x2048, .f32⟩
  | 29 => ⟨S16384x2048, .f32⟩
  | 30 => ⟨S16384x2048, .f32⟩
  | 31 => ⟨S16384x2048, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_c : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_v57_3 : Ref sig .tc := ⟨.hbm, 79, rfl⟩
abbrev main_v57_4 : Ref sig .tc := ⟨.hbm, 80, rfl⟩
abbrev main_v57_5 : Ref sig .tc := ⟨.hbm, 81, rfl⟩
abbrev main_v57_6 : Ref sig .tc := ⟨.hbm, 82, rfl⟩
abbrev main_v57_7 : Ref sig .tc := ⟨.hbm, 83, rfl⟩
abbrev main_v57_8 : Ref sig .tc := ⟨.hbm, 84, rfl⟩
abbrev main_v57_9 : Ref sig .tc := ⟨.hbm, 85, rfl⟩
abbrev main_while0c_c_24 : Ref sig .tc := ⟨.hbm, 86, rfl⟩
abbrev main_while0c_v82 : Ref sig .tc := ⟨.hbm, 87, rfl⟩
abbrev main_while0b_call1_c : Ref sig .tc := ⟨.hbm, 88, rfl⟩
abbrev main_while0b_call1_c_0 : Ref sig .tc := ⟨.hbm, 89, rfl⟩
abbrev main_while0b_call1_c_1 : Ref sig .tc := ⟨.hbm, 90, rfl⟩
abbrev main_while0b_call1_c_2 : Ref sig .tc := ⟨.hbm, 91, rfl⟩
abbrev main_while0b_call1_v0 : Ref sig .tc := ⟨.hbm, 92, rfl⟩
abbrev main_while0b_v82 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_c_1 : Ref sig .tc := ⟨.hbm, 96, rfl⟩
abbrev main_while0b_call2_c_2 : Ref sig .tc := ⟨.hbm, 97, rfl⟩
abbrev main_while0b_call2_v0 : Ref sig .tc := ⟨.hbm, 98, rfl⟩
abbrev main_while0b_v83 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_call3_c_1 : Ref sig .tc := ⟨.hbm, 102, rfl⟩
abbrev main_while0b_call3_c_2 : Ref sig .tc := ⟨.hbm, 103, rfl⟩
abbrev main_while0b_call3_v0 : Ref sig .tc := ⟨.hbm, 104, rfl⟩
abbrev main_while0b_v84 : Ref sig .tc := ⟨.hbm, 105, rfl⟩
abbrev main_while0b_v85 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_v94 : Ref sig .tc := ⟨.hbm, 115, rfl⟩
abbrev main_while0b_v95 : Ref sig .tc := ⟨.hbm, 116, rfl⟩
abbrev main_while0b_v96 : Ref sig .tc := ⟨.hbm, 117, rfl⟩
abbrev main_while0b_v97 : Ref sig .tc := ⟨.hbm, 118, rfl⟩
abbrev main_while0b_v98 : Ref sig .tc := ⟨.hbm, 119, rfl⟩
abbrev main_while0b_v99 : Ref sig .tc := ⟨.hbm, 120, rfl⟩
abbrev main_while0b_v100 : Ref sig .tc := ⟨.hbm, 121, rfl⟩
abbrev main_while0b_v101 : Ref sig .tc := ⟨.hbm, 122, rfl⟩
abbrev main_while0b_call4_v0 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_c_1 : Ref sig .tc := ⟨.hbm, 126, rfl⟩
abbrev main_while0b_call4_c_2 : Ref sig .tc := ⟨.hbm, 127, rfl⟩
abbrev main_while0b_v102 : Ref sig .tc := ⟨.hbm, 128, rfl⟩
abbrev main_while0b_c_24 : Ref sig .tc := ⟨.hbm, 129, rfl⟩
abbrev main_while0b_v103 : Ref sig .tc := ⟨.hbm, 130, rfl⟩
abbrev main_v58 : Ref sig .tc := ⟨.hbm, 131, rfl⟩
abbrev main_v59 : Ref sig .tc := ⟨.hbm, 132, rfl⟩
abbrev main_cst_10 : Ref sig .tc := ⟨.hbm, 133, rfl⟩
abbrev main_v60 : Ref sig .tc := ⟨.hbm, 134, rfl⟩
abbrev main_v61 : Ref sig .tc := ⟨.hbm, 135, rfl⟩
abbrev main_cst_11 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_12 : Ref sig .tc := ⟨.hbm, 142, rfl⟩
abbrev main_v67 : Ref sig .tc := ⟨.hbm, 143, rfl⟩
abbrev main_v68 : Ref sig .tc := ⟨.hbm, 144, rfl⟩
abbrev main_cst_13 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_14 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x1024 : Shape := ⟨2, ![16384, 1024]⟩
abbrev S1x16384 : Shape := ⟨2, ![1, 16384]⟩
abbrev S1024 : Shape := ⟨1, ![1024]⟩
abbrev S1024x6656 : Shape := ⟨2, ![1024, 6656]⟩
abbrev S16384 : Shape := ⟨1, ![16384]⟩
abbrev S_ : Shape := ⟨0, ![]⟩
abbrev S127 : Shape := ⟨1, ![127]⟩
abbrev S1 : Shape := ⟨1, ![1]⟩
abbrev S128 : Shape := ⟨1, ![128]⟩
abbrev S16384x1 : Shape := ⟨2, ![16384, 1]⟩
abbrev S1x128 : Shape := ⟨2, ![1, 128]⟩
abbrev S16384x128 : Shape := ⟨2, ![16384, 128]⟩
abbrev S1x1024 : Shape := ⟨2, ![1, 1024]⟩
abbrev S16384x2048 : Shape := ⟨2, ![16384, 2048]⟩
abbrev S16384x256 : Shape := ⟨2, ![16384, 256]⟩
abbrev S256x1024 : Shape := ⟨2, ![256, 1024]⟩
abbrev S256x128 : Shape := ⟨2, ![256, 128]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x256 : Shape := ⟨2, ![1024, 256]⟩

abbrev nBuf : Space → Nat
  | .hbm => 52
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1x16384, .i32⟩
  | .hbm, ⟨2, _⟩ => ⟨S1024, .f32⟩
  | .hbm, ⟨3, _⟩ => ⟨S1024x6656, .f32⟩
  | .hbm, ⟨4, _⟩ => ⟨S16384, .i32⟩
  | .hbm, ⟨5, _⟩ => ⟨S16384, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S127, .f32⟩
  | .hbm, ⟨14, _⟩ => ⟨S_, .f32⟩
  | .hbm, ⟨15, _⟩ => ⟨S127, .f32⟩
  | .hbm, ⟨16, _⟩ => ⟨S127, .f32⟩
  | .hbm, ⟨17, _⟩ => ⟨S1, .f32⟩
  | .hbm, ⟨18, _⟩ => ⟨S_, .f32⟩
  | .hbm, ⟨19, _⟩ => ⟨S127, .f32⟩
  | .hbm, ⟨20, _⟩ => ⟨S127, .f32⟩
  | .hbm, ⟨21, _⟩ => ⟨S127, .f32⟩
  | .hbm, ⟨22, _⟩ => ⟨S127, .f32⟩
  | .hbm, ⟨23, _⟩ => ⟨S1, .f32⟩
  | .hbm, ⟨24, _⟩ => ⟨S127, .f32⟩
  | .hbm, ⟨25, _⟩ => ⟨S127, .f32⟩
  | .hbm, ⟨26, _⟩ => ⟨S127, .f32⟩
  | .hbm, ⟨27, _⟩ => ⟨S1, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S16384x1, .f32⟩
  | .hbm, ⟨36, _⟩ => ⟨S1x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S1x1024, .f32⟩
  | .hbm, ⟨43, _⟩ => ⟨S1024x6656, .bf16⟩
  | .hbm, ⟨44, _⟩ => ⟨S_, .f32⟩
  | .hbm, ⟨45, _⟩ => ⟨S1x128, .f32⟩
  | .hbm, ⟨46, _⟩ => ⟨S16384x1024, .bf16⟩
  | .hbm, ⟨47, _⟩ => ⟨S16384x1024, .f32⟩
  | .hbm, ⟨48, _⟩ => ⟨S16384x2048, .bf16⟩
  | .hbm, ⟨49, _⟩ => ⟨S16384x2048, .bf16⟩
  | .hbm, ⟨50, _⟩ => ⟨S16384x256, .bf16⟩
  | .hbm, ⟨51, _⟩ => ⟨S16384x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6656, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v2 : Ref sig .tc := ⟨.hbm, 28, rfl⟩
abbrev main_cst_1 : Ref sig .tc := ⟨.hbm, 29, rfl⟩
abbrev main_v3 : Ref sig .tc := ⟨.hbm, 30, rfl⟩
abbrev main_v4 : Ref sig .tc := ⟨.hbm, 31, rfl⟩
abbrev main_cst_2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17_0 : Ref sig .tc := ⟨.hbm, 46, rfl⟩
abbrev main_v17_1 : Ref sig .tc := ⟨.hbm, 47, rfl⟩
abbrev main_v17_2 : Ref sig .tc := ⟨.hbm, 48, rfl⟩
abbrev main_v17_3 : Ref sig .tc := ⟨.hbm, 49, rfl⟩
abbrev main_v17_4 : Ref sig .tc := ⟨.hbm, 50, rfl⟩
abbrev main_v17_5 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S1x16384 : Shape := ⟨2, ![1, 16384]⟩
abbrev S1024 : Shape := ⟨1, ![1024]⟩
abbrev S1024x6656 : Shape := ⟨2, ![1024, 6656]⟩
abbrev S_ : Shape := ⟨0, ![]⟩
abbrev S127 : Shape := ⟨1, ![127]⟩
abbrev S1 : Shape := ⟨1, ![1]⟩
abbrev S128 : Shape := ⟨1, ![128]⟩
abbrev S1x16384x1 : Shape := ⟨3, ![1, 16384, 1]⟩
abbrev S1x1x128 : Shape := ⟨3, ![1, 1, 128]⟩
abbrev S1x16384x128 : Shape := ⟨3, ![1, 16384, 128]⟩
abbrev S1x16384x1024 : Shape := ⟨3, ![1, 16384, 1024]⟩
abbrev S1x1x1024 : Shape := ⟨3, ![1, 1, 1024]⟩
abbrev S1x16384x6656 : Shape := ⟨3, ![1, 16384, 6656]⟩
abbrev S1x16384x2048 : Shape := ⟨3, ![1, 16384, 2048]⟩
abbrev S1x16384x256 : Shape := ⟨3, ![1, 16384, 256]⟩
abbrev S1x16384x4x256 : Shape := ⟨4, ![1, 16384, 4, 256]⟩
abbrev S1x16384x4x128 : Shape := ⟨4, ![1, 16384, 4, 128]⟩
abbrev S1x16384x1x128 : Shape := ⟨4, ![1, 16384, 1, 128]⟩
abbrev S16384x2048 : Shape := ⟨2, ![16384, 2048]⟩
abbrev S16384x256 : Shape := ⟨2, ![16384, 256]⟩

abbrev nBuf : Space → Nat
  | .hbm => 132
  | .vmem => 0
  | .smem => 0
  | _ => 0

abbrev hbmTy0_0 (i : Nat) : BufTy := match i % 128 with
  | 0 => ⟨S16384x1024, .f32⟩
  | 1 => ⟨S1x16384, .i32⟩
  | 2 => ⟨S1024, .f32⟩
  | 3 => ⟨S1024x6656, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S127, .f32⟩
  | 12 => ⟨S_, .f32⟩
  | 13 => ⟨S127, .f32⟩
  | 14 => ⟨S127, .f32⟩
  | 15 => ⟨S1, .f32⟩
  | 16 => ⟨S_, .f32⟩
  | 17 => ⟨S127, .f32⟩
  | 18 => ⟨S127, .f32⟩
  | 19 => ⟨S127, .f32⟩
  | 20 => ⟨S127, .f32⟩
  | 21 => ⟨S1, .f32⟩
  | 22 => ⟨S127, .f32⟩
  | 23 => ⟨S127, .f32⟩
  | 24 => ⟨S127, .f32⟩
  | 25 => ⟨S1, .f32⟩
  | 26 => ⟨S128, .f32⟩
  | 27 => ⟨S_, .f32⟩
  | 28 => ⟨S128, .f32⟩
  | 29 => ⟨S128, .f32⟩
  | 30 => ⟨S_, .f32⟩
  | 31 => ⟨S128, .f32⟩
  | 32 => ⟨S128, .f32⟩
  | 33 => ⟨S1x16384, .f32⟩
  | 34 => ⟨S1x16384x1, .f32⟩
  | 35 => ⟨S1x1x128, .f32⟩
  | 36 => ⟨S1x16384x128, .f32⟩
  | 37 => ⟨S1x16384x128, .f32⟩
  | 38 => ⟨S1x16384x128, .f32⟩
  | 39 => ⟨S1x16384x128, .f32⟩
  | 40 => ⟨S1x16384x128, .f32⟩
  | 41 => ⟨S1x16384x1024, .f32⟩
  | 42 => ⟨S1x16384x1024, .f32⟩
  | 43 => ⟨S_, .f32⟩
  | 44 => ⟨S1x16384, .f32⟩
  | 45 => ⟨S1x16384x1, .f32⟩
  | 46 => ⟨S_, .f32⟩
  | 47 => ⟨S1x16384x1, .f32⟩
  | 48 => ⟨S1x16384x1, .f32⟩
  | 49 => ⟨S_, .f32⟩
  | 50 => ⟨S1x16384x1, .f32⟩
  | 51 => ⟨S1x16384x1, .f32⟩
  | 52 => ⟨S1x16384x1, .f32⟩
  | 53 => ⟨S1x16384x1024, .f32⟩
  | 54 => ⟨S1x16384x1024, .f32⟩
  | 55 => ⟨S1x1x1024, .f32⟩
  | 56 => ⟨S1x16384x1024, .f32⟩
  | 57 => ⟨S1x16384x1024, .f32⟩
  | 58 => ⟨S1x16384x6656, .f32⟩
  | 59 => ⟨S1x16384x1024, .f32⟩
  | 60 => ⟨S1x16384x1024, .f32⟩
  | 61 => ⟨S1x16384x2048, .f32⟩
  | 62 => ⟨S1x16384x2048, .f32⟩
  | 63 => ⟨S1x16384x256, .f32⟩
  | 64 => ⟨S1x16384x256, .f32⟩
  | 65 => ⟨S1x16384x4x256, .f32⟩
  | 66 => ⟨S1x16384x4x128, .f32⟩
  | 67 => ⟨S1x16384x4x128, .f32⟩
  | 68 => ⟨S1x16384x1x128, .f32⟩
  | 69 => ⟨S1x16384x1x128, .f32⟩
  | 70 => ⟨S1x16384x4x128, .f32⟩
  | 71 => ⟨S1x16384x4x128, .f32⟩
  | 72 => ⟨S1x16384x4x128, .f32⟩
  | 73 => ⟨S1x16384x4x128, .f32⟩
  | 74 => ⟨S1x16384x4x128, .f32⟩
  | 75 => ⟨S1x16384x4x128, .f32⟩
  | 76 => ⟨S1x16384x4x128, .f32⟩
  | 77 => ⟨S1x16384x4x128, .f32⟩
  | 78 => ⟨S1x16384x4x128, .f32⟩
  | 79 => ⟨S1x16384x4x128, .f32⟩
  | 80 => ⟨S1x16384x4x256, .f32⟩
  | 81 => ⟨S1x16384x4x256, .f32⟩
  | 82 => ⟨S1x16384x4x128, .f32⟩
  | 83 => ⟨S1x16384x4x128, .f32⟩
  | 84 => ⟨S1x16384x1x128, .f32⟩
  | 85 => ⟨S1x16384x1x128, .f32⟩
  | 86 => ⟨S1x16384x4x128, .f32⟩
  | 87 => ⟨S1x16384x4x128, .f32⟩
  | 88 => ⟨S1x16384x4x128, .f32⟩
  | 89 => ⟨S1x16384x4x128, .f32⟩
  | 90 => ⟨S1x16384x4x128, .f32⟩
  | 91 => ⟨S1x16384x4x128, .f32⟩
  | 92 => ⟨S1x16384x4x128, .f32⟩
  | 93 => ⟨S1x16384x4x128, .f32⟩
  | 94 => ⟨S1x16384x4x128, .f32⟩
  | 95 => ⟨S1x16384x4x128, .f32⟩
  | 96 => ⟨S1x16384x4x256, .f32⟩
  | 97 => ⟨S_, .f32⟩
  | 98 => ⟨S1x16384x4x256, .f32⟩
  | 99 => ⟨S1x16384x4x256, .f32⟩
  | 100 => ⟨S16384x1024, .f32⟩
  | 101 => ⟨S16384x1024, .bf16⟩
  | 102 => ⟨S16384x1024, .f32⟩
  | 103 => ⟨S16384x2048, .f32⟩
  | 104 => ⟨S16384x2048, .bf16⟩
  | 105 => ⟨S16384x2048, .f32⟩
  | 106 => ⟨S16384x2048, .f32⟩
  | 107 => ⟨S16384x2048, .f32⟩
  | 108 => ⟨S_, .f32⟩
  | 109 => ⟨S16384x2048, .f32⟩
  | 110 => ⟨S16384x2048, .f32⟩
  | 111 => ⟨S_, .f32⟩
  | 112 => ⟨S16384x2048, .f32⟩
  | 113 => ⟨S16384x2048, .f32⟩
  | 114 => ⟨S16384x2048, .f32⟩
  | 115 => ⟨S16384x2048, .bf16⟩
  | 116 => ⟨S16384x256, .f32⟩
  | 117 => ⟨S_, .f32⟩
  | 118 => ⟨S16384x256, .f32⟩
  | 119 => ⟨S16384x256, .f32⟩
  | 120 => ⟨S16384x256, .bf16⟩
  | 121 => ⟨S16384x256, .f32⟩
  | 122 => ⟨S16384x256, .f32⟩
  | 123 => ⟨S16384x256, .f32⟩
  | 124 => ⟨S_, .f32⟩
  | 125 => ⟨S16384x256, .f32⟩
  | 126 => ⟨S16384x256, .f32⟩
  | 127 => ⟨S_, .f32⟩
  | _ => ⟨S16384x1024, .f32⟩

abbrev hbmTy0_1 (i : Nat) : BufTy := match i % 128 with
  | 0 => ⟨S16384x256, .f32⟩
  | 1 => ⟨S16384x256, .f32⟩
  | 2 => ⟨S16384x256, .f32⟩
  | 3 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v0 : Ref sig .tc := ⟨.hbm, 26, rfl⟩
abbrev main_cst_1 : Ref sig .tc := ⟨.hbm, 27, rfl⟩
abbrev main_v1 : Ref sig .tc := ⟨.hbm, 28, rfl⟩
abbrev main_v2 : Ref sig .tc := ⟨.hbm, 29, rfl⟩
abbrev main_cst_2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_3 : Ref sig .tc := ⟨.hbm, 43, rfl⟩
abbrev main_v15 : Ref sig .tc := ⟨.hbm, 44, rfl⟩
abbrev main_v16 : Ref sig .tc := ⟨.hbm, 45, rfl⟩
abbrev main_cst_4 : Ref sig .tc := ⟨.hbm, 46, rfl⟩
abbrev main_v17 : Ref sig .tc := ⟨.hbm, 47, rfl⟩
abbrev main_v18 : Ref sig .tc := ⟨.hbm, 48, rfl⟩
abbrev main_cst_5 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_6 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call1_v0 : Ref sig .tc := ⟨.hbm, 106, rfl⟩
abbrev main_call1_v1 : Ref sig .tc := ⟨.hbm, 107, rfl⟩
abbrev main_call1_cst : Ref sig .tc := ⟨.hbm, 108, rfl⟩
abbrev main_call1_v2 : Ref sig .tc := ⟨.hbm, 109, rfl⟩
abbrev main_call1_v3 : Ref sig .tc := ⟨.hbm, 110, rfl⟩
abbrev main_call1_cst_0 : Ref sig .tc := ⟨.hbm, 111, rfl⟩
abbrev main_call1_v4 : Ref sig .tc := ⟨.hbm, 112, rfl⟩
abbrev main_call1_v5 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_7 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call2_v0 : Ref sig .tc := ⟨.hbm, 122, rfl⟩
abbrev main_call2_v1 : Ref sig .tc := ⟨.hbm, 123, rfl⟩
abbrev main_call2_cst : Ref sig .tc := ⟨.hbm, 124, rfl⟩
abbrev main_call2_v2 : Ref sig .tc := ⟨.hbm, 125, rfl⟩
abbrev main_call2_v3 : Ref sig .tc := ⟨.hbm, 126, rfl⟩
abbrev main_call2_cst_0 : Ref sig .tc := ⟨.hbm, 127, rfl⟩
abbrev main_call2_v4 : Ref sig .tc := ⟨.hbm, 128, rfl⟩
abbrev main_call2_v5 : Ref sig .tc := ⟨.hbm, 129, rfl⟩
abbrev main_v81 : Ref sig .tc := ⟨.hbm, 130, rfl⟩
abbrev main_v82 : Ref sig .tc := ⟨.hbm, 131, rfl⟩

abbrev nD : Nat := 1
abbrev τ : Topo := Topo.v7x

variable {F : FTy → Type} [FloatOps F]
-- ==== Kernel3.lean ====
abbrev S16384x2048 : Shape := ⟨2, ![16384, 2048]⟩
abbrev S16384x256 : Shape := ⟨2, ![16384, 256]⟩
abbrev S256x512 : Shape := ⟨2, ![256, 512]⟩
abbrev S2304x1024 : Shape := ⟨2, ![2304, 1024]⟩
abbrev S16384x1024 : Shape := ⟨2, ![16384, 1024]⟩
abbrev S1024 : Shape := ⟨1, ![1024]⟩
abbrev S2048x1024 : Shape := ⟨2, ![2048, 1024]⟩
abbrev S256x1024 : Shape := ⟨2, ![256, 1024]⟩
abbrev S1x1024 : Shape := ⟨2, ![1, 1024]⟩
abbrev S256x2048 : Shape := ⟨2, ![256, 2048]⟩
abbrev S256x256 : Shape := ⟨2, ![256, 256]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x256, .bf16⟩
  | .hbm, ⟨2, _⟩ => ⟨S16384x256, .bf16⟩
  | .hbm, ⟨3, _⟩ => ⟨S256x512, .bf16⟩
  | .hbm, ⟨4, _⟩ => ⟨S2304x1024, .f32⟩
  | .hbm, ⟨5, _⟩ => ⟨S16384x1024, .f32⟩
  | .hbm, ⟨6, _⟩ => ⟨S1024, .f32⟩
  | .hbm, ⟨7, _⟩ => ⟨S2048x1024, .f32⟩
  | .hbm, ⟨8, _⟩ => ⟨S2048x1024, .bf16⟩
  | .hbm, ⟨9, _⟩ => ⟨S256x1024, .f32⟩
  | .hbm, ⟨10, _⟩ => ⟨S256x1024, .bf16⟩
  | .hbm, ⟨11, _⟩ => ⟨S1x1024, .f32⟩
  | .hbm, ⟨12, _⟩ => ⟨S16384x1024, .f32⟩
  | .local _ .vmem, ⟨0, _⟩ => ⟨S256x2048, .bf16⟩
  | .local _ .vmem, ⟨1, _⟩ => ⟨S256x2048, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x512, .bf16⟩
  | .local _ .vmem, ⟨7, _⟩ => ⟨S2048x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x2048 : Shape := ⟨2, ![16384, 2048]⟩
abbrev S16384x256 : Shape := ⟨2, ![16384, 256]⟩
abbrev S256x512 : Shape := ⟨2, ![256, 512]⟩
abbrev S2304x1024 : Shape := ⟨2, ![2304, 1024]⟩
abbrev S16384x1024 : Shape := ⟨2, ![16384, 1024]⟩
abbrev S1024 : Shape := ⟨1, ![1024]⟩
abbrev S256x256 : Shape := ⟨2, ![256, 256]⟩
abbrev S1x16384x4x64 : Shape := ⟨4, ![1, 16384, 4, 64]⟩
abbrev S1x256x4x64 : Shape := ⟨4, ![1, 256, 4, 64]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x64x16384 : Shape := ⟨4, ![1, 4, 64, 16384]⟩
abbrev S1x16384x256 : Shape := ⟨3, ![1, 16384, 256]⟩
abbrev S16384x2304 : Shape := ⟨2, ![16384, 2304]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x256, .bf16⟩
  | .hbm, ⟨2, _⟩ => ⟨S16384x256, .bf16⟩
  | .hbm, ⟨3, _⟩ => ⟨S256x512, .bf16⟩
  | .hbm, ⟨4, _⟩ => ⟨S2304x1024, .f32⟩
  | .hbm, ⟨5, _⟩ => ⟨S16384x1024, .f32⟩
  | .hbm, ⟨6, _⟩ => ⟨S1024, .f32⟩
  | .hbm, ⟨7, _⟩ => ⟨S256x512, .f32⟩
  | .hbm, ⟨8, _⟩ => ⟨S256x256, .f32⟩
  | .hbm, ⟨9, _⟩ => ⟨S256x256, .f32⟩
  | .hbm, ⟨10, _⟩ => ⟨S16384x256, .f32⟩
  | .hbm, ⟨11, _⟩ => ⟨S1x16384x4x64, .f32⟩
  | .hbm, ⟨12, _⟩ => ⟨S1x256x4x64, .f32⟩
  | .hbm, ⟨13, _⟩ => ⟨S1x256x4x64, .f32⟩
  | .hbm, ⟨14, _⟩ => ⟨S1x4x16384x256, .f32⟩
  | .hbm, ⟨15, _⟩ => ⟨S_, .f32⟩
  | .hbm, ⟨16, _⟩ => ⟨S1x4x16384, .f32⟩
  | .hbm, ⟨17, _⟩ => ⟨S_, .f32⟩
  | .hbm, ⟨18, _⟩ => ⟨S1x4x16384, .f32⟩
  | .hbm, ⟨19, _⟩ => ⟨S1x4x16384, .f32⟩
  | .hbm, ⟨20, _⟩ => ⟨S1x4x16384x1, .f32⟩
  | .hbm, ⟨21, _⟩ => ⟨S1x4x16384x256, .f32⟩
  | .hbm, ⟨22, _⟩ => ⟨S1x4x16384x256, .f32⟩
  | .hbm, ⟨23, _⟩ => ⟨S1x4x16384x256, .f32⟩
  | .hbm, ⟨24, _⟩ => ⟨S_, .f32⟩
  | .hbm, ⟨25, _⟩ => ⟨S1x4x16384, .f32⟩
  | .hbm, ⟨26, _⟩ => ⟨S1x4x16384x1, .f32⟩
  | .hbm, ⟨27, _⟩ => ⟨S1x4x16384x256, .f32⟩
  | .hbm, ⟨28, _⟩ => ⟨S1x4x16384x256, .f32⟩
  | .hbm, ⟨29, _⟩ => ⟨S1x4x64x16384, .f32⟩
  | .hbm, ⟨30, _⟩ => ⟨S1x16384x4x64, .f32⟩
  | .hbm, ⟨31, _⟩ => ⟨S1x16384x256, .f32⟩
  | .hbm, ⟨32, _⟩ => ⟨S16384x256, .f32⟩
  | .hbm, ⟨33, _⟩ => ⟨S16384x2048, .f32⟩
  | .hbm, ⟨34, _⟩ => ⟨S16384x256, .f32⟩
  | .hbm, ⟨35, _⟩ => ⟨S16384x256, .f32⟩
  | .hbm, ⟨36, _⟩ => ⟨S16384x2304, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel4.lean ====
abbrev S16384x1024 : Shape := ⟨2, ![16384, 1024]⟩
abbrev S1x16384 : Shape := ⟨2, ![1, 16384]⟩
abbrev S1024 : Shape := ⟨1, ![1024]⟩
abbrev S1024x4376 : Shape := ⟨2, ![1024, 4376]⟩
abbrev S24 : Shape := ⟨1, ![24]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x768 : Shape := ⟨2, ![1024, 768]⟩
abbrev S1024x24 : Shape := ⟨2, ![1024, 24]⟩
abbrev S1024x104 : Shape := ⟨2, ![1024, 104]⟩
abbrev S1024x2560 : Shape := ⟨2, ![1024, 2560]⟩
abbrev S1024x4480 : Shape := ⟨2, ![1024, 4480]⟩
abbrev S104 : Shape := ⟨1, ![104]⟩
abbrev S128 : Shape := ⟨1, ![128]⟩
abbrev S1x128 : Shape := ⟨2, ![1, 128]⟩
abbrev S1x1024 : Shape := ⟨2, ![1, 1024]⟩
abbrev S16384x512 : Shape := ⟨2, ![16384, 512]⟩
abbrev S64x1x512 : Shape := ⟨3, ![64, 1, 512]⟩
abbrev S16384x256 : Shape := ⟨2, ![16384, 256]⟩
abbrev S256x1024 : Shape := ⟨2, ![256, 1024]⟩
abbrev S256x128 : Shape := ⟨2, ![256, 128]⟩
abbrev S256x512 : Shape := ⟨2, ![256, 512]⟩
abbrev S1x1x512 : Shape := ⟨3, ![1, 1, 512]⟩
abbrev S256x256 : Shape := ⟨2, ![256, 256]⟩
abbrev S256 : Shape := ⟨1, ![256]⟩
abbrev S256x1 : Shape := ⟨2, ![256, 1]⟩
abbrev S1024x128 : Shape := ⟨2, ![1024, 128]⟩
abbrev S512 : Shape := ⟨1, ![512]⟩
abbrev S1x512 : Shape := ⟨2, ![1, 512]⟩
abbrev S1024x256 : Shape := ⟨2, ![1024, 256]⟩

abbrev nBuf : Space → Nat
  | .hbm => 75
  | .vmem => 41
  | .smem => 0
  | _ => 0

abbrev bufTy : (tb : Table) → Fin (tcTables nBuf tb) → BufTy
  | .hbm, ⟨0, _⟩ => ⟨S16384x1024, .f32⟩
  | .hbm, ⟨1, _⟩ => ⟨S1x16384, .i32⟩
  | .hbm, ⟨2, _⟩ => ⟨S1024, .f32⟩
  | .hbm, ⟨3, _⟩ => ⟨S1024x4376, .f32⟩
  | .hbm, ⟨4, _⟩ => ⟨S24, .f32⟩
  | .hbm, ⟨5, _⟩ => ⟨S16384, .i32⟩
  | .hbm, ⟨6, _⟩ => ⟨S16384, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S16384x1, .f32⟩
  | .hbm, ⟨24, _⟩ => ⟨S1x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S1x16384x1x32, .f32⟩
  | .hbm, ⟨30, _⟩ => ⟨S1x16384x4x32, .f32⟩
  | .hbm, ⟨31, _⟩ => ⟨S16384x128, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S16384x64, .f32⟩
  | .hbm, ⟨36, _⟩ => ⟨S1x16384x1x64, .f32⟩
  | .hbm, ⟨37, _⟩ => ⟨S1x16384x2x64, .f32⟩
  | .hbm, ⟨38, _⟩ => ⟨S16384x128, .f32⟩
  | .hbm, ⟨39, _⟩ => ⟨S1024x512, .f32⟩
  | .hbm, ⟨40, _⟩ => ⟨S1024x2x4x64, .f32⟩
  | .hbm, ⟨41, _⟩ => ⟨S1024x4x2x64, .f32⟩
  | .hbm, ⟨42, _⟩ => ⟨S1024x512, .f32⟩
  | .hbm, ⟨43, _⟩ => ⟨S1024x768, .f32⟩
  | .hbm, ⟨44, _⟩ => ⟨S1024x24, .f32⟩
  | .hbm, ⟨45, _⟩ => ⟨S_, .f32⟩
  | .hbm, ⟨46, _⟩ => ⟨S1024x104, .f32⟩
  | .hbm, ⟨47, _⟩ => ⟨S1024x512, .f32⟩
  | .hbm, ⟨48, _⟩ => ⟨S1024x2x4x64, .f32⟩
  | .hbm, ⟨49, _⟩ => ⟨S1024x4x2x64, .f32⟩
  | .hbm, ⟨50, _⟩ => ⟨S1024x512, .f32⟩
  | .hbm, ⟨51, _⟩ => ⟨S1024x2560, .f32⟩
  | .hbm, ⟨52, _⟩ => ⟨S1024x4480, .f32⟩
  | .hbm, ⟨53, _⟩ => ⟨S1024x4480, .bf16⟩
  | .hbm, ⟨54, _⟩ => ⟨S_, .f32⟩
  | .hbm, ⟨55, _⟩ => ⟨S104, .f32⟩
  | .hbm, ⟨56, _⟩ => ⟨S128, .f32⟩
  | .hbm, ⟨57, _⟩ => ⟨S1x128, .f32⟩
  | .hbm, ⟨58, _⟩ => ⟨S1x1024, .f32⟩
  | .hbm, ⟨59, _⟩ => ⟨S16384x512, .bf16⟩
  | .hbm, ⟨60, _⟩ => ⟨S16384x128, .bf16⟩
  | .hbm, ⟨61, _⟩ => ⟨S16384x128, .bf16⟩
  | .hbm, ⟨62, _⟩ => ⟨S16384x128, .bf16⟩
  | .hbm, ⟨63, _⟩ => ⟨S16384x128, .bf16⟩
  | .hbm, ⟨64, _⟩ => ⟨S16384x128, .bf16⟩
  | .hbm, ⟨65, _⟩ => ⟨S16384x128, .bf16⟩
  | .hbm, ⟨66, _⟩ => ⟨S16384x128, .f32⟩
  | .hbm, ⟨67, _⟩ => ⟨S16384x512, .bf16⟩
  | .hbm, ⟨68, _⟩ => ⟨S16384x512, .bf16⟩
  | .hbm, ⟨69, _⟩ => ⟨S16384x512, .bf16⟩
  | .hbm, ⟨70, _⟩ => ⟨S64x1x512, .f32⟩
  | .hbm, ⟨71, _⟩ => ⟨S16384x512, .bf16⟩
  | .hbm, ⟨72, _⟩ => ⟨S16384x512, .bf16⟩
  | .hbm, ⟨73, _⟩ => ⟨S16384x256, .bf16⟩
  | .hbm, ⟨74, _⟩ => ⟨S16384x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4480, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S256x512, .bf16⟩
  | .local _ .vmem, ⟨10, _⟩ => ⟨S256x512, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .f32⟩
  | .local _ .vmem, ⟨24, _⟩ => ⟨S256x128, .f32⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S1x1x512, .f32⟩
  | .local _ .vmem, ⟨32, _⟩ => ⟨S1x1x512, .f32⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | .local _ .vmem, ⟨36, _⟩ => ⟨S256x512, .bf16⟩
  | .local _ .vmem, ⟨37, _⟩ => ⟨S256x256, .bf16⟩
  | .local _ .vmem, ⟨38, _⟩ => ⟨S256x256, .bf16⟩
  | .local _ .vmem, ⟨39, _⟩ => ⟨S256x256, .bf16⟩
  | .local _ .vmem, ⟨40, _⟩ => ⟨S256x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev main_v47_2 : Ref sig .tc := ⟨.hbm, 61, rfl⟩
abbrev main_v47_3 : Ref sig .tc := ⟨.hbm, 62, rfl⟩
abbrev main_v47_4 : Ref sig .tc := ⟨.hbm, 63, rfl⟩
abbrev main_v47_5 : Ref sig .tc := ⟨.hbm, 64, rfl⟩
abbrev main_v47_6 : Ref sig .tc := ⟨.hbm, 65, rfl⟩
abbrev main_v47_7 : Ref sig .tc := ⟨.hbm, 66, rfl⟩
abbrev main_v47_8 : Ref sig .tc := ⟨.hbm, 67, rfl⟩
abbrev main_v47_9 : Ref sig .tc := ⟨.hbm, 68, rfl⟩
abbrev main_v47_10 : Ref sig .tc := ⟨.hbm, 69, rfl⟩
abbrev main_v47_11 : Ref sig .tc := ⟨.hbm, 70, rfl⟩
abbrev main_v47_12 : Ref sig .tc := ⟨.hbm, 71, rfl⟩
abbrev main_v47_13 : Ref sig .tc := ⟨.hbm, 72, rfl⟩
abbrev main_v47_14 : Ref sig .tc := ⟨.hbm, 73, rfl⟩
abbrev main_v47_15 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S16384x1024 : Shape := ⟨2, ![16384, 1024]⟩
abbrev S1x16384 : Shape := ⟨2, ![1, 16384]⟩
abbrev S1024 : Shape := ⟨1, ![1024]⟩
abbrev S1024x4376 : Shape := ⟨2, ![1024, 4376]⟩
abbrev S24 : Shape := ⟨1, ![24]⟩
abbrev S32 : Shape := ⟨1, ![32]⟩
abbrev S_ : Shape := ⟨0, ![]⟩
abbrev S1x16384x1 : Shape := ⟨3, ![1, 16384, 1]⟩
abbrev S1x1x32 : Shape := ⟨3, ![1, 1, 32]⟩
abbrev S1x16384x32 : Shape := ⟨3, ![1, 16384, 32]⟩
abbrev S1x16384x1024 : Shape := ⟨3, ![1, 16384, 1024]⟩
abbrev S1x1x1024 : Shape := ⟨3, ![1, 1, 1024]⟩
abbrev S1x16384x4376 : Shape := ⟨3, ![1, 16384, 4376]⟩
abbrev S1x16384x512 : Shape := ⟨3, ![1, 16384, 512]⟩
abbrev S1x16384x128 : Shape := ⟨3, ![1, 16384, 128]⟩
abbrev S1x16384x24 : Shape := ⟨3, ![1, 16384, 24]⟩
abbrev S1x16384x256 : Shape := ⟨3, ![1, 16384, 256]⟩
abbrev S16384x24 : Shape := ⟨2, ![16384, 24]⟩
abbrev S16384x128 : Shape := ⟨2, ![16384, 128]⟩
abbrev S128 : Shape := ⟨1, ![128]⟩
abbrev S1x128 : Shape := ⟨2, ![1, 128]⟩
abbrev S1x16384x8x64 : Shape := ⟨4, ![1, 16384, 8, 64]⟩
abbrev S1x16384x8x32 : Shape := ⟨4, ![1, 16384, 8, 32]⟩
abbrev S1x16384x1x32 : Shape := ⟨4, ![1, 16384, 1, 32]⟩
abbrev S16384x8x64 : Shape := ⟨3, ![16384, 8, 64]⟩
abbrev S16384x512 : Shape := ⟨2, ![16384, 512]⟩
abbrev S64x256x512 : Shape := ⟨3, ![64, 256, 512]⟩
abbrev S64x512 : Shape := ⟨2, ![64, 512]⟩
abbrev S64x1x512 : Shape := ⟨3, ![64, 1, 512]⟩
abbrev S16384x2x4x64 : Shape := ⟨4, ![16384, 2, 4, 64]⟩
abbrev S16384x4x2x64 : Shape := ⟨4, ![16384, 4, 2, 64]⟩
abbrev S1x16384x2x64 : Shape := ⟨4, ![1, 16384, 2, 64]⟩
abbrev S1x16384x2x32 : Shape := ⟨4, ![1, 16384, 2, 32]⟩
abbrev S16384x2x64 : Shape := ⟨3, ![16384, 2, 64]⟩
abbrev S16384x256 : Shape := ⟨2, ![16384, 256]⟩

abbrev nBuf : Space → Nat
  | .hbm => 259
  | .vmem => 0
  | .smem => 0
  | _ => 0

abbrev hbmTy0_0 (i : Nat) : BufTy := match i % 128 with
  | 0 => ⟨S16384x1024, .f32⟩
  | 1 => ⟨S1x16384, .i32⟩
  | 2 => ⟨S1024, .f32⟩
  | 3 => ⟨S1024x4376, .f32⟩
  | 4 => ⟨S24, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S1x16384, .f32⟩
  | 22 => ⟨S1x16384x1, .f32⟩
  | 23 => ⟨S1x1x32, .f32⟩
  | 24 => ⟨S1x16384x32, .f32⟩
  | 25 => ⟨S1x16384x32, .f32⟩
  | 26 => ⟨S1x16384x32, .f32⟩
  | 27 => ⟨S1x16384x32, .f32⟩
  | 28 => ⟨S1x16384x32, .f32⟩
  | 29 => ⟨S1x16384x1024, .f32⟩
  | 30 => ⟨S1x16384x1024, .f32⟩
  | 31 => ⟨S_, .f32⟩
  | 32 => ⟨S1x16384, .f32⟩
  | 33 => ⟨S1x16384x1, .f32⟩
  | 34 => ⟨S_, .f32⟩
  | 35 => ⟨S1x16384x1, .f32⟩
  | 36 => ⟨S1x16384x1, .f32⟩
  | 37 => ⟨S_, .f32⟩
  | 38 => ⟨S1x16384x1, .f32⟩
  | 39 => ⟨S1x16384x1, .f32⟩
  | 40 => ⟨S1x16384x1, .f32⟩
  | 41 => ⟨S1x16384x1024, .f32⟩
  | 42 => ⟨S1x16384x1024, .f32⟩
  | 43 => ⟨S1x1x1024, .f32⟩
  | 44 => ⟨S1x16384x1024, .f32⟩
  | 45 => ⟨S1x16384x1024, .f32⟩
  | 46 => ⟨S1x16384x4376, .f32⟩
  | 47 => ⟨S1x16384x512, .f32⟩
  | 48 => ⟨S1x16384x128, .f32⟩
  | 49 => ⟨S1x16384x128, .f32⟩
  | 50 => ⟨S1x16384x128, .f32⟩
  | 51 => ⟨S1x16384x128, .f32⟩
  | 52 => ⟨S1x16384x128, .f32⟩
  | 53 => ⟨S1x16384x128, .f32⟩
  | 54 => ⟨S1x16384x24, .f32⟩
  | 55 => ⟨S1x16384x512, .f32⟩
  | 56 => ⟨S1x16384x512, .f32⟩
  | 57 => ⟨S1x16384x512, .f32⟩
  | 58 => ⟨S1x16384x512, .f32⟩
  | 59 => ⟨S1x16384x512, .f32⟩
  | 60 => ⟨S1x16384x256, .f32⟩
  | 61 => ⟨S1x16384x256, .f32⟩
  | 62 => ⟨S16384x24, .f32⟩
  | 63 => ⟨S_, .i32⟩
  | 64 => ⟨S_, .f32⟩
  | 65 => ⟨S16384x128, .f32⟩
  | 66 => ⟨S_, .i32⟩
  | 67 => ⟨S_, .f32⟩
  | 68 => ⟨S128, .f32⟩
  | 69 => ⟨S1x128, .f32⟩
  | 70 => ⟨S16384x128, .f32⟩
  | 71 => ⟨S16384x128, .f32⟩
  | 72 => ⟨S16384x128, .f32⟩
  | 73 => ⟨S16384x128, .f32⟩
  | 74 => ⟨S_, .f32⟩
  | 75 => ⟨S16384x128, .f32⟩
  | 76 => ⟨S16384x128, .f32⟩
  | 77 => ⟨S_, .f32⟩
  | 78 => ⟨S16384x128, .f32⟩
  | 79 => ⟨S16384x128, .f32⟩
  | 80 => ⟨S1x16384x8x64, .f32⟩
  | 81 => ⟨S1x16384x8x32, .f32⟩
  | 82 => ⟨S1x16384x8x32, .f32⟩
  | 83 => ⟨S1x16384x1x32, .f32⟩
  | 84 => ⟨S1x16384x1x32, .f32⟩
  | 85 => ⟨S1x16384x8x32, .f32⟩
  | 86 => ⟨S1x16384x8x32, .f32⟩
  | 87 => ⟨S1x16384x8x32, .f32⟩
  | 88 => ⟨S1x16384x8x32, .f32⟩
  | 89 => ⟨S1x16384x8x32, .f32⟩
  | 90 => ⟨S1x16384x8x32, .f32⟩
  | 91 => ⟨S1x16384x8x32, .f32⟩
  | 92 => ⟨S1x16384x8x32, .f32⟩
  | 93 => ⟨S1x16384x8x32, .f32⟩
  | 94 => ⟨S1x16384x8x32, .f32⟩
  | 95 => ⟨S1x16384x8x64, .f32⟩
  | 96 => ⟨S16384x8x64, .f32⟩
  | 97 => ⟨S16384x512, .f32⟩
  | 98 => ⟨S64x256x512, .f32⟩
  | 99 => ⟨S_, .f32⟩
  | 100 => ⟨S64x512, .f32⟩
  | 101 => ⟨S64x1x512, .f32⟩
  | 102 => ⟨S_, .f32⟩
  | 103 => ⟨S64x1x512, .f32⟩
  | 104 => ⟨S64x1x512, .f32⟩
  | 105 => ⟨S1x16384x8x64, .f32⟩
  | 106 => ⟨S1x16384x8x32, .f32⟩
  | 107 => ⟨S1x16384x8x32, .f32⟩
  | 108 => ⟨S1x16384x1x32, .f32⟩
  | 109 => ⟨S1x16384x1x32, .f32⟩
  | 110 => ⟨S1x16384x8x32, .f32⟩
  | 111 => ⟨S1x16384x8x32, .f32⟩
  | 112 => ⟨S1x16384x8x32, .f32⟩
  | 113 => ⟨S1x16384x8x32, .f32⟩
  | 114 => ⟨S1x16384x8x32, .f32⟩
  | 115 => ⟨S1x16384x8x32, .f32⟩
  | 116 => ⟨S1x16384x8x32, .f32⟩
  | 117 => ⟨S1x16384x8x32, .f32⟩
  | 118 => ⟨S1x16384x8x32, .f32⟩
  | 119 => ⟨S1x16384x8x32, .f32⟩
  | 120 => ⟨S1x16384x8x64, .f32⟩
  | 121 => ⟨S16384x8x64, .f32⟩
  | 122 => ⟨S16384x512, .f32⟩
  | 123 => ⟨S16384x2x4x64, .f32⟩
  | 124 => ⟨S16384x4x2x64, .f32⟩
  | 125 => ⟨S16384x512, .f32⟩
  | 126 => ⟨S_, .f32⟩
  | 127 => ⟨S16384x512, .f32⟩
  | _ => ⟨S16384x1024, .f32⟩

abbrev hbmTy0_1 (i : Nat) : BufTy := match i % 128 with
  | 0 => ⟨S16384x512, .f32⟩
  | 1 => ⟨S16384x512, .bf16⟩
  | 2 => ⟨S1x16384x2x64, .f32⟩
  | 3 => ⟨S1x16384x2x32, .f32⟩
  | 4 => ⟨S1x16384x2x32, .f32⟩
  | 5 => ⟨S1x16384x1x32, .f32⟩
  | 6 => ⟨S1x16384x1x32, .f32⟩
  | 7 => ⟨S1x16384x2x32, .f32⟩
  | 8 => ⟨S1x16384x2x32, .f32⟩
  | 9 => ⟨S1x16384x2x32, .f32⟩
  | 10 => ⟨S1x16384x2x32, .f32⟩
  | 11 => ⟨S1x16384x2x32, .f32⟩
  | 12 => ⟨S1x16384x2x32, .f32⟩
  | 13 => ⟨S1x16384x2x32, .f32⟩
  | 14 => ⟨S1x16384x2x32, .f32⟩
  | 15 => ⟨S1x16384x2x32, .f32⟩
  | 16 => ⟨S1x16384x2x32, .f32⟩
  | 17 => ⟨S1x16384x2x64, .f32⟩
  | 18 => ⟨S16384x2x64, .f32⟩
  | 19 => ⟨S16384x128, .f32⟩
  | 20 => ⟨S16384x128, .bf16⟩
  | 21 => ⟨S16384x128, .f32⟩
  | 22 => ⟨S16384x128, .bf16⟩
  | 23 => ⟨S1x16384x2x64, .f32⟩
  | 24 => ⟨S1x16384x2x32, .f32⟩
  | 25 => ⟨S1x16384x2x32, .f32⟩
  | 26 => ⟨S1x16384x1x32, .f32⟩
  | 27 => ⟨S1x16384x1x32, .f32⟩
  | 28 => ⟨S1x16384x2x32, .f32⟩
  | 29 => ⟨S1x16384x2x32, .f32⟩
  | 30 => ⟨S1x16384x2x32, .f32⟩
  | 31 => ⟨S1x16384x2x32, .f32⟩
  | 32 => ⟨S1x16384x2x32, .f32⟩
  | 33 => ⟨S1x16384x2x32, .f32⟩
  | 34 => ⟨S1x16384x2x32, .f32⟩
  | 35 => ⟨S1x16384x2x32, .f32⟩
  | 36 => ⟨S1x16384x2x32, .f32⟩
  | 37 => ⟨S1x16384x2x32, .f32⟩
  | 38 => ⟨S1x16384x2x64, .f32⟩
  | 39 => ⟨S16384x2x64, .f32⟩
  | 40 => ⟨S16384x128, .f32⟩
  | 41 => ⟨S16384x128, .bf16⟩
  | 42 => ⟨S16384x128, .f32⟩
  | 43 => ⟨S16384x128, .bf16⟩
  | 44 => ⟨S1x16384x2x64, .f32⟩
  | 45 => ⟨S1x16384x2x32, .f32⟩
  | 46 => ⟨S1x16384x2x32, .f32⟩
  | 47 => ⟨S1x16384x1x32, .f32⟩
  | 48 => ⟨S1x16384x1x32, .f32⟩
  | 49 => ⟨S1x16384x2x32, .f32⟩
  | 50 => ⟨S1x16384x2x32, .f32⟩
  | 51 => ⟨S1x16384x2x32, .f32⟩
  | 52 => ⟨S1x16384x2x32, .f32⟩
  | 53 => ⟨S1x16384x2x32, .f32⟩
  | 54 => ⟨S1x16384x2x32, .f32⟩
  | 55 => ⟨S1x16384x2x32, .f32⟩
  | 56 => ⟨S1x16384x2x32, .f32⟩
  | 57 => ⟨S1x16384x2x32, .f32⟩
  | 58 => ⟨S1x16384x2x32, .f32⟩
  | 59 => ⟨S1x16384x2x64, .f32⟩
  | 60 => ⟨S16384x2x64, .f32⟩
  | 61 => ⟨S16384x128, .f32⟩
  | 62 => ⟨S16384x128, .bf16⟩
  | 63 => ⟨S16384x128, .f32⟩
  | 64 => ⟨S16384x128, .bf16⟩
  | 65 => ⟨S16384x512, .f32⟩
  | 66 => ⟨S16384x512, .f32⟩
  | 67 => ⟨S16384x512, .f32⟩
  | 68 => ⟨S_, .f32⟩
  | 69 => ⟨S16384x512, .f32⟩
  | 70 => ⟨S16384x512, .f32⟩
  | 71 => ⟨S_, .f32⟩
  | 72 => ⟨S16384x512, .f32⟩
  | 73 => ⟨S16384x512, .f32⟩
  | 74 => ⟨S16384x512, .f32⟩
  | 75 => ⟨S16384x2x4x64, .f32⟩
  | 76 => ⟨S16384x4x2x64, .f32⟩
  | 77 => ⟨S16384x512, .f32⟩
  | 78 => ⟨S16384x512, .bf16⟩
  | 79 => ⟨S1x16384x8x64, .f32⟩
  | 80 => ⟨S1x16384x8x32, .f32⟩
  | 81 => ⟨S1x16384x8x32, .f32⟩
  | 82 => ⟨S1x16384x1x32, .f32⟩
  | 83 => ⟨S1x16384x1x32, .f32⟩
  | 84 => ⟨S1x16384x8x32, .f32⟩
  | 85 => ⟨S1x16384x8x32, .f32⟩
  | 86 => ⟨S1x16384x8x32, .f32⟩
  | 87 => ⟨S1x16384x8x32, .f32⟩
  | 88 => ⟨S1x16384x8x32, .f32⟩
  | 89 => ⟨S1x16384x8x32, .f32⟩
  | 90 => ⟨S1x16384x8x32, .f32⟩
  | 91 => ⟨S1x16384x8x32, .f32⟩
  | 92 => ⟨S1x16384x8x32, .f32⟩
  | 93 => ⟨S1x16384x8x32, .f32⟩
  | 94 => ⟨S1x16384x8x64, .f32⟩
  | 95 => ⟨S16384x8x64, .f32⟩
  | 96 => ⟨S16384x512, .f32⟩
  | 97 => ⟨S_, .f32⟩
  | 98 => ⟨S16384x512, .f32⟩
  | 99 => ⟨S16384x512, .f32⟩
  | 100 => ⟨S16384x512, .bf16⟩
  | 101 => ⟨S16384x512, .bf16⟩
  | 102 => ⟨S16384x512, .f32⟩
  | 103 => ⟨S16384x512, .bf16⟩
  | 104 => ⟨S16384x512, .f32⟩
  | 105 => ⟨S16384x512, .f32⟩
  | 106 => ⟨S16384x512, .f32⟩
  | 107 => ⟨S_, .f32⟩
  | 108 => ⟨S16384x512, .f32⟩
  | 109 => ⟨S16384x512, .f32⟩
  | 110 => ⟨S_, .f32⟩
  | 111 => ⟨S16384x512, .f32⟩
  | 112 => ⟨S16384x512, .f32⟩
  | 113 => ⟨S16384x512, .f32⟩
  | 114 => ⟨S16384x512, .bf16⟩
  | 115 => ⟨S16384x256, .f32⟩
  | 116 => ⟨S_, .f32⟩
  | 117 => ⟨S16384x256, .f32⟩
  | 118 => ⟨S16384x256, .f32⟩
  | 119 => ⟨S16384x256, .bf16⟩
  | 120 => ⟨S16384x256, .f32⟩
  | 121 => ⟨S16384x256, .f32⟩
  | 122 => ⟨S16384x256, .f32⟩
  | 123 => ⟨S_, .f32⟩
  | 124 => ⟨S16384x256, .f32⟩
  | 125 => ⟨S16384x256, .f32⟩
  | 126 => ⟨S_, .f32⟩
  | 127 => ⟨S16384x256, .f32⟩
  | _ => ⟨S16384x1024, .f32⟩

abbrev hbmTy0_2 (i : Nat) : BufTy := match i % 128 with
  | 0 => ⟨S16384x256, .f32⟩
  | 1 => ⟨S16384x256, .f32⟩
  | 2 => ⟨S16384x256, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c : Ref sig .tc := ⟨.hbm, 63, rfl⟩
abbrev main_call0_v0 : Ref sig .tc := ⟨.hbm, 64, rfl⟩
abbrev main_v50 : Ref sig .tc := ⟨.hbm, 65, rfl⟩
abbrev main_c_7 : Ref sig .tc := ⟨.hbm, 66, rfl⟩
abbrev main_call1_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_cst_11 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_12 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_call2_v0 : Ref sig .tc := ⟨.hbm, 194, rfl⟩
abbrev main_call2_v1 : Ref sig .tc := ⟨.hbm, 195, rfl⟩
abbrev main_call2_cst : Ref sig .tc := ⟨.hbm, 196, rfl⟩
abbrev main_call2_v2 : Ref sig .tc := ⟨.hbm, 197, rfl⟩
abbrev main_call2_v3 : Ref sig .tc := ⟨.hbm, 198, rfl⟩
abbrev main_call2_cst_0 : Ref sig .tc := ⟨.hbm, 199, rfl⟩
abbrev main_call2_v4 : Ref sig .tc := ⟨.hbm, 200, rfl⟩
abbrev main_call2_v5 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_cst_13 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_call3_v0 : Ref sig .tc := ⟨.hbm, 233, rfl⟩
abbrev main_call3_v1 : Ref sig .tc := ⟨.hbm, 234, rfl⟩
abbrev main_call3_cst : Ref sig .tc := ⟨.hbm, 235, rfl⟩
abbrev main_call3_v2 : Ref sig .tc := ⟨.hbm, 236, rfl⟩
abbrev main_call3_v3 : Ref sig .tc := ⟨.hbm, 237, rfl⟩
abbrev main_call3_cst_0 : Ref sig .tc := ⟨.hbm, 238, rfl⟩
abbrev main_call3_v4 : Ref sig .tc := ⟨.hbm, 239, rfl⟩
abbrev main_call3_v5 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_cst_14 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_call4_v0 : Ref sig .tc := ⟨.hbm, 249, rfl⟩
abbrev main_call4_v1 : Ref sig .tc := ⟨.hbm, 250, rfl⟩
abbrev main_call4_cst : Ref sig .tc := ⟨.hbm, 251, rfl⟩
abbrev main_call4_v2 : Ref sig .tc := ⟨.hbm, 252, rfl⟩
abbrev main_call4_v3 : Ref sig .tc := ⟨.hbm, 253, rfl⟩
abbrev main_call4_cst_0 : Ref sig .tc := ⟨.hbm, 254, rfl⟩
abbrev main_call4_v4 : Ref sig .tc := ⟨.hbm, 255, rfl⟩
abbrev main_call4_v5 : Ref sig .tc := ⟨.hbm, 256, rfl⟩
abbrev main_v209 : Ref sig .tc := ⟨.hbm, 257, rfl⟩
abbrev main_v210 : Ref sig .tc := ⟨.hbm, 258, rfl⟩

abbrev nD : Nat := 1
abbrev τ : Topo := Topo.v7x

variable {F : FTy → Type} [FloatOps F]
-- ==== Kernel5.lean ====
abbrev S16384x512 : Shape := ⟨2, ![16384, 512]⟩
abbrev S16384x256 : Shape := ⟨2, ![16384, 256]⟩
abbrev S256x512 : Shape := ⟨2, ![256, 512]⟩
abbrev S1280x1024 : Shape := ⟨2, ![1280, 1024]⟩
abbrev S16384x1024 : Shape := ⟨2, ![16384, 1024]⟩
abbrev S512 : Shape := ⟨1, ![512]⟩
abbrev S512x1024 : Shape := ⟨2, ![512, 1024]⟩
abbrev S_ : Shape := ⟨0, ![]⟩
abbrev S512x1 : Shape := ⟨2, ![512, 1]⟩
abbrev S256x1024 : Shape := ⟨2, ![256, 1024]⟩
abbrev S256x256 : Shape := ⟨2, ![256, 256]⟩
abbrev S256x128 : Shape := ⟨2, ![256, 128]⟩
abbrev S512x128 : Shape := ⟨2, ![512, 128]⟩
abbrev S512x256 : Shape := ⟨2, ![512, 256]⟩

abbrev nBuf : Space → Nat
  | .hbm => 22
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S256x512, .bf16⟩
  | .hbm, ⟨5, _⟩ => ⟨S1280x1024, .f32⟩
  | .hbm, ⟨6, _⟩ => ⟨S16384x1024, .f32⟩
  | .hbm, ⟨7, _⟩ => ⟨S512, .i32⟩
  | .hbm, ⟨8, _⟩ => ⟨S512, .i1⟩
  | .hbm, ⟨9, _⟩ => ⟨S512x1024, .f32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S512x1, .i32⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S256x1024, .f32⟩
  | .hbm, ⟨20, _⟩ => ⟨S256x1024, .bf16⟩
  | .hbm, ⟨21, _⟩ => ⟨S16384x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x512, .bf16⟩
  | .local _ .vmem, ⟨9, _⟩ => ⟨S512x1024, .bf16⟩
  | .local _ .vmem, ⟨10, _⟩ => ⟨S512x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x512 : Shape := ⟨2, ![16384, 512]⟩
abbrev S16384x256 : Shape := ⟨2, ![16384, 256]⟩
abbrev S256x512 : Shape := ⟨2, ![256, 512]⟩
abbrev S1280x1024 : Shape := ⟨2, ![1280, 1024]⟩
abbrev S16384x1024 : Shape := ⟨2, ![16384, 1024]⟩
abbrev S16384x4x2x64 : Shape := ⟨4, ![16384, 4, 2, 64]⟩
abbrev S16384x2x4x64 : Shape := ⟨4, ![16384, 2, 4, 64]⟩
abbrev S256x256 : Shape := ⟨2, ![256, 256]⟩
abbrev S1x16384x4x64 : Shape := ⟨4, ![1, 16384, 4, 64]⟩
abbrev S1x256x4x64 : Shape := ⟨4, ![1, 256, 4, 64]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x64x16384 : Shape := ⟨4, ![1, 4, 64, 16384]⟩
abbrev S1x16384x256 : Shape := ⟨3, ![1, 16384, 256]⟩
abbrev S16384x1280 : Shape := ⟨2, ![16384, 1280]⟩

abbrev nBuf : Space → Nat
  | .hbm => 43
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S256x512, .bf16⟩
  | .hbm, ⟨5, _⟩ => ⟨S1280x1024, .f32⟩
  | .hbm, ⟨6, _⟩ => ⟨S16384x1024, .f32⟩
  | .hbm, ⟨7, _⟩ => ⟨S16384x512, .f32⟩
  | .hbm, ⟨8, _⟩ => ⟨S16384x4x2x64, .f32⟩
  | .hbm, ⟨9, _⟩ => ⟨S16384x2x4x64, .f32⟩
  | .hbm, ⟨10, _⟩ => ⟨S16384x512, .f32⟩
  | .hbm, ⟨11, _⟩ => ⟨S256x512, .f32⟩
  | .hbm, ⟨12, _⟩ => ⟨S256x256, .f32⟩
  | .hbm, ⟨13, _⟩ => ⟨S256x256, .f32⟩
  | .hbm, ⟨14, _⟩ => ⟨S16384x256, .f32⟩
  | .hbm, ⟨15, _⟩ => ⟨S1x16384x4x64, .f32⟩
  | .hbm, ⟨16, _⟩ => ⟨S1x256x4x64, .f32⟩
  | .hbm, ⟨17, _⟩ => ⟨S1x256x4x64, .f32⟩
  | .hbm, ⟨18, _⟩ => ⟨S1x4x16384x256, .f32⟩
  | .hbm, ⟨19, _⟩ => ⟨S_, .f32⟩
  | .hbm, ⟨20, _⟩ => ⟨S1x4x16384, .f32⟩
  | .hbm, ⟨21, _⟩ => ⟨S_, .f32⟩
  | .hbm, ⟨22, _⟩ => ⟨S1x4x16384, .f32⟩
  | .hbm, ⟨23, _⟩ => ⟨S1x4x16384, .f32⟩
  | .hbm, ⟨24, _⟩ => ⟨S1x4x16384x1, .f32⟩
  | .hbm, ⟨25, _⟩ => ⟨S1x4x16384x256, .f32⟩
  | .hbm, ⟨26, _⟩ => ⟨S1x4x16384x256, .f32⟩
  | .hbm, ⟨27, _⟩ => ⟨S1x4x16384x256, .f32⟩
  | .hbm, ⟨28, _⟩ => ⟨S_, .f32⟩
  | .hbm, ⟨29, _⟩ => ⟨S1x4x16384, .f32⟩
  | .hbm, ⟨30, _⟩ => ⟨S1x4x16384x1, .f32⟩
  | .hbm, ⟨31, _⟩ => ⟨S1x4x16384x256, .f32⟩
  | .hbm, ⟨32, _⟩ => ⟨S1x4x16384x256, .f32⟩
  | .hbm, ⟨33, _⟩ => ⟨S1x4x64x16384, .f32⟩
  | .hbm, ⟨34, _⟩ => ⟨S1x16384x4x64, .f32⟩
  | .hbm, ⟨35, _⟩ => ⟨S1x16384x256, .f32⟩
  | .hbm, ⟨36, _⟩ => ⟨S16384x256, .f32⟩
  | .hbm, ⟨37, _⟩ => ⟨S16384x512, .f32⟩
  | .hbm, ⟨38, _⟩ => ⟨S16384x256, .f32⟩
  | .hbm, ⟨39, _⟩ => ⟨S16384x256, .f32⟩
  | .hbm, ⟨40, _⟩ => ⟨S16384x1280, .f32⟩
  | .hbm, ⟨41, _⟩ => ⟨S16384x1024, .f32⟩
  | .hbm, ⟨42, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel6.lean ====
abbrev S1x256x1024 : Shape := ⟨3, ![1, 256, 1024]⟩
abbrev S1024 : Shape := ⟨1, ![1024]⟩
abbrev S1024x512 : Shape := ⟨2, ![1024, 512]⟩
abbrev S256x1024 : Shape := ⟨2, ![256, 1024]⟩
abbrev S1x1024 : Shape := ⟨2, ![1, 1024]⟩
abbrev S256x512 : Shape := ⟨2, ![256, 512]⟩
abbrev S256 : Shape := ⟨1, ![256]⟩
abbrev S256x1 : Shape := ⟨2, ![256, 1]⟩

abbrev nBuf : Space → Nat
  | .hbm => 10
  | .vmem => 6
  | .smem => 0
  | _ => 0

abbrev bufTy : (tb : Table) → Fin (tcTables nBuf tb) → BufTy
  | .hbm, ⟨0, _⟩ => ⟨S1x256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S256x1024, .f32⟩
  | .hbm, ⟨5, _⟩ => ⟨S1x1024, .f32⟩
  | .hbm, ⟨6, _⟩ => ⟨S1024x512, .bf16⟩
  | .hbm, ⟨7, _⟩ => ⟨S1024x512, .bf16⟩
  | .hbm, ⟨8, _⟩ => ⟨S256x512, .bf16⟩
  | .hbm, ⟨9, _⟩ => ⟨S256x512, .bf16⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S256x512, .bf16⟩
  | .local _ .vmem, ⟨5, _⟩ => ⟨S256x512, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S1x256x1024 : Shape := ⟨3, ![1, 256, 1024]⟩
abbrev S1024 : Shape := ⟨1, ![1024]⟩
abbrev S1024x512 : Shape := ⟨2, ![1024, 512]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1x256x512 : Shape := ⟨3, ![1, 256, 512]⟩
abbrev S256x512 : Shape := ⟨2, ![256, 512]⟩

abbrev nBuf : Space → Nat
  | .hbm => 26
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S1x256x1024, .f32⟩
  | .hbm, ⟨5, _⟩ => ⟨S_, .f32⟩
  | .hbm, ⟨6, _⟩ => ⟨S1x256, .f32⟩
  | .hbm, ⟨7, _⟩ => ⟨S1x256x1, .f32⟩
  | .hbm, ⟨8, _⟩ => ⟨S_, .f32⟩
  | .hbm, ⟨9, _⟩ => ⟨S1x256x1, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S1x256x1, .f32⟩
  | .hbm, ⟨15, _⟩ => ⟨S1x256x1024, .f32⟩
  | .hbm, ⟨16, _⟩ => ⟨S1x256x1024, .f32⟩
  | .hbm, ⟨17, _⟩ => ⟨S1x1x1024, .f32⟩
  | .hbm, ⟨18, _⟩ => ⟨S1x256x1024, .f32⟩
  | .hbm, ⟨19, _⟩ => ⟨S1x256x1024, .f32⟩
  | .hbm, ⟨20, _⟩ => ⟨S1x256x512, .f32⟩
  | .hbm, ⟨21, _⟩ => ⟨S256x512, .f32⟩
  | .hbm, ⟨22, _⟩ => ⟨S256x512, .bf16⟩
  | .hbm, ⟨23, _⟩ => ⟨S1x256x512, .f32⟩
  | .hbm, ⟨24, _⟩ => ⟨S256x512, .f32⟩
  | .hbm, ⟨25, _⟩ => ⟨S256x512, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel7.lean ====
abbrev S16384x512 : Shape := ⟨2, ![16384, 512]⟩
abbrev S16384x128 : Shape := ⟨2, ![16384, 128]⟩
abbrev S128x512 : Shape := ⟨2, ![128, 512]⟩
abbrev S128x128 : Shape := ⟨2, ![128, 128]⟩
abbrev S128x1 : Shape := ⟨2, ![128, 1]⟩
abbrev S1x640 : Shape := ⟨2, ![1, 640]⟩
abbrev S128x640 : Shape := ⟨2, ![128, 640]⟩
abbrev S640x128 : Shape := ⟨2, ![640, 128]⟩
abbrev S128 : Shape := ⟨1, ![128]⟩

abbrev nBuf : Space → Nat
  | .hbm => 5
  | .vmem => 8
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S16384x128, .bf16⟩
  | .hbm, ⟨3, _⟩ => ⟨S16384x128, .f32⟩
  | .hbm, ⟨4, _⟩ => ⟨S16384x512, .f32⟩
  | .local _ .vmem, ⟨0, _⟩ => ⟨S128x512, .bf16⟩
  | .local _ .vmem, ⟨1, _⟩ => ⟨S128x512, .bf16⟩
  | .local _ .vmem, ⟨2, _⟩ => ⟨S16384x128, .bf16⟩
  | .local _ .vmem, ⟨3, _⟩ => ⟨S16384x128, .bf16⟩
  | .local _ .vmem, ⟨4, _⟩ => ⟨S128x128, .f32⟩
  | .local _ .vmem, ⟨5, _⟩ => ⟨S128x128, .f32⟩
  | .local _ .vmem, ⟨6, _⟩ => ⟨S128x512, .f32⟩
  | .local _ .vmem, ⟨7, _⟩ => ⟨S128x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  let c512_i32 : BitVec 32 := 512#32
  let v1 : BitVec 32 := Scalar.subi v0 c512_i32
  let c0_i32 : BitVec 32 := 0#32
  let v2 : BitVec 32 := Scalar.maxsi v1 c0_i32
  v2
def k0_off1 (i : grid0.Coords) : Fin 2 → Nat :=
  let arg0 : BitVec 32 := BitVec.ofNat 32 (i 0).val
  let c128_i32 : BitVec 32 := 128#32
  let v0 : BitVec 32 := Scalar.muli arg0 c128_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v21 : Index := Scalar.indexCast v3
  let c0_2 : Index := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x512 : Shape := ⟨2, ![16384, 512]⟩
abbrev S16384x128 : Shape := ⟨2, ![16384, 128]⟩
abbrev S1x16384x4x2x64 : Shape := ⟨5, ![1, 16384, 4, 2, 64]⟩
abbrev S1x16384x2x4x64 : Shape := ⟨5, ![1, 16384, 2, 4, 64]⟩
abbrev S1x16384x2x64 : Shape := ⟨4, ![1, 16384, 2, 64]⟩
abbrev S16384x24 : Shape := ⟨2, ![16384, 24]⟩
abbrev S1x16384x3x2x4 : Shape := ⟨5, ![1, 16384, 3, 2, 4]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x2x16384x16384x4 : Shape := ⟨5, ![1, 2, 16384, 16384, 4]⟩
abbrev S1x2x4x16384x16384 : Shape := ⟨5, ![1, 2, 4, 16384, 16384]⟩
abbrev S1x2x4x16384 : Shape := ⟨4, ![1, 2, 4, 16384]⟩
abbrev S1x2x4x16384x1 : Shape := ⟨5, ![1, 2, 4, 16384, 1]⟩
abbrev S1x2x64x4x16384 : Shape := ⟨5, ![1, 2, 64, 4, 16384]⟩
abbrev S1x16384x1x2x4 : Shape := ⟨5, ![1, 16384, 1, 2, 4]⟩
abbrev S1x16384x2x4 : Shape := ⟨4, ![1, 16384, 2, 4]⟩
abbrev S1x16384x2x4x1 : Shape := ⟨5, ![1, 16384, 2, 4, 1]⟩

abbrev nBuf : Space → Nat
  | .hbm => 64
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S16384x128, .bf16⟩
  | .hbm, ⟨3, _⟩ => ⟨S16384x128, .f32⟩
  | .hbm, ⟨4, _⟩ => ⟨S16384x512, .f32⟩
  | .hbm, ⟨5, _⟩ => ⟨S1x16384x4x2x64, .f32⟩
  | .hbm, ⟨6, _⟩ => ⟨S1x16384x2x4x64, .f32⟩
  | .hbm, ⟨7, _⟩ => ⟨S16384x128, .f32⟩
  | .hbm, ⟨8, _⟩ => ⟨S1x16384x2x64, .f32⟩
  | .hbm, ⟨9, _⟩ => ⟨S16384x128, .f32⟩
  | .hbm, ⟨10, _⟩ => ⟨S1x16384x2x64, .f32⟩
  | .hbm, ⟨11, _⟩ => ⟨S16384x24, .f32⟩
  | .hbm, ⟨12, _⟩ => ⟨S1x16384x3x2x4, .f32⟩
  | .hbm, ⟨13, _⟩ => ⟨S16384, .i32⟩
  | .hbm, ⟨14, _⟩ => ⟨S16384, .i32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S1x16384, .i32⟩
  | .hbm, ⟨21, _⟩ => ⟨S16384x1, .i32⟩
  | .hbm, ⟨22, _⟩ => ⟨S_, .i32⟩
  | .hbm, ⟨23, _⟩ => ⟨S16384x1, .i32⟩
  | .hbm, ⟨24, _⟩ => ⟨S16384x1, .i32⟩
  | .hbm, ⟨25, _⟩ => ⟨S16384x16384, .i32⟩
  | .hbm, ⟨26, _⟩ => ⟨S16384x16384, .i32⟩
  | .hbm, ⟨27, _⟩ => ⟨S16384x16384, .i1⟩
  | .hbm, ⟨28, _⟩ => ⟨S16384x16384, .i1⟩
  | .hbm, ⟨29, _⟩ => ⟨S1x2x16384x16384x4, .f32⟩
  | .hbm, ⟨30, _⟩ => ⟨S1x2x4x16384x16384, .f32⟩
  | .hbm, ⟨31, _⟩ => ⟨S_, .f32⟩
  | .hbm, ⟨32, _⟩ => ⟨S_, .f32⟩
  | .hbm, ⟨33, _⟩ => ⟨S1x2x4x16384x16384, .i1⟩
  | .hbm, ⟨34, _⟩ => ⟨S1x2x4x16384x16384, .f32⟩
  | .hbm, ⟨35, _⟩ => ⟨S1x2x4x16384x16384, .f32⟩
  | .hbm, ⟨36, _⟩ => ⟨S_, .f32⟩
  | .hbm, ⟨37, _⟩ => ⟨S1x2x4x16384, .f32⟩
  | .hbm, ⟨38, _⟩ => ⟨S1x2x4x16384x1, .f32⟩
  | .hbm, ⟨39, _⟩ => ⟨S1x2x4x16384x16384, .f32⟩
  | .hbm, ⟨40, _⟩ => ⟨S1x2x4x16384x16384, .f32⟩
  | .hbm, ⟨41, _⟩ => ⟨S1x2x4x16384x16384, .f32⟩
  | .hbm, ⟨42, _⟩ => ⟨S_, .f32⟩
  | .hbm, ⟨43, _⟩ => ⟨S_, .f32⟩
  | .hbm, ⟨44, _⟩ => ⟨S1x2x4x16384x16384, .i1⟩
  | .hbm, ⟨45, _⟩ => ⟨S1x2x4x16384x16384, .f32⟩
  | .hbm, ⟨46, _⟩ => ⟨S1x2x4x16384x16384, .f32⟩
  | .hbm, ⟨47, _⟩ => ⟨S_, .f32⟩
  | .hbm, ⟨48, _⟩ => ⟨S1x2x4x16384, .f32⟩
  | .hbm, ⟨49, _⟩ => ⟨S1x2x4x16384x1, .f32⟩
  | .hbm, ⟨50, _⟩ => ⟨S_, .f32⟩
  | .hbm, ⟨51, _⟩ => ⟨S1x2x4x16384x1, .f32⟩
  | .hbm, ⟨52, _⟩ => ⟨S1x2x4x16384x1, .f32⟩
  | .hbm, ⟨53, _⟩ => ⟨S1x2x4x16384x16384, .f32⟩
  | .hbm, ⟨54, _⟩ => ⟨S1x2x4x16384x16384, .f32⟩
  | .hbm, ⟨55, _⟩ => ⟨S1x2x64x4x16384, .f32⟩
  | .hbm, ⟨56, _⟩ => ⟨S1x16384x2x4x64, .f32⟩
  | .hbm, ⟨57, _⟩ => ⟨S1x16384x1x2x4, .f32⟩
  | .hbm, ⟨58, _⟩ => ⟨S1x16384x2x4, .f32⟩
  | .hbm, ⟨59, _⟩ => ⟨S1x16384x2x4x1, .f32⟩
  | .hbm, ⟨60, _⟩ => ⟨S1x16384x2x4x64, .f32⟩
  | .hbm, ⟨61, _⟩ => ⟨S1x16384x2x4x64, .f32⟩
  | .hbm, ⟨62, _⟩ => ⟨S1x16384x4x2x64, .f32⟩
  | .hbm, ⟨63, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Proof.RetRun.lean ====
/- The reference's loop read through the generated per-trip definitions: after `k` trips its carried buffers hold the
   `k`-th state of the recurrence, and so its result is the closing expression of state 128. -/
module

public import proofs.«01_k».proof.Proof.Gen.ReferenceIdeal.Run
public import proofs.«01_k».proof.Proof.Gen.ReferenceIdeal.Step

@[expose] public section

noncomputable section

namespace Cert.Proof.RetRun

open Idealize.ShloMosaic Idealize.ShloMosaic.TcCoe Idealize.ShloMosaic.StableHlo Idealize.SL.Sem
open Cert.ReferenceIdeal Cert.ReferenceIdeal.Gen Cert.ReferenceIdeal.Value Cert.ReferenceIdeal.Step

variable {F : FTy → Type} [FloatOps F]

/-- The carried buffers of `W` hold state `s`, the decay tables, and trip number `j`. -/
structure At (W : Valuation τ sig (Elt F)) (s : State F) (j : ℕ) : Prop where
  qs : W (Proc.devRef .tc main_v57_0) = s.main_v57_0
  ks : W (Proc.devRef .tc main_v57_1) = s.main_v57_1
  vs : W (Proc.devRef .tc main_v57_2) = s.main_v57_2
  dec : W (Proc.devRef .tc main_v57_3) = K_main_v29 (F := F)
  qdec : W (Proc.devRef .tc main_v57_4) = K_main_v37 (F := F)
  cdec : W (Proc.devRef .tc main_v57_5) = K_main_v48 (F := F)
  kdec : W (Proc.devRef .tc main_v57_6) = K_main_v45 (F := F)
  num : W (Proc.devRef .tc main_v57_7) = constantI S_ 32 (BitVec.ofNat 32 j)
  st : W (Proc.devRef .tc main_v57_8) = s.main_v57_8
  out : W (Proc.devRef .tc main_v57_9) = s.main_v57_9

variable {W : Valuation τ sig (Elt F)} {s : State F} {j : ℕ}

set_option maxRecDepth 8192 in
/-- The trip's query chunk. -/
theorem chunk_q (h : At W s j) : res_main_while0b_v82 W = b5 j s := by
  unfold res_main_while0b_v82
  rw [h.qs, h.num]
  rfl

set_option maxRecDepth 8192 in
/-- The trip's key chunk. -/
theorem chunk_k (h : At W s j) : res_main_while0b_v83 W = b11 j s := by
  unfold res_main_while0b_v83
  rw [h.ks, h.num]
  rfl

set_option maxRecDepth 8192 in
/-- The trip's value chunk. -/
theorem chunk_v (h : At W s j) : res_main_while0b_v84 W = b17 j s := by
  unfold res_main_while0b_v84
  rw [h.vs, h.num]
  rfl

set_option maxRecDepth 8192 in
/-- The trip's new state. -/
theorem trip_st (h : At W s j) : Value.step_main_v57_8 W = b34 j s := by
  unfold Value.step_main_v57_8
  rw [chunk_k h, chunk_v h, h.st, h.cdec, h.kdec]
  rfl

set_option maxRecDepth 8192 in
/-- The trip's outputs so far. -/
theorem trip_out (h : At W s j) : Value.step_main_v57_9 W = b40 j s := by
  unfold Value.step_main_v57_9
  rw [chunk_q h, chunk_k h, chunk_v h, h.out, h.dec, h.st, h.qdec, h.num]
  rfl

/-- The next trip's number. -/
theorem trip_num (h : At W s j) : Value.step_main_v57_7 W = constantI S_ 32 (BitVec.ofNat 32 (j + 1)) := by
  unfold Value.step_main_v57_7
  rw [h.num]
  exact funext fun _ => (BitVec.ofNat_add j 1).symm

/-- One trip takes state `s` to `step j s`. -/
theorem trip (h : At W s j) : At (STEP W) (step j s) (j + 1) where
  qs := (Value.STEP_main_v57_0 W).trans h.qs
  ks := (Value.STEP_main_v57_1 W).trans h.ks
  vs := (Value.STEP_main_v57_2 W).trans h.vs
  dec := (Value.STEP_main_v57_3 W).trans h.dec
  qdec := (Value.STEP_main_v57_4 W).trans h.qdec
  cdec := (Value.STEP_main_v57_5 W).trans h.cdec
  kdec := (Value.STEP_main_v57_6 W).trans h.kdec
  num := (Value.STEP_main_v57_7 W).trans (trip_num h)
  st := (Value.STEP_main_v57_8 W).trans (trip_st h)
  out := (Value.STEP_main_v57_9 W).trans (trip_out h)

variable (m : (ℓ : Loc nD τ sig) → Buf (Elt F) ℓ) (ρ : Dev nD → PrngReg)

/-- The state sequence of the recurrence, from the memory the run starts from. -/
def states (c : Dev nD) : ℕ → State F
  | 0 => init (m ((c.tc : Thread nD τ).loc main_arg0)) (m ((c.tc : Thread nD τ).loc main_arg1))
      (m ((c.tc : Thread nD τ).loc main_arg2))
  | n + 1 => step n (states c n)

set_option maxRecDepth 65536 in
set_option maxHeartbeats 1000000 in
/-- What precedes the loop leaves the first state. -/
theorem entry (c : Dev nD) : At (entryContents preI m c) (states m c 0) 0 := by
  constructor <;> (simp only [entryContents, afterL_cons, afterL_nil]; after_reads_simp) <;> rfl

/-- After `k` trips the carried buffers hold state `k`. -/
theorem iterate (c : Dev nD) (k : ℕ) : At (STEP^[k] (entryContents preI m c)) (states m c k) k := by
  induction k with
  | zero => exact entry m c
  | succ k ih => rw [Function.iterate_succ_apply']; exact trip ih

set_option maxRecDepth 8192 in
/-- The closing expression over buffers that hold a state. -/
theorem close (h : At W s j) (z : (⟨S16384x2048, .bf16⟩ : BufTy).Contents (Elt F))
    (hz : W (Proc.devRef .tc main_arg3) = z) : out_main_v81 W = R_main_v81 s z := by
  unfold out_main_v81
  rw [h.out, hz]
  rfl

/-- The reference's run: the result is the closing expression of state 128, and the arguments are as they were. -/
theorem run : θ_run (defs (F := F)) (onTc (τ := τ) (main (F := F))) ⟨m, fun _ => 0, ρ⟩ fun r => ∀ c : Dev nD,
      r.2.mem ((c.tc : Thread nD τ).loc main_v81)
          = R_main_v81 (states m c 128) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (close (iterate m c 128) _ (iter_main_arg3 m c 128)), (h c).2⟩)
    (Value.run m ρ)

end Cert.Proof.RetRun

end
-- ==== Proof.RetMath.lean ====
/- Chunkwise retention over the extended reals, written once: the state before a chunk, a chunk's output, and its group
   norm, as functions of the argument arrays. The kernel and the reference are each proved equal to it elsewhere. -/
module

public import proofs.«01_k».proof.Proof.Gen.ReferenceIdeal.Step
public import Idealize.ShloMosaic.Lib.Pointwise

@[expose] public section

noncomputable section

namespace Cert.Proof.Ret

open Idealize.ShloMosaic Cert.ReferenceIdeal Cert.ReferenceIdeal.Step

/-- The arrays the call is given. -/
structure Args where
  q : Vec Ideal S16384x1024 .bf16
  k : Vec Ideal S16384x1024 .f32
  v : Vec Ideal S16384x2048 .bf16
  z : Vec Ideal S16384x2048 .bf16

/-- Row `i` of chunk `n`, as a row of the arrays. -/
def row (n : ℕ) (i : Fin 128) : Fin 16384 := ⟨(n * 128 + i.val) % 16384, Nat.mod_lt _ (by decide)⟩
/-- Feature `d` of head `h` among the query and key columns. -/
def qcol (h : Fin 4) (d : Fin 256) : Fin 1024 := ⟨h.val * 256 + d.val, by omega⟩
/-- Feature `v` of head `h` among the value columns. -/
def vcol (h : Fin 4) (v : Fin 512) : Fin 2048 := ⟨h.val * 512 + v.val, by omega⟩

/-- The decay between row `i` and row `j` of a chunk, for head `h`. -/
def decay (h : Fin 4) (i j : Fin 128) : EReal := K_main_v29 (F := Ideal) (ix3 h i j)
/-- The decay of the state as row `i` reads it. -/
def qdec (h : Fin 4) (i : Fin 128) : EReal := K_main_v37 (F := Ideal) (ix2 h i)
/-- The decay of row `j`'s key as the state takes it up. -/
def kdec (h : Fin 4) (j : Fin 128) : EReal := K_main_v45 (F := Ideal) (ix2 h j)
/-- The decay of the state over a chunk. -/
def cdec (h : Fin 4) : EReal := K_main_v48 (F := Ideal) (ix1 h)

variable (A : Args)

def Q (n : ℕ) (i : Fin 128) (h : Fin 4) (d : Fin 256) : EReal := A.q (ix2 (row n i) (qcol h d))
def K (n : ℕ) (i : Fin 128) (h : Fin 4) (d : Fin 256) : EReal := A.k (ix2 (row n i) (qcol h d))
def V (n : ℕ) (i : Fin 128) (h : Fin 4) (v : Fin 512) : EReal := A.v (ix2 (row n i) (vcol h v))
def Z (n : ℕ) (i : Fin 128) (h : Fin 4) (v : Fin 512) : EReal := A.z (ix2 (row n i) (vcol h v))

/-- The state before chunk `n`. -/
def St : ℕ → Fin 4 → Fin 256 → Fin 512 → EReal
  | 0, _, _, _ => 0
  | n + 1, h, d, v => St n h d v * cdec h + ∑ j : Fin 128, K A n j h d * kdec h j * V A n j h v

/-- A chunk's output, of the state before it. -/
def outOf (s : Fin 256 → Fin 512 → EReal) (n : ℕ) (h : Fin 4) (i : Fin 128) (v : Fin 512) : EReal :=
  ∑ j : Fin 128, (∑ d : Fin 256, Q A n i h d * K A n j h d) * decay h i j * V A n j h v
    + (∑ d : Fin 256, Q A n i h d * s d v) * qdec h i

/-- A row of `512` normalised: less its mean, over the root of its variance and a small constant. -/
def norm (o : Fin 512 → EReal) (v : Fin 512) : EReal :=
  (o v - Ideal.div (∑ u, o u) (Ideal.ofBits .f32 0x44000000#32))
    * Ideal.rsqrt (Ideal.div (∑ u, (o u - Ideal.div (∑ w, o w) (Ideal.ofBits .f32 0x44000000#32))
        * (o u - Ideal.div (∑ w, o w) (Ideal.ofBits .f32 0x44000000#32))) (Ideal.ofBits .f32 0x44000000#32)
      + Ideal.ofBits .f32 0x358637BD#32)

/-- The call's result at row `i` of chunk `n`, feature `v` of head `h`. -/
def res (n : ℕ) (i : Fin 128) (h : Fin 4) (v : Fin 512) : EReal :=
  norm (fun u => outOf A (St A n h) n h i u) v * Z A n i h v

end Cert.Proof.Ret

end
-- ==== Proof.RetRef.lean ====
/- The reference's states and result, element by element, are the recurrence's. -/
module

public import proofs.«01_k».proof.Proof.RetMath
public import proofs.«01_k».proof.Proof.RetRun

@[expose] public section

set_option maxRecDepth 16384

noncomputable section

namespace Cert.Proof.Ret

open Idealize.ShloMosaic Cert.ReferenceIdeal Cert.ReferenceIdeal.Step

/-- A trip's number, read signed and clamped to the 128 chunks, is itself. -/
theorem clamp_num : ∀ n : Fin 128, (min (max (BitVec.ofNat 32 n.val).toInt 0) ((128 - 1 : ℕ) : ℤ)).toNat = n.val := by
  decide +kernel

variable (A : Args)

/-- The query chunks the loop is given. -/
theorem a51 (n : ℕ) (hn : n < 128) (h : Fin 4) (i : Fin 128) (d : Fin 256) :
    A_main_v51 A.q A.k A.v (ix5 ⟨n, hn⟩ 0 h i d) = Q A n i h d := by
  pointwise [A_main_v51, A_main_v50, A_main_v1, A_main_v0, Q, row, qcol]
  congr 2 <;> ext <;> dsimp only <;> omega

/-- The key chunks the loop is given. -/
theorem a53 (n : ℕ) (hn : n < 128) (h : Fin 4) (i : Fin 128) (d : Fin 256) :
    A_main_v53 A.q A.k A.v (ix5 ⟨n, hn⟩ 0 h i d) = K A n i h d := by
  pointwise [A_main_v53, A_main_v52, A_main_v2, K, row, qcol]
  congr 2 <;> ext <;> dsimp only <;> omega

/-- The value chunks the loop is given. -/
theorem a55 (n : ℕ) (hn : n < 128) (h : Fin 4) (i : Fin 128) (v : Fin 512) :
    A_main_v55 A.q A.k A.v (ix5 ⟨n, hn⟩ 0 h i v) = V A n i h v := by
  pointwise [A_main_v55, A_main_v54, A_main_v4, A_main_v3, V, row, vcol]
  congr 2 <;> ext <;> dsimp only <;> omega

section Trip
variable (n : ℕ) (hn : n < 128) (s : State Ideal)
include hn

/-- A trip's query chunk. -/
theorem b5_at (h : Fin 4) (i : Fin 128) (d : Fin 256) :
    b5 n s (ix4 0 h i d) = s.main_v57_0 (ix5 ⟨n, hn⟩ 0 h i d) := by
  pointwise [b5]
  unfold b4 Host.dynamicSlice
  refine congrArg s.main_v57_0 (funext fun a => Fin.ext ?_)
  match a with
  | ⟨0, _⟩ => exact clamp_num ⟨n, hn⟩
  | ⟨1, _⟩ => rfl
  | ⟨2, _⟩ => exact Nat.zero_add _
  | ⟨3, _⟩ => exact Nat.zero_add _
  | ⟨4, _⟩ => exact Nat.zero_add _

/-- A trip's key chunk. -/
theorem b11_at (h : Fin 4) (i : Fin 128) (d : Fin 256) :
    b11 n s (ix4 0 h i d) = s.main_v57_1 (ix5 ⟨n, hn⟩ 0 h i d) := by
  pointwise [b11]
  unfold b10 Host.dynamicSlice
  refine congrArg s.main_v57_1 (funext fun a => Fin.ext ?_)
  match a with
  | ⟨0, _⟩ => exact clamp_num ⟨n, hn⟩
  | ⟨1, _⟩ => rfl
  | ⟨2, _⟩ => exact Nat.zero_add _
  | ⟨3, _⟩ => exact Nat.zero_add _
  | ⟨4, _⟩ => exact Nat.zero_add _

/-- A trip's value chunk. -/
theorem b17_at (h : Fin 4) (i : Fin 128) (v : Fin 512) :
    b17 n s (ix4 0 h i v) = s.main_v57_2 (ix5 ⟨n, hn⟩ 0 h i v) := by
  pointwise [b17]
  unfold b16 Host.dynamicSlice
  refine congrArg s.main_v57_2 (funext fun a => Fin.ext ?_)
  match a with
  | ⟨0, _⟩ => exact clamp_num ⟨n, hn⟩
  | ⟨1, _⟩ => rfl
  | ⟨2, _⟩ => exact Nat.zero_add _
  | ⟨3, _⟩ => exact Nat.zero_add _
  | ⟨4, _⟩ => exact Nat.zero_add _

/-- A trip writes its chunk of the outputs and leaves the others. -/
theorem b40_at (c : Fin 128) (h : Fin 4) (i : Fin 128) (v : Fin 512) :
    b40 n s (ix5 c 0 h i v) = if c.val = n then b26 n s (ix4 0 h i v) else s.main_v57_9 (ix5 c 0 h i v) := by
  pointwise [b40, b35]
  have e0 : ∀ p, Host.clampedStart S128x1x4x128x512 S1x1x4x128x512 p (fun k => BitVec.toInt
      (![constantI S_ 32 (BitVec.ofNat 32 n), b36 n s, b37 n s, b38 n s, b39 n s] k (Shape.Idx.first Gen.h_S_))) 0 = n :=
    fun p => clamp_num ⟨n, hn⟩
  have e1 : ∀ p, Host.clampedStart S128x1x4x128x512 S1x1x4x128x512 p (fun k => BitVec.toInt
      (![constantI S_ 32 (BitVec.ofNat 32 n), b36 n s, b37 n s, b38 n s, b39 n s] k (Shape.Idx.first Gen.h_S_))) 1 = 0 :=
    fun p => rfl
  have e2 : ∀ p, Host.clampedStart S128x1x4x128x512 S1x1x4x128x512 p (fun k => BitVec.toInt
      (![constantI S_ 32 (BitVec.ofNat 32 n), b36 n s, b37 n s, b38 n s, b39 n s] k (Shape.Idx.first Gen.h_S_))) 2 = 0 :=
    fun p => rfl
  have e3 : ∀ p, Host.clampedStart S128x1x4x128x512 S1x1x4x128x512 p (fun k => BitVec.toInt
      (![constantI S_ 32 (BitVec.ofNat 32 n), b36 n s, b37 n s, b38 n s, b39 n s] k (Shape.Idx.first Gen.h_S_))) 3 = 0 :=
    fun p => rfl
  have e4 : ∀ p, Host.clampedStart S128x1x4x128x512 S1x1x4x128x512 p (fun k => BitVec.toInt
      (![constantI S_ 32 (BitVec.ofNat 32 n), b36 n s, b37 n s, b38 n s, b39 n s] k (Shape.Idx.first Gen.h_S_))) 4 = 0 :=
    fun p => rfl
  by_cases hc : c.val = n
  · rw [if_pos hc, dif_pos (by rw [e0, e1, e2, e3, e4]; omega)]
    congr 2 <;> ext <;> simp only [e2, e3, e4, Nat.sub_zero]
  · rw [if_neg hc, dif_neg (by rw [e0]; omega)]

end Trip

/-- What the recurrence says of the state of the loop before trip `n`. -/
structure Inv (n : ℕ) (s : State Ideal) : Prop where
  q : s.main_v57_0 = A_main_v51 A.q A.k A.v
  k : s.main_v57_1 = A_main_v53 A.q A.k A.v
  v : s.main_v57_2 = A_main_v55 A.q A.k A.v
  st : ∀ h d u, s.main_v57_8 (ix4 0 h d u) = St A n h d u
  out : ∀ c : Fin 128, c.val < n → ∀ h i u, s.main_v57_9 (ix5 c 0 h i u) = outOf A (St A c.val h) c.val h i u

theorem inv_zero : Inv A 0 (init A.q A.k A.v) where
  q := rfl
  k := rfl
  v := rfl
  st h d u := by
    show K_main_v49 (F := Ideal) (ix4 0 h d u) = 0
    pointwise [K_main_v49, K_main_cst_8]
  out c hc := absurd hc (Nat.not_lt_zero _)

theorem inv_step (n : ℕ) (hn : n < 128) (s : State Ideal) (I : Inv A n s) : Inv A (n + 1) (step n s) where
  q := I.q
  k := I.k
  v := I.v
  st h d u := by
    rw [step_main_v57_8]
    pointwise [b34, b33, b32, b31, b30, b29, b28, b27]
    simp only [b11_at n hn, b17_at n hn, I.k, I.v, a53, a55, I.st]
    rfl
  out c hc h i u := by
    rw [step_main_v57_9, b40_at n hn]
    by_cases e : c.val = n
    · rw [if_pos e]
      subst e
      pointwise [b26, b25, b24, b23, b22, b21, b20, b19, b18]
      simp only [b5_at _ hn, b11_at _ hn, b17_at _ hn, I.q, I.k, I.v, a51, a53, a55, I.st]
      rfl
    · rw [if_neg e]
      exact I.out c (by omega) h i u

/-- The reference's result at row `r`, column `k`. -/
theorem ref_at (s : State Ideal) (I : Inv A 128 s) (r : Fin 16384) (k : Fin 2048) :
    R_main_v81 s A.z (ix2 r k)
      = res A (r.val / 128) ⟨r.val % 128, by omega⟩ ⟨k.val / 512, by omega⟩ ⟨k.val % 512, by omega⟩ := by
  pointwise [R_main_v81]
  have hc : r.val / 128 < 128 := by omega
  simp only [I.out ⟨r.val / 128, hc⟩ hc]
  unfold res norm Z
  congr 1
  refine congrArg A.z (congrArg₂ ix2 (Fin.ext ?_) (Fin.ext ?_))
  · show r.val = (r.val / 128 * 128 + r.val % 128) % 16384
    omega
  · show k.val = k.val / 512 * 512 + k.val % 512
    omega

end Cert.Proof.Ret

end
-- ==== Proof.RetHeads.lean ====
module

public import proofs.«01_k».proof.Proof.RetMath
public import proofs.«01_k».proof.Proof.Gen.KernelIdeal.Value
public import Idealize.ShloMosaic.Lib.Pointwise
public import Idealize.ShloMosaic.Lib.Pipeline.ValueKit
public import Idealize.ShloMosaic.Lib.Pipeline.ReadBack

/-! # The retention kernel's stores, head by head

The body treats the four heads one after the other. Each store is read here at an index and equals
one formula in the head's number: `blkSt` for the state, `blkOut` for the output before its norm. -/

@[expose] public section

open Idealize Idealize.ShloMosaic
open Cert.KernelIdeal Cert.KernelIdeal.Gen

set_option maxRecDepth 16384

noncomputable section

namespace Cert.Proof.RetKernel

/-- Column `h * 256 + d` of a row of the queries and keys. -/
def qc (h : Fin 4) (d : Fin 256) : Fin 1024 := ⟨h.val * 256 + d.val, by omega⟩

/-- Column `h * 512 + v` of a row of the values. -/
def vc (h : Fin 4) (v : Fin 512) : Fin 2048 := ⟨h.val * 512 + v.val, by omega⟩

/-- Entry `(h, d, v)` of the state after a chunk, from the chunk's blocks and the state before it. -/
def blkSt (k : Vec Ideal S128x1024 .f32) (v : Vec Ideal S128x2048 .bf16) (kd : Vec Ideal S4x128x1 .f32)
    (cd : Vec Ideal S4x1x1 .f32) (s : Vec Ideal S4x256x512 .f32) (h : Fin 4) (d : Fin 256) (u : Fin 512) : EReal :=
  s (ix3 h d u) * cd (ix3 h 0 0) +
    ∑ j : Fin 128, k (ix2 j (qc h d)) * kd (ix3 h j 0) * v (ix2 j (vc h u))

/-- Row `i`, column `u` of head `h` of the output before its norm, from the chunk's blocks and the state
before the chunk. -/
def blkOut (q : Vec Ideal S128x1024 .bf16) (k : Vec Ideal S128x1024 .f32) (v : Vec Ideal S128x2048 .bf16)
    (dm : Vec Ideal S4x128x128 .f32) (qd : Vec Ideal S4x128x1 .f32) (s : Vec Ideal S4x256x512 .f32)
    (h : Fin 4) (i : Fin 128) (u : Fin 512) : EReal :=
  (∑ j : Fin 128, (∑ d : Fin 256, q (ix2 i (qc h d)) * k (ix2 j (qc h d))) * dm (ix3 h i j) * v (ix2 j (vc h u))) +
    (∑ d : Fin 256, q (ix2 i (qc h d)) * s (ix3 h d u)) * qd (ix3 h i 0)

variable (x0 : Vec Ideal S128x1024 .bf16) (x1 : Vec Ideal S128x1024 .f32) (x2 : Vec Ideal S128x2048 .bf16)
  (x3 : Vec Ideal S128x2048 .bf16) (x4 : Vec Ideal S4x128x128 .f32) (x5 : Vec Ideal S4x128x1 .f32)
  (x6 : Vec Ideal S4x128x1 .f32) (x7 : Vec Ideal S4x1x1 .f32) (s : Vec Ideal S4x256x512 .f32)

/-- The columns of head 0. -/
theorem qc_0 (d : Fin 256) : qc 0 d = ⟨d.val, by omega⟩ := Fin.ext (by simp [qc])

/-- The columns of head 0. -/
theorem vc_0 (v : Fin 512) : vc 0 v = ⟨v.val, by omega⟩ := Fin.ext (by simp [vc])

/-- The columns of head 1. -/
theorem qc_1 (d : Fin 256) : qc 1 d = ⟨256 + d.val, by omega⟩ := Fin.ext (by simp [qc])

/-- The columns of head 1. -/
theorem vc_1 (v : Fin 512) : vc 1 v = ⟨512 + v.val, by omega⟩ := Fin.ext (by simp [vc])

/-- The columns of head 2. -/
theorem qc_2 (d : Fin 256) : qc 2 d = ⟨512 + d.val, by omega⟩ := Fin.ext (by simp [qc])

/-- The columns of head 2. -/
theorem vc_2 (v : Fin 512) : vc 2 v = ⟨1024 + v.val, by omega⟩ := Fin.ext (by simp [vc])

/-- The columns of head 3. -/
theorem qc_3 (d : Fin 256) : qc 3 d = ⟨768 + d.val, by omega⟩ := Fin.ext (by simp [qc])

/-- The columns of head 3. -/
theorem vc_3 (v : Fin 512) : vc 3 v = ⟨1536 + v.val, by omega⟩ := Fin.ext (by simp [vc])

/-- What the body stores for the state of head 0. -/
theorem st0 (d : Fin 256) (v : Fin 512) :
    k0_pay7 (View.ld x2 (Rect.unit ![0, 0] ![128, 512] inb_S128x2048_S128x512_0_0))
      (k0_pay5 (View.ld s (Rect.unit ![0, 0, 0] ![1, 256, 512] inb_S4x256x512_S1x256x512_0_0_0))
        (View.ld x7 (Rect.unit ![0, 0, 0] ![1, 1, 1] inb_S4x1x1_S1x1x1_0_0_0)))
      (k0_pay6 (View.ld x1 (Rect.unit ![0, 0] ![128, 256] inb_S128x1024_S128x256_0_0))
        (View.ld x6 (Rect.unit ![0, 0, 0] ![1, 128, 1] inb_S4x128x1_S1x128x1_0_0_0)))
      (constant S256x512 FTy.f32 0#32) (ix3 0 d v) =
    blkSt x1 x2 x6 x7 s 0 d v := by
  simp only [blkSt, qc_0, vc_0]
  pointwise [k0_pay7, k0_pay5, k0_pay6, k0_pay3]

/-- What the body stores for the state of head 1. -/
theorem st1 (d : Fin 256) (v : Fin 512) :
    k0_pay11 (View.ld x1 (Rect.unit ![0, 256] ![128, 256] inb_S128x1024_S128x256_0_256))
      (View.ld x2 (Rect.unit ![0, 512] ![128, 512] inb_S128x2048_S128x512_0_512))
      (k0_pay9 (View.ld s (Rect.unit ![1, 0, 0] ![1, 256, 512] inb_S4x256x512_S1x256x512_1_0_0)))
      (View.ld x7 (Rect.unit ![1, 0, 0] ![1, 1, 1] inb_S4x1x1_S1x1x1_1_0_0))
      (View.ld x6 (Rect.unit ![1, 0, 0] ![1, 128, 1] inb_S4x128x1_S1x128x1_1_0_0)) (ix3 0 d v) =
    blkSt x1 x2 x6 x7 s 1 d v := by
  simp only [blkSt, qc_1, vc_1]
  pointwise [k0_pay11, k0_pay9]

/-- What the body stores for the state of head 2. -/
theorem st2 (d : Fin 256) (v : Fin 512) :
    k0_pay18 (View.ld x1 (Rect.unit ![0, 512] ![128, 256] inb_S128x1024_S128x256_0_512))
      (View.ld x2 (Rect.unit ![0, 1024] ![128, 512] inb_S128x2048_S128x512_0_1024))
      (k0_pay17 (View.ld s (Rect.unit ![2, 0, 0] ![1, 256, 512] inb_S4x256x512_S1x256x512_2_0_0))
        (View.ld x7 (Rect.unit ![2, 0, 0] ![1, 1, 1] inb_S4x1x1_S1x1x1_2_0_0)))
      (View.ld x6 (Rect.unit ![2, 0, 0] ![1, 128, 1] inb_S4x128x1_S1x128x1_2_0_0)) (ix3 0 d v) =
    blkSt x1 x2 x6 x7 s 2 d v := by
  simp only [blkSt, qc_2, vc_2]
  pointwise [k0_pay18, k0_pay17, k0_pay15]

/-- What the body stores for the state of head 3. -/
theorem st3 (d : Fin 256) (v : Fin 512) :
    k0_pay21 (View.ld x1 (Rect.unit ![0, 768] ![128, 256] inb_S128x1024_S128x256_0_768))
      (View.ld x2 (Rect.unit ![0, 1536] ![128, 512] inb_S128x2048_S128x512_0_1536))
      (k0_pay20 (View.ld s (Rect.unit ![3, 0, 0] ![1, 256, 512] inb_S4x256x512_S1x256x512_3_0_0)))
      (View.ld x7 (Rect.unit ![3, 0, 0] ![1, 1, 1] inb_S4x1x1_S1x1x1_3_0_0))
      (View.ld x6 (Rect.unit ![3, 0, 0] ![1, 128, 1] inb_S4x128x1_S1x128x1_3_0_0)) (ix3 0 d v) =
    blkSt x1 x2 x6 x7 s 3 d v := by
  simp only [blkSt, qc_3, vc_3]
  pointwise [k0_pay21, k0_pay20]

/-- What the body stores for the output of head 0. -/
theorem out0 (i : Fin 128) (u : Fin 512) :
    k0_pay8 (k0_pay4 (View.ld x0 (Rect.unit ![0, 0] ![128, 256] inb_S128x1024_S128x256_0_0))
        (View.ld x1 (Rect.unit ![0, 0] ![128, 256] inb_S128x1024_S128x256_0_0))
        (View.ld x2 (Rect.unit ![0, 0] ![128, 512] inb_S128x2048_S128x512_0_0))
        (View.ld s (Rect.unit ![0, 0, 0] ![1, 256, 512] inb_S4x256x512_S1x256x512_0_0_0))
        (View.ld x4 (Rect.unit ![0, 0, 0] ![1, 128, 128] inb_S4x128x128_S1x128x128_0_0_0))
        (View.ld x5 (Rect.unit ![0, 0, 0] ![1, 128, 1] inb_S4x128x1_S1x128x1_0_0_0)))
      (View.ld x3 (Rect.unit ![0, 0] ![128, 512] inb_S128x2048_S128x512_0_0)) (ix2 i u) =
    Ret.norm (blkOut x0 x1 x2 x4 x5 s 0 i) u * x3 (ix2 i (vc 0 u)) := by
  simp only [Ret.norm, blkOut, qc_0, vc_0]
  pointwise [k0_pay8, k0_pay4, k0_pay3]

/-- What the body stores for the output of head 1. -/
theorem out1 (i : Fin 128) (u : Fin 512) :
    k0_pay14 (k0_pay12 (View.ld x0 (Rect.unit ![0, 256] ![128, 256] inb_S128x1024_S128x256_0_256))
        (View.ld x2 (Rect.unit ![0, 512] ![128, 512] inb_S128x2048_S128x512_0_512))
        (k0_pay9 (View.ld s (Rect.unit ![1, 0, 0] ![1, 256, 512] inb_S4x256x512_S1x256x512_1_0_0)))
        (k0_pay10 (View.ld x0 (Rect.unit ![0, 256] ![128, 256] inb_S128x1024_S128x256_0_256))
          (View.ld x1 (Rect.unit ![0, 256] ![128, 256] inb_S128x1024_S128x256_0_256)))
        (View.ld x4 (Rect.unit ![1, 0, 0] ![1, 128, 128] inb_S4x128x128_S1x128x128_1_0_0))
        (View.ld x5 (Rect.unit ![1, 0, 0] ![1, 128, 1] inb_S4x128x1_S1x128x1_1_0_0)))
      (k0_pay13 (View.ld x0 (Rect.unit ![0, 256] ![128, 256] inb_S128x1024_S128x256_0_256))
        (View.ld x2 (Rect.unit ![0, 512] ![128, 512] inb_S128x2048_S128x512_0_512))
        (k0_pay9 (View.ld s (Rect.unit ![1, 0, 0] ![1, 256, 512] inb_S4x256x512_S1x256x512_1_0_0)))
        (k0_pay10 (View.ld x0 (Rect.unit ![0, 256] ![128, 256] inb_S128x1024_S128x256_0_256))
          (View.ld x1 (Rect.unit ![0, 256] ![128, 256] inb_S128x1024_S128x256_0_256)))
        (View.ld x4 (Rect.unit ![1, 0, 0] ![1, 128, 128] inb_S4x128x128_S1x128x128_1_0_0))
        (View.ld x5 (Rect.unit ![1, 0, 0] ![1, 128, 1] inb_S4x128x1_S1x128x1_1_0_0)))
      (View.ld x3 (Rect.unit ![0, 512] ![128, 512] inb_S128x2048_S128x512_0_512)) (ix2 i u) =
    Ret.norm (blkOut x0 x1 x2 x4 x5 s 1 i) u * x3 (ix2 i (vc 1 u)) := by
  simp only [Ret.norm, blkOut, qc_1, vc_1]
  pointwise [k0_pay14, k0_pay12, k0_pay13, k0_pay9, k0_pay10]

/-- What the body stores for the output of head 2. -/
theorem out2 (i : Fin 128) (u : Fin 512) :
    k0_pay19 (k0_pay16 (View.ld x0 (Rect.unit ![0, 512] ![128, 256] inb_S128x1024_S128x256_0_512))
        (View.ld x1 (Rect.unit ![0, 512] ![128, 256] inb_S128x1024_S128x256_0_512))
        (View.ld x2 (Rect.unit ![0, 1024] ![128, 512] inb_S128x2048_S128x512_0_1024))
        (View.ld s (Rect.unit ![2, 0, 0] ![1, 256, 512] inb_S4x256x512_S1x256x512_2_0_0))
        (View.ld x4 (Rect.unit ![2, 0, 0] ![1, 128, 128] inb_S4x128x128_S1x128x128_2_0_0))
        (View.ld x5 (Rect.unit ![2, 0, 0] ![1, 128, 1] inb_S4x128x1_S1x128x1_2_0_0)))
      (View.ld x3 (Rect.unit ![0, 1024] ![128, 512] inb_S128x2048_S128x512_0_1024)) (ix2 i u) =
    Ret.norm (blkOut x0 x1 x2 x4 x5 s 2 i) u * x3 (ix2 i (vc 2 u)) := by
  simp only [Ret.norm, blkOut, qc_2, vc_2]
  pointwise [k0_pay19, k0_pay16, k0_pay15]

/-- What the body stores for the output of head 3. -/
theorem out3 (i : Fin 128) (u : Fin 512) :
    k0_pay1 (k0_pay22 (View.ld x0 (Rect.unit ![0, 768] ![128, 256] inb_S128x1024_S128x256_0_768))
        (View.ld x1 (Rect.unit ![0, 768] ![128, 256] inb_S128x1024_S128x256_0_768))
        (View.ld x2 (Rect.unit ![0, 1536] ![128, 512] inb_S128x2048_S128x512_0_1536))
        (k0_pay20 (View.ld s (Rect.unit ![3, 0, 0] ![1, 256, 512] inb_S4x256x512_S1x256x512_3_0_0)))
        (View.ld x4 (Rect.unit ![3, 0, 0] ![1, 128, 128] inb_S4x128x128_S1x128x128_3_0_0))
        (View.ld x5 (Rect.unit ![3, 0, 0] ![1, 128, 1] inb_S4x128x1_S1x128x1_3_0_0)))
      (k0_pay23 (View.ld x0 (Rect.unit ![0, 768] ![128, 256] inb_S128x1024_S128x256_0_768))
        (View.ld x1 (Rect.unit ![0, 768] ![128, 256] inb_S128x1024_S128x256_0_768))
        (View.ld x2 (Rect.unit ![0, 1536] ![128, 512] inb_S128x2048_S128x512_0_1536))
        (k0_pay20 (View.ld s (Rect.unit ![3, 0, 0] ![1, 256, 512] inb_S4x256x512_S1x256x512_3_0_0)))
        (View.ld x4 (Rect.unit ![3, 0, 0] ![1, 128, 128] inb_S4x128x128_S1x128x128_3_0_0))
        (View.ld x5 (Rect.unit ![3, 0, 0] ![1, 128, 1] inb_S4x128x1_S1x128x1_3_0_0)))
      (View.ld x3 (Rect.unit ![0, 1536] ![128, 512] inb_S128x2048_S128x512_0_1536)) (ix2 i u) =
    Ret.norm (blkOut x0 x1 x2 x4 x5 s 3 i) u * x3 (ix2 i (vc 3 u)) := by
  simp only [Ret.norm, blkOut, qc_3, vc_3]
  pointwise [k0_pay1, k0_pay22, k0_pay23, k0_pay20]

end Cert.Proof.RetKernel

end

end
-- ==== Proof.RetBlocks.lean ====
module

public import proofs.«01_k».proof.Proof.RetHeads

/-! # The retention kernel's input blocks

Each input block at grid point `t`, read at an index: the rows `128 t, …` of an argument, or a table
of decay factors, which the host computes as the reference does. -/

@[expose] public section

open Idealize Idealize.ShloMosaic
open Cert.KernelIdeal Cert.KernelIdeal.Gen

set_option maxRecDepth 16384

noncomputable section

namespace Cert.Proof.RetKernel

variable (m : (ℓ : Loc nD τ sig) → Buf (Elt Ideal) ℓ)

/-- The host's table of decays inside a chunk is the reference's. -/
theorem V_decay (c : Dev nD) : V m c main_v24 = Cert.ReferenceIdeal.Step.K_main_v29 (F := Ideal) := by
  entry_read
  rfl

/-- The host's table of query decays at an index. -/
theorem V_qdec (c : Dev nD) (h : Fin 4) (i : Fin 128) :
    (V m c main_v33 : Vec Ideal S4x128x1 .f32) (ix3 h i 0) = Ret.qdec h i := by
  have e : V m c main_v33 = broadcastInDim S4x128x1 ![0, 1] bcast_S4x128_S4x128x1_0_1
      (Cert.ReferenceIdeal.Step.K_main_v37 (F := Ideal)) := by
    entry_read
    rfl
  rw [e]; unfold Ret.qdec; pointwise

/-- The host's table of key decays at an index. -/
theorem V_kdec (c : Dev nD) (h : Fin 4) (i : Fin 128) :
    (V m c main_v42 : Vec Ideal S4x128x1 .f32) (ix3 h i 0) = Ret.kdec h i := by
  have e : V m c main_v42 = broadcastInDim S4x128x1 ![0, 1] bcast_S4x128_S4x128x1_0_1
      (Cert.ReferenceIdeal.Step.K_main_v45 (F := Ideal)) := by
    entry_read
    rfl
  rw [e]; unfold Ret.kdec; pointwise

/-- The host's chunk decays at an index. -/
theorem V_cdec (c : Dev nD) (h : Fin 4) :
    (V m c main_v46 : Vec Ideal S4x1x1 .f32) (ix3 h 0 0) = Ret.cdec h := by
  have e : V m c main_v46 = broadcastInDim S4x1x1 ![0] bcast_S4_S4x1x1_0
      (Cert.ReferenceIdeal.Step.K_main_v48 (F := Ideal)) := by
    entry_read
    rfl
  rw [e]; unfold Ret.cdec; pointwise

/-- The arguments a core holds. -/
def args (c : Dev nD) : Ret.Args where
  q := m (c.tc.loc main_arg0)
  k := m (c.tc.loc main_arg1)
  v := m (c.tc.loc main_arg2)
  z := m (c.tc.loc main_arg3)

/-- Where each input block lies. -/
theorem idx_facts : ∀ t : Fin cfg0.N, win0_0.index t = ![t.val, 0] ∧ win0_1.index t = ![t.val, 0]
    ∧ win0_2.index t = ![t.val, 0] ∧ win0_3.index t = ![t.val, 0] ∧ win0_4.index t = ![0, 0, 0]
    ∧ win0_5.index t = ![0, 0, 0] ∧ win0_6.index t = ![0, 0, 0] ∧ win0_7.index t = ![0, 0, 0] :=
  (by decide +kernel : ∀ t : Fin grid0.N, _)

/-- Row `i` of chunk `t` lies in the arrays. -/
theorem row_val (t : Fin cfg0.N) (i : Fin 128) : (Ret.row t.val i).val = t.val * 128 + i.val := by
  have hN := lt_of_lt_of_eq t.isLt (show cfg0.N = 128 from N_0)
  show (t.val * 128 + i.val) % 16384 = _
  omega

/-- Input block 0 at an index. -/
theorem blk0 (c : Dev nD) (t : Fin cfg0.N) (i : Fin 128) (h : Fin 4) (d : Fin 256) :
    (iblk m c 0 t : Vec Ideal S128x1024 .bf16) (ix2 i (qc h d)) = Ret.Q (args m c) t.val i h d := by
  have hr := row_val t i
  unfold Ret.Q args Ret.qcol qc
  generalize Ret.row t.val i = r at hr ⊢
  blk_ext [iblk, Gen.V, idx_facts t]

/-- Input block 1 at an index. -/
theorem blk1 (c : Dev nD) (t : Fin cfg0.N) (i : Fin 128) (h : Fin 4) (d : Fin 256) :
    (iblk m c 1 t : Vec Ideal S128x1024 .f32) (ix2 i (qc h d)) = Ret.K (args m c) t.val i h d := by
  have hr := row_val t i
  unfold Ret.K args Ret.qcol qc
  generalize Ret.row t.val i = r at hr ⊢
  blk_ext [iblk, Gen.V, idx_facts t]

/-- Input block 2 at an index. -/
theorem blk2 (c : Dev nD) (t : Fin cfg0.N) (i : Fin 128) (h : Fin 4) (d : Fin 512) :
    (iblk m c 2 t : Vec Ideal S128x2048 .bf16) (ix2 i (vc h d)) = Ret.V (args m c) t.val i h d := by
  have hr := row_val t i
  unfold Ret.V args Ret.vcol vc
  generalize Ret.row t.val i = r at hr ⊢
  blk_ext [iblk, Gen.V, idx_facts t]

/-- Input block 3 at an index. -/
theorem blk3 (c : Dev nD) (t : Fin cfg0.N) (i : Fin 128) (h : Fin 4) (d : Fin 512) :
    (iblk m c 3 t : Vec Ideal S128x2048 .bf16) (ix2 i (vc h d)) = Ret.Z (args m c) t.val i h d := by
  have hr := row_val t i
  unfold Ret.Z args Ret.vcol vc
  generalize Ret.row t.val i = r at hr ⊢
  blk_ext [iblk, Gen.V, idx_facts t]

/-- Input block 4 at an index. -/
theorem blk4 (c : Dev nD) (t : Fin cfg0.N) (h : Fin 4) (i j : Fin 128) :
    (iblk m c 4 t : Vec Ideal S4x128x128 .f32) (ix3 h i j) = Ret.decay h i j := by
  have e : (iblk m c 4 t : Vec Ideal S4x128x128 .f32) (ix3 h i j) = (Gen.V m c main_v24 : Vec Ideal S4x128x128 .f32) (ix3 h i j) := by
    blk_ext [iblk, idx_facts t]
  rw [e]
  exact congrFun (V_decay m c) _

/-- Input block 5 at an index. -/
theorem blk5 (c : Dev nD) (t : Fin cfg0.N) (h : Fin 4) (i : Fin 128) :
    (iblk m c 5 t : Vec Ideal S4x128x1 .f32) (ix3 h i 0) = Ret.qdec h i := by
  have e : (iblk m c 5 t : Vec Ideal S4x128x1 .f32) (ix3 h i 0) = (Gen.V m c main_v33 : Vec Ideal S4x128x1 .f32) (ix3 h i 0) := by
    blk_ext [iblk, idx_facts t]
  rw [e]
  exact V_qdec ..

/-- Input block 6 at an index. -/
theorem blk6 (c : Dev nD) (t : Fin cfg0.N) (h : Fin 4) (i : Fin 128) :
    (iblk m c 6 t : Vec Ideal S4x128x1 .f32) (ix3 h i 0) = Ret.kdec h i := by
  have e : (iblk m c 6 t : Vec Ideal S4x128x1 .f32) (ix3 h i 0) = (Gen.V m c main_v42 : Vec Ideal S4x128x1 .f32) (ix3 h i 0) := by
    blk_ext [iblk, idx_facts t]
  rw [e]
  exact V_kdec ..

/-- Input block 7 at an index. -/
theorem blk7 (c : Dev nD) (t : Fin cfg0.N) (h : Fin 4) :
    (iblk m c 7 t : Vec Ideal S4x1x1 .f32) (ix3 h 0 0) = Ret.cdec h := by
  have e : (iblk m c 7 t : Vec Ideal S4x1x1 .f32) (ix3 h 0 0) = (Gen.V m c main_v46 : Vec Ideal S4x1x1 .f32) (ix3 h 0 0) := by
    blk_ext [iblk, idx_facts t]
  rw [e]
  exact V_cdec ..

end Cert.Proof.RetKernel

end

end
-- ==== Proof.RetKernel.lean ====
module

public import proofs.«01_k».proof.Proof.RetBlocks

/-! # The retention kernel, chunk by chunk

What the body leaves in the state and in its output block at a grid point, as the formulas `blkSt`
and `blkOut` of `RetHeads` over the point's input blocks. -/

@[expose] public section

open Idealize Idealize.ShloMosaic
open Cert.KernelIdeal Cert.KernelIdeal.Gen

set_option maxRecDepth 16384

noncomputable section

namespace Cert.Proof.RetKernel

variable (m : (ℓ : Loc nD τ sig) → Buf (Elt Ideal) ℓ)

/-- A position in one head's state, from its coordinates. -/
theorem st_idx (x : S1x256x512.Idx) (h : Fin 4) (d : Fin 256) (v : Fin 512) (h1 : d.val = (x 1).val)
    (h2 : v.val = (x 2).val) : x = ix3 0 d v := by
  idx_vars x
  obtain rfl := Fin.ext h1
  obtain rfl := Fin.ext h2
  exact congrArg (fun a => ix3 a _ _) (Subsingleton.elim _ _)

/-- The state after a point that is not the first, from the state before it. -/
theorem state_B (c : Dev nD) (t : Fin cfg0.N) (h0 : ¬t.val % 128 = 0) (h : Fin 4) (d : Fin 256) (v : Fin 512) :
    (outsAt0 m c t.val t.isLt).2 (ix3 h d v) =
      blkSt (iblk m c 1 t) (iblk m c 2 t) (iblk m c 6 t) (iblk m c 7 t)
        (outsAt0 m c (t.val - 1) (Nat.lt_of_le_of_lt (Nat.sub_le _ _) t.isLt)).2 h d v := by
  rw [outsAt0_B m c t h0]
  generalize (outsAt0 m c (t.val - 1) _).2 = s
  generalize (iblk m c 0 t : Vec Ideal S128x1024 .bf16) = x0
  generalize (iblk m c 1 t : Vec Ideal S128x1024 .f32) = x1
  generalize (iblk m c 2 t : Vec Ideal S128x2048 .bf16) = x2
  generalize (iblk m c 3 t : Vec Ideal S128x2048 .bf16) = x3
  generalize (iblk m c 4 t : Vec Ideal S4x128x128 .f32) = x4
  generalize (iblk m c 5 t : Vec Ideal S4x128x1 .f32) = x5
  generalize (iblk m c 6 t : Vec Ideal S4x128x1 .f32) = x6
  generalize (iblk m c 7 t : Vec Ideal S4x1x1 .f32) = x7
  dsimp only
  frame_out
  simp only [read_unread_whole]
  canon_tiles x hx
  · obtain rfl : h = 3 := Fin.ext (hx0.trans (by omega))
    rw [st_idx x 3 d v hx1 hx2]; exact st3 ..
  · obtain rfl : h = 2 := Fin.ext (hx0.trans (by omega))
    rw [st_idx x 2 d v hx1 hx2]; exact st2 ..
  · obtain rfl : h = 1 := Fin.ext (hx0.trans (by omega))
    rw [st_idx x 1 d v hx1 hx2]; exact st1 ..
  · obtain rfl : h = 0 := Fin.ext (hx0.trans (by omega))
    rw [st_idx x 0 d v hx1 hx2]; exact st0 ..

/-- A position in one head's output, from its coordinates. -/
theorem out_idx (x : S128x512.Idx) (i : Fin 128) (v : Fin 512) (h1 : i.val = (x 0).val)
    (h2 : v.val = (x 1).val) : x = ix2 i v := by
  idx_vars x
  obtain rfl := Fin.ext h1
  obtain rfl := Fin.ext h2
  rfl

/-- The output block after a point that is not the first. -/
theorem out_B (c : Dev nD) (t : Fin cfg0.N) (h0 : ¬t.val % 128 = 0) (i : Fin 128) (h : Fin 4) (v : Fin 512) :
    (outsAt0 m c t.val t.isLt).1 (ix2 i (vc h v)) =
      Ret.norm (blkOut (iblk m c 0 t) (iblk m c 1 t) (iblk m c 2 t) (iblk m c 4 t) (iblk m c 5 t)
        (outsAt0 m c (t.val - 1) (Nat.lt_of_le_of_lt (Nat.sub_le _ _) t.isLt)).2 h i) v
        * (iblk m c 3 t : Vec Ideal S128x2048 .bf16) (ix2 i (vc h v)) := by
  rw [outsAt0_B m c t h0]
  generalize (outsAt0 m c (t.val - 1) _).2 = s
  generalize (iblk m c 0 t : Vec Ideal S128x1024 .bf16) = x0
  generalize (iblk m c 1 t : Vec Ideal S128x1024 .f32) = x1
  generalize (iblk m c 2 t : Vec Ideal S128x2048 .bf16) = x2
  generalize (iblk m c 3 t : Vec Ideal S128x2048 .bf16) = x3
  generalize (iblk m c 4 t : Vec Ideal S4x128x128 .f32) = x4
  generalize (iblk m c 5 t : Vec Ideal S4x128x1 .f32) = x5
  generalize (iblk m c 6 t : Vec Ideal S4x128x1 .f32) = x6
  generalize (iblk m c 7 t : Vec Ideal S4x1x1 .f32) = x7
  dsimp only
  frame_out
  simp only [read_unread_whole]
  have hv : ((vc h v).val : ℕ) = h.val * 512 + v.val := rfl
  canon_tiles x hx
  all_goals
    have hx1' : (vc h v).val = _ := hx1
    have hh := h.isLt
  · obtain rfl : h = 3 := Fin.ext (by show h.val = 3; omega)
    rw [out_idx x i v hx0 (by have : ((3 : Fin 4) : ℕ) = 3 := rfl; omega)]; exact out3 ..
  · obtain rfl : h = 2 := Fin.ext (by show h.val = 2; omega)
    rw [out_idx x i v hx0 (by have : ((2 : Fin 4) : ℕ) = 2 := rfl; omega)]; exact out2 ..
  · obtain rfl : h = 1 := Fin.ext (by show h.val = 1; omega)
    rw [out_idx x i v hx0 (by have : ((1 : Fin 4) : ℕ) = 1 := rfl; omega)]; exact out1 ..
  · obtain rfl : h = 0 := Fin.ext (by show h.val = 0; omega)
    rw [out_idx x i v hx0 (by have : ((0 : Fin 4) : ℕ) = 0 := rfl; omega)]; exact out0 ..

/-- A store over the whole buffer, under stores that cover an index, is not read there. -/
theorem canon_drop {S : Shape} {e : EltTy} : ∀ (L L' : List (View.Piece (Elt Ideal) S e)) (y : S.Idx),
    (∃ p ∈ L, y ∈ p.1.set) → View.canon (L ++ L') y = View.canon L y
  | [], _, _, hc => by obtain ⟨p, hp, _⟩ := hc; exact absurd hp List.not_mem_nil
  | p :: L, L', y, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L L' y ?_
      obtain ⟨q, hq, hyq⟩ := hc
      rcases List.mem_cons.mp hq with rfl | hq'
      · exact absurd hyq hm
      · exact ⟨q, hq', hyq⟩

/-- The same for four stores over one. -/
theorem canon_drop4 {S : Shape} {e : EltTy} (a b c d z : View.Piece (Elt Ideal) S e) (y : S.Idx)
    (hc : ∃ p ∈ [a, b, c, d], y ∈ p.1.set) : View.canon [a, b, c, d, z] y = View.canon [a, b, c, d] y :=
  canon_drop [a, b, c, d] [z] y hc

/-- The state after the first point, which starts from zero. -/
theorem state_A (c : Dev nD) (t : Fin cfg0.N) (h0 : t.val % 128 = 0) (h : Fin 4) (d : Fin 256) (v : Fin 512) :
    (outsAt0 m c t.val t.isLt).2 (ix3 h d v) =
      blkSt (iblk m c 1 t) (iblk m c 2 t) (iblk m c 6 t) (iblk m c 7 t) (k0_pay2 (F := Ideal)) h d v := by
  rw [outsAt0_A m c t h0]
  generalize (iblk m c 0 t : Vec Ideal S128x1024 .bf16) = x0
  generalize (iblk m c 1 t : Vec Ideal S128x1024 .f32) = x1
  generalize (iblk m c 2 t : Vec Ideal S128x2048 .bf16) = x2
  generalize (iblk m c 3 t : Vec Ideal S128x2048 .bf16) = x3
  generalize (iblk m c 4 t : Vec Ideal S4x128x128 .f32) = x4
  generalize (iblk m c 5 t : Vec Ideal S4x128x1 .f32) = x5
  generalize (iblk m c 6 t : Vec Ideal S4x128x1 .f32) = x6
  generalize (iblk m c 7 t : Vec Ideal S4x1x1 .f32) = x7
  dsimp only
  frame_open
  simp (disch := decide) only [↓ View.readCov_skip, ↓ View.readCov_cons_toLoadRect, ↓ View.readCov_fill]
  frame_out
  rw [canon_drop4]
  rotate_left
  · refine View.cover_of_tiledL (s := S4x256x512) _ ![1, 256, 512] ?_ _
    sl_kernel_rfl
  canon_tiles x hx
  · obtain rfl : h = 3 := Fin.ext (hx0.trans (by omega))
    rw [st_idx x 3 d v hx1 hx2]; exact st3 ..
  · obtain rfl : h = 2 := Fin.ext (hx0.trans (by omega))
    rw [st_idx x 2 d v hx1 hx2]; exact st2 ..
  · obtain rfl : h = 1 := Fin.ext (hx0.trans (by omega))
    rw [st_idx x 1 d v hx1 hx2]; exact st1 ..
  · obtain rfl : h = 0 := Fin.ext (hx0.trans (by omega))
    rw [st_idx x 0 d v hx1 hx2]; exact st0 ..

set_option maxHeartbeats 1000000 in
/-- The output block after the first point. -/
theorem out_A (c : Dev nD) (t : Fin cfg0.N) (h0 : t.val % 128 = 0) (i : Fin 128) (h : Fin 4) (v : Fin 512) :
    (outsAt0 m c t.val t.isLt).1 (ix2 i (vc h v)) =
      Ret.norm (blkOut (iblk m c 0 t) (iblk m c 1 t) (iblk m c 2 t) (iblk m c 4 t) (iblk m c 5 t)
        (k0_pay2 (F := Ideal)) h i) v
        * (iblk m c 3 t : Vec Ideal S128x2048 .bf16) (ix2 i (vc h v)) := by
  rw [outsAt0_A m c t h0]
  generalize (iblk m c 0 t : Vec Ideal S128x1024 .bf16) = x0
  generalize (iblk m c 1 t : Vec Ideal S128x1024 .f32) = x1
  generalize (iblk m c 2 t : Vec Ideal S128x2048 .bf16) = x2
  generalize (iblk m c 3 t : Vec Ideal S128x2048 .bf16) = x3
  generalize (iblk m c 4 t : Vec Ideal S4x128x128 .f32) = x4
  generalize (iblk m c 5 t : Vec Ideal S4x128x1 .f32) = x5
  generalize (iblk m c 6 t : Vec Ideal S4x128x1 .f32) = x6
  generalize (iblk m c 7 t : Vec Ideal S4x1x1 .f32) = x7
  dsimp only
  frame_open
  simp (disch := decide) only [↓ View.readCov_skip, ↓ View.readCov_cons_toLoadRect, ↓ View.readCov_fill]
  frame_out
  have hv : ((vc h v).val : ℕ) = h.val * 512 + v.val := rfl
  canon_tiles x hx
  all_goals
    have hx1' : (vc h v).val = _ := hx1
    have hh := h.isLt
  · obtain rfl : h = 3 := Fin.ext (by show h.val = 3; omega)
    rw [out_idx x i v hx0 (by have : ((3 : Fin 4) : ℕ) = 3 := rfl; omega)]; exact out3 ..
  · obtain rfl : h = 2 := Fin.ext (by show h.val = 2; omega)
    rw [out_idx x i v hx0 (by have : ((2 : Fin 4) : ℕ) = 2 := rfl; omega)]; exact out2 ..
  · obtain rfl : h = 1 := Fin.ext (by show h.val = 1; omega)
    rw [out_idx x i v hx0 (by have : ((1 : Fin 4) : ℕ) = 1 := rfl; omega)]; exact out1 ..
  · obtain rfl : h = 0 := Fin.ext (by show h.val = 0; omega)
    rw [out_idx x i v hx0 (by have : ((0 : Fin 4) : ℕ) = 0 := rfl; omega)]; exact out0 ..

/-- The state a chunk leaves, over the arguments, is the next state. -/
theorem blkSt_eq (c : Dev nD) (t : Fin cfg0.N) (s : Vec Ideal S4x256x512 .f32) (h : Fin 4) (d : Fin 256) (v : Fin 512)
    (hs : s (ix3 h d v) = Ret.St (args m c) t.val h d v) :
    blkSt (iblk m c 1 t) (iblk m c 2 t) (iblk m c 6 t) (iblk m c 7 t) s h d v
      = Ret.St (args m c) (t.val + 1) h d v := by
  unfold blkSt
  rw [Ret.St, hs, blk7]
  refine congrArg (fun a => _ + a) (Finset.sum_congr rfl fun j _ => ?_)
  rw [blk1, blk6, blk2]

/-- A chunk's output before its norm, over the arguments. -/
theorem blkOut_eq (c : Dev nD) (t : Fin cfg0.N) (s : Vec Ideal S4x256x512 .f32) (h : Fin 4) (i : Fin 128)
    (hs : ∀ d v, s (ix3 h d v) = Ret.St (args m c) t.val h d v) (v : Fin 512) :
    blkOut (iblk m c 0 t) (iblk m c 1 t) (iblk m c 2 t) (iblk m c 4 t) (iblk m c 5 t) s h i v
      = Ret.outOf (args m c) (Ret.St (args m c) t.val h) t.val h i v := by
  unfold blkOut Ret.outOf
  refine congrArg₂ (· + ·) (Finset.sum_congr rfl fun j _ => ?_) ?_
  · rw [blk4, blk2]
    refine congrArg (fun a => a * _ * _) (Finset.sum_congr rfl fun d _ => ?_)
    rw [blk0, blk1]
  · rw [blk5]
    refine congrArg (fun a => a * _) (Finset.sum_congr rfl fun d _ => ?_)
    rw [blk0, hs]

/-- The state the body starts a run of chunks from. -/
theorem zero_at (x : S4x256x512.Idx) : k0_pay2 (F := Ideal) x = (0 : EReal) := by
  idx_vars x
  pointwise [k0_pay2]

/-- The state after a point is the state before the next chunk. -/
theorem state_eq (c : Dev nD) : ∀ (n : ℕ) (hn : n < cfg0.N) (h : Fin 4) (d : Fin 256) (v : Fin 512),
    (outsAt0 m c n hn).2 (ix3 h d v) = Ret.St (args m c) (n + 1) h d v
  | 0, hn, h, d, v => (state_A m c ⟨0, hn⟩ rfl h d v).trans (blkSt_eq m c ⟨0, hn⟩ _ h d v (zero_at _))
  | n + 1, hn, h, d, v => by
    have hN := lt_of_lt_of_eq hn (show cfg0.N = 128 from N_0)
    exact (state_B m c ⟨n + 1, hn⟩ (by show ¬(n + 1) % 128 = 0; omega) h d v).trans
      (blkSt_eq m c ⟨n + 1, hn⟩ _ h d v (state_eq c n _ h d v))

/-- The output block after a point is the call's result on the point's rows. -/
theorem out_eq (c : Dev nD) (n : ℕ) (hn : n < cfg0.N) (i : Fin 128) (h : Fin 4) (v : Fin 512) :
    (outsAt0 m c n hn).1 (ix2 i (vc h v)) = Ret.res (args m c) n i h v := by
  have hN := lt_of_lt_of_eq hn (show cfg0.N = 128 from N_0)
  unfold Ret.res
  rcases n with _ | n
  · refine (out_A m c ⟨0, hn⟩ rfl i h v).trans ?_
    rw [blk3, funext (blkOut_eq m c ⟨0, hn⟩ _ h i fun d v => zero_at _)]
  · refine (out_B m c ⟨n + 1, hn⟩ (by show ¬(n + 1) % 128 = 0; omega) i h v).trans ?_
    rw [blk3]
    exact congrArg (fun f => Ret.norm f v * _)
      (funext (blkOut_eq m c ⟨n + 1, hn⟩ _ h i fun d v => state_eq m c n _ h d v))

/-- The array the call leaves, at row `r` and column `k`. -/
theorem result_at (c : Dev nD) (r : Fin 16384) (k : Fin 2048) :
    Value.G8 m c (ix2 r k) = Ret.res (args m c) (r.val / 128) ⟨r.val % 128, Nat.mod_lt _ (by decide)⟩
      ⟨k.val / 512, by omega⟩ ⟨k.val % 512, Nat.mod_lt _ (by decide)⟩ := by
  have hN : cfg0.N = 128 := N_0
  have hp : Value.pt8Of (ix2 r k) = r.val / 128 := by
    show 1 * (r.val / 128 - 0) + 1 * (k.val / 2048 - 0) = _
    omega
  have hl : Value.loc8Of (ix2 r k) = ix2 ⟨r.val % 128, Nat.mod_lt _ (by decide)⟩
      (vc ⟨k.val / 512, by omega⟩ ⟨k.val % 512, Nat.mod_lt _ (by decide)⟩) := by
    funext a
    match a with
    | ⟨0, _⟩ => rfl
    | ⟨1, _⟩ => exact Fin.ext (by show k.val % 2048 = k.val / 512 * 512 + k.val % 512; omega)
  unfold Value.G8
  rw [dif_pos (by rw [hp, hN]; omega), ← Value.outsAt0_sweep m c _ (by rw [hp, hN]; omega), hl, out_eq, hp]

end Cert.Proof.RetKernel

end

end
-- ==== Proof.Proj1Ref.lean ====
module

public import proofs.«01_k».proof.Proof.Gen.Reference2Ideal.Run
public import Idealize.ShloMosaic.Lib.Pointwise

/-! # The odd layer's input projection: the formula, and the reference's results

`hid` is a row after its norm and `prod` its product with the weights. The reference's results are read
at an index as `prod` at the result's columns: rotated (queries, keys), as it is (values), through
`y * (1 / (1 + exp (-y)))` (gates), or scaled (memory queries). -/

@[expose] public section

open Idealize Idealize.ShloMosaic Idealize.ShloMosaic.TcCoe Idealize.SL.Sem
open Cert.Reference2Ideal Cert.Reference2Ideal.Gen

set_option maxRecDepth 16384

noncomputable section

namespace Cert.Proof.Proj1

/-- The arrays the call is given. -/
structure Args where
  x : FVec Ideal S16384x1024 .f32
  pos : IVec S1x16384 32
  g : FVec Ideal S1024 .f32
  w : FVec Ideal S1024x6656 .f32

/-- The rotation frequencies, one per pair of lanes. -/
def freq : FVec Ideal S128 .f32 :=
  Host.divf (broadcastInDim S128 ![] bcast_S_S128 (constant S_ .f32 0x3F800000#32)) (Host.powf (broadcastInDim S128 ![] bcast_S_S128 (constant S_ .f32
    0x461C4000#32)) (concatenate S128 0 [⟨S127, (addf (mulf (broadcastInDim S127 ![0] bcast_S1_S127_0 (shapeCast _ (id (constant S_ .f32
    0x00000000#32)) shapeCasts_S_S1)) (subf (broadcastInDim S127 ![] bcast_S_S127 (constant S_ .f32 0x3F800000#32)) (Host.divf (sitofp .f32 (iotaInDim
    S127 32 0)) (broadcastInDim S127 ![] bcast_S_S127 (constant S_ .f32 0x42FE0000#32))))) (mulf (broadcastInDim S127 ![0] bcast_S1_S127_0 (shapeCast _
    (id (constant S_ .f32 0x3F800000#32)) shapeCasts_S_S1)) (Host.divf (sitofp .f32 (iotaInDim S127 32 0)) (broadcastInDim S127 ![] bcast_S_S127
    (constant S_ .f32 0x42FE0000#32)))))⟩, ⟨S1, (broadcastInDim S1 ![] bcast_S_S1 (id (constant S_ .f32 0x3F800000#32)))⟩]
    concatenates_S127_S1_S128_d0))

variable (A : Args)

/-- Entry `k` of row `r` after the norm. -/
def hid (r : Fin 16384) (k : Fin 1024) : EReal :=
  A.x (ix2 r k) * Ideal.rsqrt (Ideal.div (∑ j : Fin 1024, A.x (ix2 r j) * A.x (ix2 r j)) (Ideal.ofBits .f32 0x44800000#32)
    + Ideal.ofBits .f32 0x358637BD#32) * A.g (ix1 k)

/-- Entry `n` of row `r` of the product with the weights. -/
def prod (r : Fin 16384) (n : Fin 6656) : EReal := ∑ k : Fin 1024, hid A r k * A.w (ix2 k n)

/-- The angle by which row `r` turns pair `j`. -/
def ang (r : Fin 16384) (j : Fin 128) : EReal := (FloatOps.sitofp (F := Ideal) .f32 (A.pos (ix2 0 r)) : EReal) * freq (ix1 j)

/-- The logistic gate. -/
def silu (y : EReal) : EReal := y * Ideal.div (Ideal.ofBits .f32 0x3F800000#32) (Ideal.ofBits .f32 0x3F800000#32 + Ideal.exp (-y))

/-- The reference's product. -/
def prodA : FVec Ideal S1x16384x6656 .f32 :=
  Host.dotGeneral dot_S1x16384x1024_S1024x6656_S1x16384x6656_2_0_01_1_n_n none (mulf (mulf (broadcastInDim S1x16384x1024 ![1, 2]
    bcast_S16384x1024_S1x16384x1024_1_2 A.x) (broadcastInDim S1x16384x1024 ![0, 1, 2] bcast_S1x16384x1_S1x16384x1024_0_1_2 (Host.rsqrt (addf (Host.divf
    (broadcastInDim S1x16384x1 ![0, 1] bcast_S1x16384_S1x16384x1_0_1 (Host.reduceAdd (mulf (broadcastInDim S1x16384x1024 ![1, 2]
    bcast_S16384x1024_S1x16384x1024_1_2 A.x) (broadcastInDim S1x16384x1024 ![1, 2] bcast_S16384x1024_S1x16384x1024_1_2 A.x)) (constant S_ .f32
    0x00000000#32) reducesTo_S1x16384x1024_S1x16384_d2 h_S_)) (broadcastInDim S1x16384x1 ![] bcast_S_S1x16384x1 (constant S_ .f32 0x44800000#32)))
    (broadcastInDim S1x16384x1 ![] bcast_S_S1x16384x1 (constant S_ .f32 0x358637BD#32)))))) (broadcastInDim S1x16384x1024 ![0, 1, 2]
    bcast_S1x1x1024_S1x16384x1024_0_1_2 (broadcastInDim S1x1x1024 ![2] bcast_S1024_S1x1x1024_2 A.g))) A.w
/-- The reference's cosines. -/
def cosA : FVec Ideal S1x16384x128 .f32 := Host.cos (mulf (broadcastInDim S1x16384x128 ![0, 1, 2] bcast_S1x16384x1_S1x16384x128_0_1_2 (broadcastInDim S1x16384x1 ![0, 1] bcast_S1x16384_S1x16384x1_0_1
    (sitofp .f32 A.pos))) (broadcastInDim S1x16384x128 ![0, 1, 2] bcast_S1x1x128_S1x16384x128_0_1_2 (broadcastInDim S1x1x128 ![2] bcast_S128_S1x1x128_2
    freq)))
/-- The reference's sines. -/
def sinA : FVec Ideal S1x16384x128 .f32 := Host.sin (mulf (broadcastInDim S1x16384x128 ![0, 1, 2] bcast_S1x16384x1_S1x16384x128_0_1_2 (broadcastInDim S1x16384x1 ![0, 1] bcast_S1x16384_S1x16384x1_0_1
    (sitofp .f32 A.pos))) (broadcastInDim S1x16384x128 ![0, 1, 2] bcast_S1x1x128_S1x16384x128_0_1_2 (broadcastInDim S1x1x128 ![2] bcast_S128_S1x1x128_2
    freq)))

/-- The reference's queries. -/
def qA : FVec Ideal S16384x1024 .bf16 :=
  truncf .bf16 (shapeCast _ (concatenate S1x16384x4x256 3 [⟨S1x16384x4x128, (subf (mulf (extractStridedSlice S1x16384x4x128 ![0, 0, 0, 0] (shapeCast _
    (extractStridedSlice S1x16384x1024 ![0, 0, 0] (prodA A) slices_S1x16384x6656_S1x16384x1024_0_0_0) shapeCasts_S1x16384x1024_S1x16384x4x256)
    slices_S1x16384x4x256_S1x16384x4x128_0_0_0_0) (broadcastInDim S1x16384x4x128 ![0, 1, 2, 3] bcast_S1x16384x1x128_S1x16384x4x128_0_1_2_3
    (broadcastInDim S1x16384x1x128 ![0, 1, 3] bcast_S1x16384x128_S1x16384x1x128_0_1_3 (cosA A)))) (mulf (extractStridedSlice S1x16384x4x128 ![0, 0, 0,
    128] (shapeCast _ (extractStridedSlice S1x16384x1024 ![0, 0, 0] (prodA A) slices_S1x16384x6656_S1x16384x1024_0_0_0)
    shapeCasts_S1x16384x1024_S1x16384x4x256) slices_S1x16384x4x256_S1x16384x4x128_0_0_0_128) (broadcastInDim S1x16384x4x128 ![0, 1, 2, 3]
    bcast_S1x16384x1x128_S1x16384x4x128_0_1_2_3 (broadcastInDim S1x16384x1x128 ![0, 1, 3] bcast_S1x16384x128_S1x16384x1x128_0_1_3 (sinA A)))))⟩,
    ⟨S1x16384x4x128, (addf (mulf (extractStridedSlice S1x16384x4x128 ![0, 0, 0, 0] (shapeCast _ (extractStridedSlice S1x16384x1024 ![0, 0, 0] (prodA A)
    slices_S1x16384x6656_S1x16384x1024_0_0_0) shapeCasts_S1x16384x1024_S1x16384x4x256) slices_S1x16384x4x256_S1x16384x4x128_0_0_0_0) (broadcastInDim
    S1x16384x4x128 ![0, 1, 2, 3] bcast_S1x16384x1x128_S1x16384x4x128_0_1_2_3 (broadcastInDim S1x16384x1x128 ![0, 1, 3]
    bcast_S1x16384x128_S1x16384x1x128_0_1_3 (sinA A)))) (mulf (extractStridedSlice S1x16384x4x128 ![0, 0, 0, 128] (shapeCast _ (extractStridedSlice
    S1x16384x1024 ![0, 0, 0] (prodA A) slices_S1x16384x6656_S1x16384x1024_0_0_0) shapeCasts_S1x16384x1024_S1x16384x4x256)
    slices_S1x16384x4x256_S1x16384x4x128_0_0_0_128) (broadcastInDim S1x16384x4x128 ![0, 1, 2, 3] bcast_S1x16384x1x128_S1x16384x4x128_0_1_2_3
    (broadcastInDim S1x16384x1x128 ![0, 1, 3] bcast_S1x16384x128_S1x16384x1x128_0_1_3 (cosA A)))))⟩]
    concatenates_S1x16384x4x128_S1x16384x4x128_S1x16384x4x256_d3) shapeCasts_S1x16384x4x256_S16384x1024) bitsLt_bf16_f32

/-- The reference's keys. -/
def kA : FVec Ideal S16384x1024 .f32 :=
  shapeCast _ (mulf (concatenate S1x16384x4x256 3 [⟨S1x16384x4x128, (subf (mulf (extractStridedSlice S1x16384x4x128 ![0, 0, 0, 0] (shapeCast _
    (extractStridedSlice S1x16384x1024 ![0, 0, 1024] (prodA A) slices_S1x16384x6656_S1x16384x1024_0_0_1024) shapeCasts_S1x16384x1024_S1x16384x4x256)
    slices_S1x16384x4x256_S1x16384x4x128_0_0_0_0) (broadcastInDim S1x16384x4x128 ![0, 1, 2, 3] bcast_S1x16384x1x128_S1x16384x4x128_0_1_2_3
    (broadcastInDim S1x16384x1x128 ![0, 1, 3] bcast_S1x16384x128_S1x16384x1x128_0_1_3 (cosA A)))) (mulf (extractStridedSlice S1x16384x4x128 ![0, 0, 0,
    128] (shapeCast _ (extractStridedSlice S1x16384x1024 ![0, 0, 1024] (prodA A) slices_S1x16384x6656_S1x16384x1024_0_0_1024)
    shapeCasts_S1x16384x1024_S1x16384x4x256) slices_S1x16384x4x256_S1x16384x4x128_0_0_0_128) (broadcastInDim S1x16384x4x128 ![0, 1, 2, 3]
    bcast_S1x16384x1x128_S1x16384x4x128_0_1_2_3 (broadcastInDim S1x16384x1x128 ![0, 1, 3] bcast_S1x16384x128_S1x16384x1x128_0_1_3 (sinA A)))))⟩,
    ⟨S1x16384x4x128, (addf (mulf (extractStridedSlice S1x16384x4x128 ![0, 0, 0, 0] (shapeCast _ (extractStridedSlice S1x16384x1024 ![0, 0, 1024] (prodA
    A) slices_S1x16384x6656_S1x16384x1024_0_0_1024) shapeCasts_S1x16384x1024_S1x16384x4x256) slices_S1x16384x4x256_S1x16384x4x128_0_0_0_0)
    (broadcastInDim S1x16384x4x128 ![0, 1, 2, 3] bcast_S1x16384x1x128_S1x16384x4x128_0_1_2_3 (broadcastInDim S1x16384x1x128 ![0, 1, 3]
    bcast_S1x16384x128_S1x16384x1x128_0_1_3 (sinA A)))) (mulf (extractStridedSlice S1x16384x4x128 ![0, 0, 0, 128] (shapeCast _ (extractStridedSlice
    S1x16384x1024 ![0, 0, 1024] (prodA A) slices_S1x16384x6656_S1x16384x1024_0_0_1024) shapeCasts_S1x16384x1024_S1x16384x4x256)
    slices_S1x16384x4x256_S1x16384x4x128_0_0_0_128) (broadcastInDim S1x16384x4x128 ![0, 1, 2, 3] bcast_S1x16384x1x128_S1x16384x4x128_0_1_2_3
    (broadcastInDim S1x16384x1x128 ![0, 1, 3] bcast_S1x16384x128_S1x16384x1x128_0_1_3 (cosA A)))))⟩]
    concatenates_S1x16384x4x128_S1x16384x4x128_S1x16384x4x256_d3) (broadcastInDim S1x16384x4x256 ![] bcast_S_S1x16384x4x256 (constant S_ .f32
    0x3D800000#32))) shapeCasts_S1x16384x4x256_S16384x1024

/-- The reference's values. -/
def vA : FVec Ideal S16384x2048 .bf16 :=
  truncf .bf16 (shapeCast _ (extractStridedSlice S1x16384x2048 ![0, 0, 2048] (prodA A) slices_S1x16384x6656_S1x16384x2048_0_0_2048)
    shapeCasts_S1x16384x2048_S16384x2048) bitsLt_bf16_f32

/-- The reference's gates. -/
def zA : FVec Ideal S16384x2048 .bf16 :=
  truncf .bf16 (mulf (shapeCast _ (extractStridedSlice S1x16384x2048 ![0, 0, 4096] (prodA A) slices_S1x16384x6656_S1x16384x2048_0_0_4096)
    shapeCasts_S1x16384x2048_S16384x2048) (Host.divf (broadcastInDim S16384x2048 ![] bcast_S_S16384x2048 (constant S_ .f32 0x3F800000#32)) (addf
    (broadcastInDim S16384x2048 ![] bcast_S_S16384x2048 (constant S_ .f32 0x3F800000#32)) (Host.exp (Host.negf (shapeCast _ (extractStridedSlice
    S1x16384x2048 ![0, 0, 4096] (prodA A) slices_S1x16384x6656_S1x16384x2048_0_0_4096) shapeCasts_S1x16384x2048_S16384x2048)))))) bitsLt_bf16_f32

/-- The reference's memory queries. -/
def eA : FVec Ideal S16384x256 .bf16 :=
  truncf .bf16 (mulf (shapeCast _ (extractStridedSlice S1x16384x256 ![0, 0, 6144] (prodA A) slices_S1x16384x6656_S1x16384x256_0_0_6144)
    shapeCasts_S1x16384x256_S16384x256) (broadcastInDim S16384x256 ![] bcast_S_S16384x256 (constant S_ .f32 0x3E000000#32))) bitsLt_bf16_f32

/-- The reference's memory gates. -/
def gA : FVec Ideal S16384x256 .bf16 :=
  truncf .bf16 (mulf (shapeCast _ (extractStridedSlice S1x16384x256 ![0, 0, 6400] (prodA A) slices_S1x16384x6656_S1x16384x256_0_0_6400)
    shapeCasts_S1x16384x256_S16384x256) (Host.divf (broadcastInDim S16384x256 ![] bcast_S_S16384x256 (constant S_ .f32 0x3F800000#32)) (addf
    (broadcastInDim S16384x256 ![] bcast_S_S16384x256 (constant S_ .f32 0x3F800000#32)) (Host.exp (Host.negf (shapeCast _ (extractStridedSlice
    S1x16384x256 ![0, 0, 6400] (prodA A) slices_S1x16384x6656_S1x16384x256_0_0_6400) shapeCasts_S1x16384x256_S16384x256)))))) bitsLt_bf16_f32

/-- Column `j` of the first half of head `h`. -/
def lo (h : Fin 4) (j : Fin 128) : Fin 1024 := ⟨h.val * 256 + j.val, by omega⟩
/-- Column `j` of the second half of head `h`. -/
def hi (h : Fin 4) (j : Fin 128) : Fin 1024 := ⟨h.val * 256 + 128 + j.val, by omega⟩
/-- A column of one of the product's parts: the part starts at `o` and is `n` wide. -/
def at_ (o n : ℕ) (h : o + n ≤ 6656) (k : Fin n) : Fin 6656 := ⟨o + k.val, by omega⟩

/-- The first half of a head, turned. -/
def rotLo (a b c s : EReal) : EReal := a * c - b * s
/-- The second half of a head, turned. -/
def rotHi (a b c s : EReal) : EReal := a * s + b * c

/-- The product at an index. -/
theorem prodA_at (r : Fin 16384) (n : Fin 6656) : prodA A (ix3 0 r n) = prod A r n := by
  pointwise [prodA, prod, hid]

/-- The cosines at an index. -/
theorem cosA_at (r : Fin 16384) (j : Fin 128) : cosA A (ix3 0 r j) = Ideal.cos (ang A r j) := by
  pointwise [cosA, ang]

/-- The sines at an index. -/
theorem sinA_at (r : Fin 16384) (j : Fin 128) : sinA A (ix3 0 r j) = Ideal.sin (ang A r j) := by
  pointwise [sinA, ang]

/-- The values at an index. -/
theorem vA_at (r : Fin 16384) (n : Fin 2048) : vA A (ix2 r n) = prod A r (at_ 2048 2048 (by decide) n) := by
  pointwise [vA, at_, ← prodA_at]

/-- The gates at an index. -/
theorem zA_at (r : Fin 16384) (n : Fin 2048) : zA A (ix2 r n) = silu (prod A r (at_ 4096 2048 (by decide) n)) := by
  pointwise [zA, at_, silu, ← prodA_at]

/-- The memory queries at an index. -/
theorem eA_at (r : Fin 16384) (n : Fin 256) :
    eA A (ix2 r n) = prod A r (at_ 6144 256 (by decide) n) * Ideal.ofBits .f32 0x3E000000#32 := by
  pointwise [eA, at_, ← prodA_at]

/-- The memory gates at an index. -/
theorem gA_at (r : Fin 16384) (n : Fin 256) : gA A (ix2 r n) = silu (prod A r (at_ 6400 256 (by decide) n)) := by
  pointwise [gA, at_, silu, ← prodA_at]

/-- The first half of a head of the queries. -/
theorem qA_lo (r : Fin 16384) (h : Fin 4) (j : Fin 128) :
    qA A (ix2 r (lo h j)) = rotLo (prod A r (at_ 0 1024 (by decide) (lo h j))) (prod A r (at_ 0 1024 (by decide) (hi h j)))
      (Ideal.cos (ang A r j)) (Ideal.sin (ang A r j)) := by
  rw [← cosA_at, ← sinA_at]
  pointwise [qA, at_, rotLo, lo, hi, ← prodA_at]
  have e : (h.val * 256 + j.val) % 256 = j.val := by omega
  simp only [e, dif_pos j.isLt, Nat.add_assoc, Fin.eta]

/-- The second half of a head of the queries. -/
theorem qA_hi (r : Fin 16384) (h : Fin 4) (j : Fin 128) :
    qA A (ix2 r (hi h j)) = rotHi (prod A r (at_ 0 1024 (by decide) (lo h j))) (prod A r (at_ 0 1024 (by decide) (hi h j)))
      (Ideal.cos (ang A r j)) (Ideal.sin (ang A r j)) := by
  rw [← cosA_at, ← sinA_at]
  pointwise [qA, at_, rotHi, lo, hi, ← prodA_at]
  have e : (h.val * 256 + (128 + j.val)) % 256 = 128 + j.val := by omega
  have e' : ¬ 128 + j.val < 128 := by omega
  simp only [e, dif_neg e', Nat.add_sub_cancel_left, Nat.add_assoc, Fin.eta]

/-- The first half of a head of the keys. -/
theorem kA_lo (r : Fin 16384) (h : Fin 4) (j : Fin 128) :
    kA A (ix2 r (lo h j)) = rotLo (prod A r (at_ 1024 1024 (by decide) (lo h j))) (prod A r (at_ 1024 1024 (by decide) (hi h j)))
      (Ideal.cos (ang A r j)) (Ideal.sin (ang A r j)) * Ideal.ofBits .f32 0x3D800000#32 := by
  rw [← cosA_at, ← sinA_at]
  pointwise [kA, at_, rotLo, lo, hi, ← prodA_at]
  have e : (h.val * 256 + j.val) % 256 = j.val := by omega
  simp only [e, dif_pos j.isLt, Nat.add_assoc, Fin.eta]

/-- The second half of a head of the keys. -/
theorem kA_hi (r : Fin 16384) (h : Fin 4) (j : Fin 128) :
    kA A (ix2 r (hi h j)) = rotHi (prod A r (at_ 1024 1024 (by decide) (lo h j))) (prod A r (at_ 1024 1024 (by decide) (hi h j)))
      (Ideal.cos (ang A r j)) (Ideal.sin (ang A r j)) * Ideal.ofBits .f32 0x3D800000#32 := by
  rw [← cosA_at, ← sinA_at]
  pointwise [kA, at_, rotHi, lo, hi, ← prodA_at]
  have e : (h.val * 256 + (128 + j.val)) % 256 = 128 + j.val := by omega
  have e' : ¬ 128 + j.val < 128 := by omega
  simp only [e, dif_neg e', Nat.add_sub_cancel_left, Nat.add_assoc, Fin.eta]

/-- The arguments the reference's memory holds. -/
def refArgs (m : (ℓ : Loc nD τ sig) → Buf (Elt Ideal) ℓ) (c : Dev nD) : Args where
  x := m ((c.tc : Thread nD τ).loc main_arg0)
  pos := m ((c.tc : Thread nD τ).loc main_arg1)
  g := m ((c.tc : Thread nD τ).loc main_arg2)
  w := m ((c.tc : Thread nD τ).loc main_arg3)

/-- The reference's run, its results named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = qA (refArgs m c)
      ∧ r.2.mem ((c.tc : Thread nD τ).loc main_v70) = kA (refArgs m c)
      ∧ r.2.mem ((c.tc : Thread nD τ).loc main_v72) = vA (refArgs m c)
      ∧ r.2.mem ((c.tc : Thread nD τ).loc main_v75) = zA (refArgs m c)
      ∧ r.2.mem ((c.tc : Thread nD τ).loc main_v79) = eA (refArgs m c)
      ∧ r.2.mem ((c.tc : Thread nD τ).loc main_v82) = gA (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.Proof.Proj1

end

end
-- ==== Proof.Proj1Blocks.lean ====
module

public import proofs.«01_k».proof.Proof.Proj1Ref
public import proofs.«01_k».proof.Proof.Gen.Kernel2Ideal.Value
public import Idealize.ShloMosaic.Lib.Pointwise
public import Idealize.ShloMosaic.Lib.Pipeline.ValueKit
public import Idealize.ShloMosaic.Lib.Pipeline.ReadBack

/-! # The odd layer's input projection: what a grid point stores

Each output block is read at an index: `bprod`, the block's row after its norm times the weights, at the
output's columns. -/

@[expose] public section

open Idealize Idealize.ShloMosaic
open Cert.Kernel2Ideal Cert.Kernel2Ideal.Gen

set_option maxRecDepth 16384

noncomputable section

namespace Cert.Proof.Proj1

variable (X : Vec Ideal S256x1024 .f32) (G : Vec Ideal S1x1024 .f32) (W : Vec Ideal S1024x6656 .bf16)
  (C : Vec Ideal S256x128 .f32) (S : Vec Ideal S256x128 .f32) (B : Vec Ideal S1x128 .f32)

/-- Entry `k` of row `i` of a block after the norm. -/
def bhid (i : Fin 256) (k : Fin 1024) : EReal :=
  X (ix2 i k) * Ideal.rsqrt (Ideal.div (∑ j : Fin 1024, X (ix2 i j) * X (ix2 i j)) (Ideal.ofBits .f32 0x44800000#32)
    + Ideal.ofBits .f32 0x358637BD#32) * G (ix2 0 k)

/-- Entry `n` of row `i` of a block's product with the weights. -/
def bprod (i : Fin 256) (n : Fin 6656) : EReal := ∑ k : Fin 1024, bhid X G i k * W (ix2 k n)

/-- A position in a tile, from its coordinates. -/
theorem tile_idx (x : S256x512.Idx) (i : Fin 256) (n : Fin 512) (h1 : i.val = (x 0).val) (h2 : n.val = (x 1).val) :
    x = ix2 i n := by
  refine (eq_ix2 x).trans ?_
  rw [show x 0 = i from Fin.ext h1.symm, show x 1 = n from Fin.ext h2.symm]

/-- A column of head 0. -/
theorem lo_0 (j : Fin 128) : lo 0 j = ⟨j.val, by omega⟩ := Fin.ext (by simp [lo])

/-- A column of head 0. -/
theorem hi_0 (j : Fin 128) : hi 0 j = ⟨128 + j.val, by omega⟩ := Fin.ext (by simp [hi])

/-- A column of head 1. -/
theorem lo_1 (j : Fin 128) : lo 1 j = ⟨256 + j.val, by omega⟩ := Fin.ext (by simp [lo])

/-- A column of head 1. -/
theorem hi_1 (j : Fin 128) : hi 1 j = ⟨384 + j.val, by omega⟩ := Fin.ext (by simp [hi])

/-- A column of head 2. -/
theorem lo_2 (j : Fin 128) : lo 2 j = ⟨512 + j.val, by omega⟩ := Fin.ext (by simp [lo])

/-- A column of head 2. -/
theorem hi_2 (j : Fin 128) : hi 2 j = ⟨640 + j.val, by omega⟩ := Fin.ext (by simp [hi])

/-- A column of head 3. -/
theorem lo_3 (j : Fin 128) : lo 3 j = ⟨768 + j.val, by omega⟩ := Fin.ext (by simp [lo])

/-- A column of head 3. -/
theorem hi_3 (j : Fin 128) : hi 3 j = ⟨896 + j.val, by omega⟩ := Fin.ext (by simp [hi])

/-- The quarters of a tile. -/
theorem quarters (j : Fin 128) : (¬ 128 + j.val < 128) ∧ (¬ 256 + j.val < 128) ∧ (¬ 384 + j.val < 128) ∧
    128 + j.val - 128 = j.val ∧ 256 + j.val - 128 = 128 + j.val ∧ 384 + j.val - 128 = 256 + j.val := by omega

/-- One of four heads. -/
theorem heads : ∀ h : Fin 4, h = 0 ∨ h = 1 ∨ h = 2 ∨ h = 3 := by decide

/-- The queries, first half of a head. -/
theorem out6_lo (i : Fin 256) (h : Fin 4) (j : Fin 128) :
    out0_6 X G W C S B (ix2 i (lo h j)) = rotLo (bprod X G W i (at_ 0 1024 (by decide) (lo h j)))
      (bprod X G W i (at_ 0 1024 (by decide) (hi h j))) (C (ix2 i j)) (S (ix2 i j)) := by
  rcases heads h with rfl | rfl | rfl | rfl
  all_goals
    simp only [lo_0, lo_1, lo_2, lo_3, hi_0, hi_1, hi_2, hi_3]
    unfold_out out0_6
    canon_tiles x hx
    all_goals
      idx_vars x
      obtain rfl : i = x0 := Fin.ext hx0
      obtain ⟨x1, h1⟩ := x1
      dsimp only at hx1
      first
      | exact absurd hx1 (by omega)
      | (have e : x1 = j.val := (by omega); subst e)
      | (have e : x1 = 128 + j.val := (by omega); subst e)
      | (have e : x1 = 256 + j.val := (by omega); subst e)
      | (have e : x1 = 384 + j.val := (by omega); subst e)
    all_goals
      pointwise [k0_pay4, k0_pay5, k0_pay3, bprod, bhid, at_, rotLo]
    all_goals
      try simp only [quarters j, j.isLt, dite_true, dite_false, ← Nat.add_assoc, Nat.reduceAdd, Nat.zero_add, Fin.eta]

/-- The queries, second half of a head. -/
theorem out6_hi (i : Fin 256) (h : Fin 4) (j : Fin 128) :
    out0_6 X G W C S B (ix2 i (hi h j)) = rotHi (bprod X G W i (at_ 0 1024 (by decide) (lo h j)))
      (bprod X G W i (at_ 0 1024 (by decide) (hi h j))) (C (ix2 i j)) (S (ix2 i j)) := by
  rcases heads h with rfl | rfl | rfl | rfl
  all_goals
    simp only [lo_0, lo_1, lo_2, lo_3, hi_0, hi_1, hi_2, hi_3]
    unfold_out out0_6
    canon_tiles x hx
    all_goals
      idx_vars x
      obtain rfl : i = x0 := Fin.ext hx0
      obtain ⟨x1, h1⟩ := x1
      dsimp only at hx1
      first
      | exact absurd hx1 (by omega)
      | (have e : x1 = j.val := (by omega); subst e)
      | (have e : x1 = 128 + j.val := (by omega); subst e)
      | (have e : x1 = 256 + j.val := (by omega); subst e)
      | (have e : x1 = 384 + j.val := (by omega); subst e)
    all_goals
      pointwise [k0_pay4, k0_pay5, k0_pay3, bprod, bhid, at_, rotHi]
    all_goals
      try simp only [quarters j, j.isLt, dite_true, dite_false, ← Nat.add_assoc, Nat.reduceAdd, Nat.zero_add, Fin.eta]

/-- The keys, first half of a head. -/
theorem out7_lo (i : Fin 256) (h : Fin 4) (j : Fin 128) :
    out0_7 X G W C S B (ix2 i (lo h j)) = rotLo (bprod X G W i (at_ 1024 1024 (by decide) (lo h j)))
      (bprod X G W i (at_ 1024 1024 (by decide) (hi h j))) (C (ix2 i j)) (S (ix2 i j)) * Ideal.ofBits .f32 0x3D800000#32 := by
  rcases heads h with rfl | rfl | rfl | rfl
  all_goals
    simp only [lo_0, lo_1, lo_2, lo_3, hi_0, hi_1, hi_2, hi_3]
    unfold_out out0_7
    canon_tiles x hx
    all_goals
      idx_vars x
      obtain rfl : i = x0 := Fin.ext hx0
      obtain ⟨x1, h1⟩ := x1
      dsimp only at hx1
      first
      | exact absurd hx1 (by omega)
      | (have e : x1 = j.val := (by omega); subst e)
      | (have e : x1 = 128 + j.val := (by omega); subst e)
      | (have e : x1 = 256 + j.val := (by omega); subst e)
      | (have e : x1 = 384 + j.val := (by omega); subst e)
    all_goals
      pointwise [k0_pay6, k0_pay7, k0_pay8, k0_pay9, k0_pay10, k0_pay11, k0_pay12, k0_pay13, k0_pay14, k0_pay15, k0_pay16, k0_pay3, bprod, bhid, at_, rotLo]
    all_goals
      try simp only [quarters j, j.isLt, dite_true, dite_false, ← Nat.add_assoc, Nat.reduceAdd, Nat.zero_add, Fin.eta]

/-- The keys, second half of a head. -/
theorem out7_hi (i : Fin 256) (h : Fin 4) (j : Fin 128) :
    out0_7 X G W C S B (ix2 i (hi h j)) = rotHi (bprod X G W i (at_ 1024 1024 (by decide) (lo h j)))
      (bprod X G W i (at_ 1024 1024 (by decide) (hi h j))) (C (ix2 i j)) (S (ix2 i j)) * Ideal.ofBits .f32 0x3D800000#32 := by
  rcases heads h with rfl | rfl | rfl | rfl
  all_goals
    simp only [lo_0, lo_1, lo_2, lo_3, hi_0, hi_1, hi_2, hi_3]
    unfold_out out0_7
    canon_tiles x hx
    all_goals
      idx_vars x
      obtain rfl : i = x0 := Fin.ext hx0
      obtain ⟨x1, h1⟩ := x1
      dsimp only at hx1
      first
      | exact absurd hx1 (by omega)
      | (have e : x1 = j.val := (by omega); subst e)
      | (have e : x1 = 128 + j.val := (by omega); subst e)
      | (have e : x1 = 256 + j.val := (by omega); subst e)
      | (have e : x1 = 384 + j.val := (by omega); subst e)
    all_goals
      pointwise [k0_pay6, k0_pay7, k0_pay8, k0_pay9, k0_pay10, k0_pay11, k0_pay12, k0_pay13, k0_pay14, k0_pay15, k0_pay16, k0_pay3, bprod, bhid, at_, rotHi]
    all_goals
      try simp only [quarters j, j.isLt, dite_true, dite_false, ← Nat.add_assoc, Nat.reduceAdd, Nat.zero_add, Fin.eta]

/-- The values. -/
theorem out8 (i : Fin 256) (n : Fin 2048) :
    out0_8 X G W C S B (ix2 i n) = bprod X G W i (at_ 2048 2048 (by decide) n) := by
  unfold_out out0_8
  canon_tiles x hx
  all_goals
    idx_vars x
    obtain rfl : i = x0 := Fin.ext hx0
    obtain ⟨n, hn⟩ := n
    dsimp only at hx1
    subst hx1
    pointwise [k0_pay17, k0_pay18, k0_pay19, k0_pay20, k0_pay3, bprod, bhid, at_, silu]
  all_goals
    try simp only [← Nat.add_assoc, Nat.reduceAdd, zero_sub]

/-- The gates. -/
theorem out9 (i : Fin 256) (n : Fin 2048) :
    out0_9 X G W C S B (ix2 i n) = silu (bprod X G W i (at_ 4096 2048 (by decide) n)) := by
  unfold_out out0_9
  canon_tiles x hx
  all_goals
    idx_vars x
    obtain rfl : i = x0 := Fin.ext hx0
    obtain ⟨n, hn⟩ := n
    dsimp only at hx1
    subst hx1
    pointwise [k0_pay21, k0_pay22, k0_pay23, k0_pay24, k0_pay3, bprod, bhid, at_, silu]
  all_goals
    try simp only [← Nat.add_assoc, Nat.reduceAdd, zero_sub]

/-- The memory queries. -/
theorem out10 (i : Fin 256) (n : Fin 256) :
    out0_10 X G W C S B (ix2 i n) = bprod X G W i (at_ 6144 256 (by decide) n) * Ideal.ofBits .f32 0x3E000000#32 := by
  unfold_out out0_10
  canon_tiles x hx
  all_goals
    idx_vars x
    obtain rfl : i = x0 := Fin.ext hx0
    obtain ⟨n, hn⟩ := n
    dsimp only at hx1
    subst hx1
    pointwise [k0_pay1, k0_pay3, bprod, bhid, at_, silu]
  all_goals
    try simp only [← Nat.add_assoc, Nat.reduceAdd, zero_sub]

/-- The memory gates. -/
theorem out11 (i : Fin 256) (n : Fin 256) :
    out0_11 X G W C S B (ix2 i n) = silu (bprod X G W i (at_ 6400 256 (by decide) n)) := by
  unfold_out out0_11
  canon_tiles x hx
  all_goals
    idx_vars x
    obtain rfl : i = x0 := Fin.ext hx0
    obtain ⟨n, hn⟩ := n
    dsimp only at hx1
    subst hx1
    pointwise [k0_pay2, k0_pay3, bprod, bhid, at_, silu]
  all_goals
    try simp only [← Nat.add_assoc, Nat.reduceAdd, zero_sub]

end Cert.Proof.Proj1

end

end
-- ==== Proof.Proj1Kernel.lean ====
module

public import proofs.«01_k».proof.Proof.Proj1Blocks

/-! # The odd layer's input projection: the kernel's results are the reference's -/

@[expose] public section

open Idealize Idealize.ShloMosaic
open Cert.Kernel2Ideal Cert.Kernel2Ideal.Gen

set_option maxRecDepth 16384

noncomputable section

namespace Cert.Proof.Proj1

variable (m : (ℓ : Loc nD τ sig) → Buf (Elt Ideal) ℓ) (c : Dev nD)

/-- The arguments a core holds. -/
def args : Args where
  x := m (c.tc.loc main_arg0)
  pos := m (c.tc.loc main_arg1)
  g := m (c.tc.loc main_arg2)
  w := m (c.tc.loc main_arg3)

/-- Row `i` of block `t`. -/
def row (t : Fin cfg0.N) (i : Fin 256) : Fin 16384 :=
  ⟨t.val * 256 + i.val, by have := lt_of_lt_of_eq t.isLt (show cfg0.N = 64 from N_0); omega⟩

/-- The host's cosines at an index. -/
theorem V_cos (r : Fin 16384) (j : Fin 128) :
    (V m c main_v12 : Vec Ideal S16384x128 .f32) (ix2 r j) = Ideal.cos (ang (args m c) r j) := by
  have e : V m c main_v12 = Host.cos (mulf
      (broadcastInDim S16384x128 ![0, 1] bcast_S16384x1_S16384x128_0_1
        (broadcastInDim S16384x1 ![0] bcast_S16384_S16384x1_0 (sitofp .f32 (shapeCast S16384 (args m c).pos shapeCasts_S1x16384_S16384))))
      (broadcastInDim S16384x128 ![0, 1] bcast_S1x128_S16384x128_0_1 (broadcastInDim S1x128 ![1] bcast_S128_S1x128_1 freq))) := by
    entry_read
    rfl
  rw [e]; pointwise [ang]

/-- The host's sines at an index. -/
theorem V_sin (r : Fin 16384) (j : Fin 128) :
    (V m c main_v13 : Vec Ideal S16384x128 .f32) (ix2 r j) = Ideal.sin (ang (args m c) r j) := by
  have e : V m c main_v13 = Host.sin (mulf
      (broadcastInDim S16384x128 ![0, 1] bcast_S16384x1_S16384x128_0_1
        (broadcastInDim S16384x1 ![0] bcast_S16384_S16384x1_0 (sitofp .f32 (shapeCast S16384 (args m c).pos shapeCasts_S1x16384_S16384))))
      (broadcastInDim S16384x128 ![0, 1] bcast_S1x128_S16384x128_0_1 (broadcastInDim S1x128 ![1] bcast_S128_S1x128_1 freq))) := by
    entry_read
    rfl
  rw [e]; pointwise [ang]

/-- The host's gain row at an index. -/
theorem V_gain (k : Fin 1024) : (V m c main_v14 : Vec Ideal S1x1024 .f32) (ix2 0 k) = (args m c).g (ix1 k) := by
  have e : V m c main_v14 = broadcastInDim S1x1024 ![1] bcast_S1024_S1x1024_1 (args m c).g := by
    entry_read
    rfl
  rw [e]; pointwise

/-- The host's weights at an index. -/
theorem V_weight (k : Fin 1024) (n : Fin 6656) :
    (V m c main_v15 : Vec Ideal S1024x6656 .bf16) (ix2 k n) = (args m c).w (ix2 k n) := by
  have e : V m c main_v15 = (truncf .bf16 (args m c).w bitsLt_bf16_f32 : FVec Ideal S1024x6656 .bf16) := by
    entry_read
    rfl
  rw [e]; pointwise

/-- Where each block lies. -/
theorem idx_facts : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

variable (t : Fin cfg0.N)

/-- Input block 0 at an index. -/
theorem blk0 (i : Fin 256) (k : Fin 1024) :
    (iblk m c 0 t : Vec Ideal S256x1024 .f32) (ix2 i k) = (args m c).x (ix2 (row t i) k) := by
  unfold args row
  blk_ext [iblk, Gen.V, idx_facts t]

/-- Input block 1 at an index. -/
theorem blk1 (k : Fin 1024) : (iblk m c 1 t : Vec Ideal S1x1024 .f32) (ix2 0 k) = (args m c).g (ix1 k) := by
  have e : (iblk m c 1 t : Vec Ideal S1x1024 .f32) (ix2 0 k) = (Gen.V m c main_v14 : Vec Ideal S1x1024 .f32) (ix2 0 k) := by
    blk_ext [iblk, idx_facts t]
  rw [e]; exact V_gain ..

/-- Input block 2 at an index. -/
theorem blk2 (k : Fin 1024) (n : Fin 6656) :
    (iblk m c 2 t : Vec Ideal S1024x6656 .bf16) (ix2 k n) = (args m c).w (ix2 k n) := by
  have e : (iblk m c 2 t : Vec Ideal S1024x6656 .bf16) (ix2 k n) = (Gen.V m c main_v15 : Vec Ideal S1024x6656 .bf16) (ix2 k n) := by
    blk_ext [iblk, idx_facts t]
  rw [e]; exact V_weight ..

/-- Input block 3 at an index. -/
theorem blk3 (i : Fin 256) (j : Fin 128) :
    (iblk m c 3 t : Vec Ideal S256x128 .f32) (ix2 i j) = Ideal.cos (ang (args m c) (row t i) j) := by
  have e : (iblk m c 3 t : Vec Ideal S256x128 .f32) (ix2 i j) = (Gen.V m c main_v12 : Vec Ideal S16384x128 .f32) (ix2 (row t i) j) := by
    unfold row
    blk_ext [iblk, idx_facts t]
  rw [e]; exact V_cos ..

/-- Input block 4 at an index. -/
theorem blk4 (i : Fin 256) (j : Fin 128) :
    (iblk m c 4 t : Vec Ideal S256x128 .f32) (ix2 i j) = Ideal.sin (ang (args m c) (row t i) j) := by
  have e : (iblk m c 4 t : Vec Ideal S256x128 .f32) (ix2 i j) = (Gen.V m c main_v13 : Vec Ideal S16384x128 .f32) (ix2 (row t i) j) := by
    unfold row
    blk_ext [iblk, idx_facts t]
  rw [e]; exact V_sin ..

/-- A block's product is the rows' product. -/
theorem prod_blk (i : Fin 256) (n : Fin 6656) :
    bprod (iblk m c 0 t) (iblk m c 1 t) (iblk m c 2 t) i n = prod (args m c) (row t i) n := by
  unfold bprod prod bhid hid
  simp only [blk0, blk1, blk2]

/-- A column of a rotated result lies in the first or the second half of a head. -/
theorem halves (k : Fin 1024) : ∃ (h : Fin 4) (j : Fin 128), k = lo h j ∨ k = hi h j := by
  refine ⟨⟨k.val / 256, by omega⟩, ⟨k.val % 128, by omega⟩, ?_⟩
  unfold lo hi
  simp only [Fin.ext_iff]
  omega

/-- Where window 6's blocks lie. -/
theorem emb6 (i : Fin 256) (k : Fin 1024) :
    ((win0_6.blk t).view.emb (ix2 i k : S256x1024.Idx) : S16384x1024.Idx) = ix2 (row t i) k := by
  unfold row
  blk_ext [idx_facts t]

/-- The queries are the reference's. -/
theorem res6 : (dats m 0 c).arrAt 6 cfg0.N = qA (args m c) := by
  refine (dats m 0 c).arrAt_eq_of_covers 6 _ (by decide +kernel) fun t hf y => ?_
  blk_simp
  rw [after0_6]
  obtain ⟨i, k, rfl⟩ : ∃ (i : Fin 256) (k : Fin 1024), y = (ix2 i k : S256x1024.Idx) := ⟨y 0, y 1, eq_ix2 y⟩
  refine Eq.trans ?_ (congrArg (qA (args m c)) (emb6 t i k)).symm
  obtain ⟨h, j, rfl | rfl⟩ := halves k
  · rw [out6_lo, qA_lo]; simp only [prod_blk, blk3, blk4]
  · rw [out6_hi, qA_hi]; simp only [prod_blk, blk3, blk4]

/-- Where window 7's blocks lie. -/
theorem emb7 (i : Fin 256) (k : Fin 1024) :
    ((win0_7.blk t).view.emb (ix2 i k : S256x1024.Idx) : S16384x1024.Idx) = ix2 (row t i) k := by
  unfold row
  blk_ext [idx_facts t]

/-- The keys are the reference's. -/
theorem res7 : (dats m 0 c).arrAt 7 cfg0.N = kA (args m c) := by
  refine (dats m 0 c).arrAt_eq_of_covers 7 _ (by decide +kernel) fun t hf y => ?_
  blk_simp
  rw [after0_7]
  obtain ⟨i, k, rfl⟩ : ∃ (i : Fin 256) (k : Fin 1024), y = (ix2 i k : S256x1024.Idx) := ⟨y 0, y 1, eq_ix2 y⟩
  refine Eq.trans ?_ (congrArg (kA (args m c)) (emb7 t i k)).symm
  obtain ⟨h, j, rfl | rfl⟩ := halves k
  · rw [out7_lo, kA_lo]; simp only [prod_blk, blk3, blk4]
  · rw [out7_hi, kA_hi]; simp only [prod_blk, blk3, blk4]

/-- Where window 8's blocks lie. -/
theorem emb8 (i : Fin 256) (k : Fin 2048) :
    ((win0_8.blk t).view.emb (ix2 i k : S256x2048.Idx) : S16384x2048.Idx) = ix2 (row t i) k := by
  unfold row
  blk_ext [idx_facts t]

/-- The values are the reference's. -/
theorem res8 : (dats m 0 c).arrAt 8 cfg0.N = vA (args m c) := by
  refine (dats m 0 c).arrAt_eq_of_covers 8 _ (by decide +kernel) fun t hf y => ?_
  blk_simp
  rw [after0_8]
  obtain ⟨i, k, rfl⟩ : ∃ (i : Fin 256) (k : Fin 2048), y = (ix2 i k : S256x2048.Idx) := ⟨y 0, y 1, eq_ix2 y⟩
  refine Eq.trans ?_ (congrArg (vA (args m c)) (emb8 t i k)).symm
  rw [out8, vA_at, prod_blk]

/-- Where window 9's blocks lie. -/
theorem emb9 (i : Fin 256) (k : Fin 2048) :
    ((win0_9.blk t).view.emb (ix2 i k : S256x2048.Idx) : S16384x2048.Idx) = ix2 (row t i) k := by
  unfold row
  blk_ext [idx_facts t]

/-- The gates are the reference's. -/
theorem res9 : (dats m 0 c).arrAt 9 cfg0.N = zA (args m c) := by
  refine (dats m 0 c).arrAt_eq_of_covers 9 _ (by decide +kernel) fun t hf y => ?_
  blk_simp
  rw [after0_9]
  obtain ⟨i, k, rfl⟩ : ∃ (i : Fin 256) (k : Fin 2048), y = (ix2 i k : S256x2048.Idx) := ⟨y 0, y 1, eq_ix2 y⟩
  refine Eq.trans ?_ (congrArg (zA (args m c)) (emb9 t i k)).symm
  rw [out9, zA_at, prod_blk]

/-- Where window 10's blocks lie. -/
theorem emb10 (i : Fin 256) (k : Fin 256) :
    ((win0_10.blk t).view.emb (ix2 i k : S256x256.Idx) : S16384x256.Idx) = ix2 (row t i) k := by
  unfold row
  blk_ext [idx_facts t]

/-- The memory queries are the reference's. -/
theorem res10 : (dats m 0 c).arrAt 10 cfg0.N = eA (args m c) := by
  refine (dats m 0 c).arrAt_eq_of_covers 10 _ (by decide +kernel) fun t hf y => ?_
  blk_simp
  rw [after0_10]
  obtain ⟨i, k, rfl⟩ : ∃ (i : Fin 256) (k : Fin 256), y = (ix2 i k : S256x256.Idx) := ⟨y 0, y 1, eq_ix2 y⟩
  refine Eq.trans ?_ (congrArg (eA (args m c)) (emb10 t i k)).symm
  rw [out10, eA_at, prod_blk]

/-- Where window 11's blocks lie. -/
theorem emb11 (i : Fin 256) (k : Fin 256) :
    ((win0_11.blk t).view.emb (ix2 i k : S256x256.Idx) : S16384x256.Idx) = ix2 (row t i) k := by
  unfold row
  blk_ext [idx_facts t]

/-- The memory gates are the reference's. -/
theorem res11 : (dats m 0 c).arrAt 11 cfg0.N = gA (args m c) := by
  refine (dats m 0 c).arrAt_eq_of_covers 11 _ (by decide +kernel) fun t hf y => ?_
  blk_simp
  rw [after0_11]
  obtain ⟨i, k, rfl⟩ : ∃ (i : Fin 256) (k : Fin 256), y = (ix2 i k : S256x256.Idx) := ⟨y 0, y 1, eq_ix2 y⟩
  refine Eq.trans ?_ (congrArg (gA (args m c)) (emb11 t i k)).symm
  rw [out11, gA_at, prod_blk]

end Cert.Proof.Proj1

end

end
-- ==== Proof.MemMath.lean ====
module

public import Idealize.ShloMosaic.Lib.Pointwise
public import Idealize.ShloMosaic.Lib.IdealHost

/-! # Softmax attention over the extended reals

`att` divides every weight by the sum of the weights; `div_sum` says that dividing the weighted sum
once is the same when the scores are real. -/

@[expose] public section

open Idealize Idealize.ShloMosaic

noncomputable section

namespace Cert.Proof.Mem

/-- A value that is a real number. -/
def IsReal (x : EReal) : Prop := ∃ r : ℝ, x = r

/-- A query's score with key `n`. -/
def score (q : Fin 64 → EReal) (k : Fin 256 → Fin 64 → EReal) (n : Fin 256) : EReal := ∑ d, q d * k n d
/-- The largest score. -/
def top (s : Fin 256 → EReal) : EReal := Finset.univ.fold max (Ideal.ofBits .f32 0xFF800000#32) s
/-- A key's weight, not yet divided by the sum of the weights. -/
def wt (s : Fin 256 → EReal) (n : Fin 256) : EReal := Ideal.exp (s n - top s)
/-- The sum of the weights. -/
def tot (s : Fin 256 → EReal) : EReal := ∑ n, wt s n
/-- The attention's output: the values times their weights. -/
def att (s v : Fin 256 → EReal) : EReal := ∑ n, v n * Ideal.div (wt s n) (tot s)

/-- A row normalised by the root of its mean square, times a gain. -/
def norm (y g : Fin 1024 → EReal) (k : Fin 1024) : EReal :=
  y k * Ideal.rsqrt (Ideal.div (∑ j, y j * y j) (Ideal.ofBits .f32 0x44800000#32) + Ideal.ofBits .f32 0x358637BD#32) * g k

/-- A finite sum of real numbers is real. -/
theorem IsReal.sum {ι : Type} (u : Finset ι) (f : ι → EReal) (h : ∀ i, IsReal (f i)) : IsReal (∑ i ∈ u, f i) := by
  classical
  induction u using Finset.induction_on with
  | empty => exact ⟨0, by simp⟩
  | insert a u ha ih =>
    obtain ⟨x, hx⟩ := h a
    obtain ⟨y, hy⟩ := ih
    exact ⟨x + y, by rw [Finset.sum_insert ha, hx, hy, EReal.coe_add]⟩

/-- The scores of real queries and keys are real. -/
theorem score_real (q : Fin 64 → EReal) (k : Fin 256 → Fin 64 → EReal) (hq : ∀ d, IsReal (q d)) (hk : ∀ n d, IsReal (k n d))
    (n : Fin 256) : IsReal (score q k n) := by
  refine IsReal.sum _ _ fun d => ?_
  obtain ⟨x, hx⟩ := hq d
  obtain ⟨y, hy⟩ := hk n d
  exact ⟨x * y, by rw [hx, hy, EReal.coe_mul]⟩

/-- The largest of real scores is real. -/
theorem top_real (s : Fin 256 → EReal) (h : ∀ n, IsReal (s n)) : IsReal (top s) := by
  have hb : Ideal.ofBits .f32 0xFF800000#32 = (⊥ : EReal) := by simp [Ideal.ofBits, Ideal.ieee]
  have : ∀ u : Finset (Fin 256), (u = ∅ ∧ u.fold max (⊥ : EReal) s = ⊥) ∨ IsReal (u.fold max (⊥ : EReal) s) := by
    intro u
    induction u using Finset.induction_on with
    | empty => exact Or.inl ⟨rfl, Finset.fold_empty⟩
    | insert a u ha ih =>
      right
      rw [Finset.fold_insert ha]
      rcases ih with ⟨_, e⟩ | e
      · rw [e, max_eq_left bot_le]; exact h a
      · rcases max_choice (s a) (u.fold max (⊥ : EReal) s) with e' | e' <;> rw [e']
        exacts [h a, e]
  unfold top
  rw [hb]
  rcases this Finset.univ with ⟨e, _⟩ | e
  · exact absurd e (Finset.univ_nonempty.ne_empty)
  · exact e

/-- Minus infinity is no more than the largest score. -/
theorem max_top (s : Fin 256 → EReal) : max (Ideal.ofBits .f32 0xFF800000#32) (top s) = top s := by
  have hb : Ideal.ofBits .f32 0xFF800000#32 = (⊥ : EReal) := by simp [Ideal.ofBits, Ideal.ieee]
  rw [hb, max_eq_right bot_le]

/-- A weight of real scores is a positive real number. -/
theorem wt_pos (s : Fin 256 → EReal) (h : ∀ n, IsReal (s n)) (n : Fin 256) : ∃ r : ℝ, 0 < r ∧ wt s n = r := by
  obtain ⟨a, ha⟩ := h n
  obtain ⟨b, hb⟩ := top_real s h
  refine ⟨Real.exp (a - b), Real.exp_pos _, ?_⟩
  unfold wt
  rw [ha, hb, ← EReal.coe_sub]
  rfl

/-- The sum of the weights of real scores is a positive real number. -/
theorem tot_pos (s : Fin 256 → EReal) (h : ∀ n, IsReal (s n)) : ∃ r : ℝ, 0 < r ∧ tot s = r := by
  choose f hf hs using wt_pos s h
  refine ⟨∑ n, f n, Finset.sum_pos (fun n _ => hf n) Finset.univ_nonempty, ?_⟩
  unfold tot
  simp only [hs]
  exact (map_sum (⟨⟨fun x : ℝ => (x : EReal), rfl⟩, EReal.coe_add⟩ : ℝ →+ EReal) f Finset.univ).symm

/-- Multiplication by a nonnegative real number distributes over a sum. -/
theorem sum_mul_real {ι : Type} (u : Finset ι) (f : ι → EReal) (r : ℝ) (hr : 0 ≤ r) :
    (∑ i ∈ u, f i) * (r : EReal) = ∑ i ∈ u, f i * (r : EReal) := by
  classical
  induction u using Finset.induction_on with
  | empty => simp
  | insert a u ha ih =>
    rw [Finset.sum_insert ha, Finset.sum_insert ha,
      EReal.right_distrib_of_nonneg_of_ne_top (EReal.coe_nonneg.2 hr) (EReal.coe_ne_top r), ih]

/-- Dividing the weighted sum once is dividing every weight, when the scores are real. -/
theorem div_sum (s v : Fin 256 → EReal) (h : ∀ n, IsReal (s n)) :
    Ideal.div (∑ n, wt s n * v n) (tot s) = att s v := by
  obtain ⟨r, hr, e⟩ := tot_pos s h
  have hne : (r : EReal) ≠ 0 := by exact_mod_cast hr.ne'
  unfold att Ideal.div
  simp only [e, if_neg hne]
  rw [← EReal.coe_inv, sum_mul_real _ _ _ (inv_nonneg.2 hr.le)]
  refine Finset.sum_congr rfl fun n _ => ?_
  rw [mul_comm (wt s n), mul_assoc]

/-- Lane `d` of the first head of a pair. -/
def lo (d : Fin 64) : Fin 128 := ⟨d.val, by omega⟩
/-- Lane `d` of the second head of a pair. -/
def hi (d : Fin 64) : Fin 128 := ⟨64 + d.val, by omega⟩

/-- Lane numbers compare as numbers. -/
theorem slt_lane (l : Fin 128) : (IntOp.cmpi .slt (BitVec.ofNat 32 l.val) 64#32 = 1) = (l.val < 64) := by
  revert l; decide +kernel

/-- Lane numbers compare as numbers. -/
theorem sge_lane (l : Fin 128) : (IntOp.cmpi .sge (BitVec.ofNat 32 l.val) 64#32 = 1) = (64 ≤ l.val) := by
  revert l; decide +kernel

/-- A choice by the lane, at a lane of the first head. -/
theorem select_lo (d : Fin 64) (a b : EReal) :
    Scalar.select (IntOp.cmpi .slt (BitVec.ofNat 32 d.val) 64#32) a b = a := by
  have e : (IntOp.cmpi .slt (BitVec.ofNat 32 d.val) 64#32 = 1) = (d.val < 64) := slt_lane (lo d)
  unfold Scalar.select
  rw [if_pos (e ▸ d.isLt)]

/-- A choice by the lane, at a lane of the second head. -/
theorem select_hi (d : Fin 64) (a b : EReal) :
    Scalar.select (IntOp.cmpi .slt (BitVec.ofNat 32 (64 + d.val)) 64#32) a b = b := by
  have e : (IntOp.cmpi .slt (BitVec.ofNat 32 (64 + d.val)) 64#32 = 1) = (64 + d.val < 64) := slt_lane (hi d)
  unfold Scalar.select
  rw [if_neg (by rw [e]; omega)]

/-- A sum over a pair's lanes, the second head's masked. -/
theorem sum_lo (f : Fin 128 → EReal) :
    ∑ l : Fin 128, Scalar.select (IntOp.cmpi .slt (BitVec.ofNat 32 l.val) 64#32) (f l) 0 = ∑ d : Fin 64, f (lo d) := by
  unfold Scalar.select
  simp only [slt_lane]
  rw [Fin.sum_univ_add (a := 64) (b := 64)]
  have h2 : ∑ i : Fin 64, (if (Fin.natAdd 64 i).val < 64 then f (Fin.natAdd 64 i) else 0) = 0 :=
    Finset.sum_eq_zero fun i _ => by rw [if_neg (by simp)]
  rw [h2, add_zero]
  refine Finset.sum_congr rfl fun i _ => ?_
  rw [if_pos (by simp)]
  rfl

/-- A sum over a pair's lanes, the first head's masked. -/
theorem sum_hi (f : Fin 128 → EReal) :
    ∑ l : Fin 128, Scalar.select (IntOp.cmpi .sge (BitVec.ofNat 32 l.val) 64#32) (f l) 0 = ∑ d : Fin 64, f (hi d) := by
  unfold Scalar.select
  simp only [sge_lane]
  rw [Fin.sum_univ_add (a := 64) (b := 64)]
  have h2 : ∑ i : Fin 64, (if 64 ≤ (Fin.castAdd 64 i).val then f (Fin.castAdd 64 i) else 0) = 0 :=
    Finset.sum_eq_zero fun i _ => by rw [if_neg (by simp)]
  rw [h2, zero_add]
  refine Finset.sum_congr rfl fun i _ => ?_
  rw [if_pos (by simp)]
  rfl

end Cert.Proof.Mem

end

end
-- ==== Proof.Out1Blocks.lean ====
module

public import proofs.«01_k».proof.Proof.MemMath
public import proofs.«01_k».proof.Proof.Gen.Kernel3Ideal.Value
public import Idealize.ShloMosaic.Lib.Pointwise
public import Idealize.ShloMosaic.Lib.Pipeline.ValueKit
public import Idealize.ShloMosaic.Lib.Pipeline.ReadBack

/-! # The last output projection: what a grid point stores

A grid point's memory attention works on pairs of heads: the pair's queries are put above one another,
each with the other head's lanes masked, and one product gives both heads' scores. -/

@[expose] public section

open Idealize Idealize.ShloMosaic
open Cert.Kernel3Ideal Cert.Kernel3Ideal.Gen

set_option maxRecDepth 16384

noncomputable section

namespace Cert.Proof.Out1

open Mem (lo hi)

/-- The scores of a pair of heads: the first head's rows, then the second's. -/
def bS (q k : FVec Ideal S256x128 .bf16) : FVec Ideal S512x256 .f32 :=
  matmul dot_S512x128_S256x128_S512x256_1_1_0_0_n_n none
    (concatenate S512x128 0
      [⟨S256x128, select (cmpi .slt (iota .tc S256x128 32 [1] iota_S256x128_d1_w32) (broadcast S256x128 64#32)) q
        (broadcast S256x128 (Scalar.ofBits (F := Ideal) .bf16 0x0000#16))⟩,
       ⟨S256x128, select (cmpi .sge (iota .tc S256x128 32 [1] iota_S256x128_d1_w32) (broadcast S256x128 64#32)) q
        (broadcast S256x128 (Scalar.ofBits (F := Ideal) .bf16 0x0000#16))⟩]
      concatenates_S256x128_S256x128_S512x128_d0) k (constant S512x256 .f32 0x00000000#32)

/-- The undivided weights of a pair of heads. -/
def bW (s : FVec Ideal S512x256 .f32) : FVec Ideal S512x256 .f32 :=
  exp (subf s (broadcastTo S512x256 (shapeCast S512x1
    (multiReduction .maximumf [1] S512 s 0xFF800000#32 reduces_S512x256_S512 (.inl rfl) rfl) shapeCasts_S512_S512x1)
    broadcasts_S512x1_S512x256))

/-- The attention's output for a pair of heads, of its undivided weights. -/
def bO (w : FVec Ideal S512x256 .f32) (v : FVec Ideal S256x128 .bf16) : FVec Ideal S512x128 .f32 :=
  divf (matmul dot_S512x256_S256x128_S512x128_1_0_0_1_n_n none (truncf .bf16 w bitsLt_bf16_f32) v (constant S512x128 .f32 0x00000000#32))
    (broadcastTo S512x128 (shapeCast S512x1
      (multiReduction .add [1] S512 w 0x00000000#32 reduces_S512x256_S512 (.inl rfl) rfl) shapeCasts_S512_S512x1)
      broadcasts_S512x1_S512x128)

/-- A pair's output, each head's lanes from its own rows, gated. -/
def bC (o : FVec Ideal S512x128 .f32) (z : FVec Ideal S256x128 .bf16) : FVec Ideal S256x128 .f32 :=
  mulf (select (cmpi .slt (iota .tc S256x128 32 [1] iota_S256x128_d1_w32) (broadcast S256x128 64#32))
      (extractStridedSlice S256x128 ![0, 0] o slices_S512x128_o0_0_S256x128)
      (extractStridedSlice S256x128 ![256, 0] o slices_S512x128_o256_0_S256x128)) (extf .f32 z bitsLt_bf16_f32)

/-- The block's gated memory attention. -/
def bM (q z : FVec Ideal S256x256 .bf16) (kv : FVec Ideal S256x512 .bf16) : FVec Ideal S256x256 .f32 :=
  concatenate S256x256 1
    [⟨S256x128, bC (bO (bW (bS (extractStridedSlice S256x128 ![0, 0] q slices_S256x256_o0_0_S256x128)
        (extractStridedSlice S256x128 ![0, 0] kv slices_S256x512_o0_0_S256x128)))
        (extractStridedSlice S256x128 ![0, 256] kv slices_S256x512_o0_256_S256x128))
        (extractStridedSlice S256x128 ![0, 0] z slices_S256x256_o0_0_S256x128)⟩,
     ⟨S256x128, bC (bO (bW (bS (extractStridedSlice S256x128 ![0, 128] q slices_S256x256_o0_128_S256x128)
        (extractStridedSlice S256x128 ![0, 128] kv slices_S256x512_o0_128_S256x128)))
        (extractStridedSlice S256x128 ![0, 384] kv slices_S256x512_o0_384_S256x128))
        (extractStridedSlice S256x128 ![0, 128] z slices_S256x256_o0_128_S256x128)⟩]
    concatenates_S256x128_S256x128_S256x256_d1

/-- The block's rows before the norm. -/
def bY (rg : FVec Ideal S256x2048 .bf16) (mm : FVec Ideal S256x256 .f32) (wr : FVec Ideal S2048x1024 .bf16)
    (wm : FVec Ideal S256x1024 .bf16) (x : FVec Ideal S256x1024 .f32) : FVec Ideal S256x1024 .f32 :=
  addf x (addf (matmul dot_S256x2048_S2048x1024_S256x1024_1_0_0_1_n_n none rg
      (shapeCast S2048x1024 wr shapeCasts_S2048x1024_S2048x1024) (constant S256x1024 .f32 0x00000000#32))
    (matmul dot_S256x256_S256x1024_S256x1024_1_0_0_1_n_n none (truncf .bf16 mm bitsLt_bf16_f32)
      (shapeCast S256x1024 wm shapeCasts_S256x1024_S256x1024) (constant S256x1024 .f32 0x00000000#32)))

/-- Row `i` of the first head of a pair. -/
def up (i : Fin 256) : Fin 512 := ⟨i.val, by omega⟩
/-- Row `i` of the second head of a pair. -/
def dn (i : Fin 256) : Fin 512 := ⟨256 + i.val, by omega⟩

/-- The first head's scores. -/
theorem bS_up (q k : FVec Ideal S256x128 .bf16) (i n : Fin 256) :
    bS q k (ix2 (up i) n) = Mem.score (fun d => q (ix2 i (lo d))) (fun n d => k (ix2 n (lo d))) n := by
  pointwise [bS, up, Mem.score]
  exact Mem.sum_lo fun l => q (ix2 i l) * k (ix2 n l)

/-- The second head's scores. -/
theorem bS_dn (q k : FVec Ideal S256x128 .bf16) (i n : Fin 256) :
    bS q k (ix2 (dn i) n) = Mem.score (fun d => q (ix2 i (hi d))) (fun n d => k (ix2 n (hi d))) n := by
  pointwise [bS, dn, Mem.score]
  exact Mem.sum_hi fun l => q (ix2 i l) * k (ix2 n l)

/-- The undivided weights at an index. -/
theorem bW_at (s : FVec Ideal S512x256 .f32) (i : Fin 512) (n : Fin 256) :
    bW s (ix2 i n) = Mem.wt (fun n => s (ix2 i n)) n := by
  pointwise [bW, Mem.wt, Mem.top]

/-- A pair's output at an index. -/
theorem bO_at (w : FVec Ideal S512x256 .f32) (v : FVec Ideal S256x128 .bf16) (i : Fin 512) (l : Fin 128) :
    bO w v (ix2 i l) = Ideal.div (∑ n : Fin 256, w (ix2 i n) * v (ix2 n l)) (∑ n : Fin 256, w (ix2 i n)) := by
  pointwise [bO]

/-- A pair's gated output at a lane of the first head. -/
theorem bC_lo (o : FVec Ideal S512x128 .f32) (z : FVec Ideal S256x128 .bf16) (i : Fin 256) (d : Fin 64) :
    bC o z (ix2 i (lo d)) = o (ix2 (up i) (lo d)) * z (ix2 i (lo d)) := by
  pointwise [bC, lo, up]
  rw [Mem.select_lo]

/-- A pair's gated output at a lane of the second head. -/
theorem bC_hi (o : FVec Ideal S512x128 .f32) (z : FVec Ideal S256x128 .bf16) (i : Fin 256) (d : Fin 64) :
    bC o z (ix2 i (hi d)) = o (ix2 (dn i) (hi d)) * z (ix2 i (hi d)) := by
  pointwise [bC, hi, dn]
  rw [Mem.select_hi]

/-- The rows before the norm at an index. -/
theorem bY_at (rg : FVec Ideal S256x2048 .bf16) (mm : FVec Ideal S256x256 .f32) (wr : FVec Ideal S2048x1024 .bf16)
    (wm : FVec Ideal S256x1024 .bf16) (x : FVec Ideal S256x1024 .f32) (i : Fin 256) (k : Fin 1024) :
    bY rg mm wr wm x (ix2 i k) = x (ix2 i k) + (∑ n : Fin 2048, rg (ix2 i n) * wr (ix2 n k) + ∑ n : Fin 256, mm (ix2 i n) * wm (ix2 n k)) := by
  pointwise [bY]

variable (X0 : Vec Ideal S256x2048 .bf16) (X1 X2 : Vec Ideal S256x256 .bf16) (X3 : Vec Ideal S256x512 .bf16)
  (X4 : Vec Ideal S2048x1024 .bf16) (X5 : Vec Ideal S256x1024 .bf16) (X6 : Vec Ideal S256x1024 .f32) (X7 : Vec Ideal S1x1024 .f32)

/-- The text of a grid point's rows before the norm is `bY` of `bM`. -/
theorem pay7_eq : k0_pay7 (iota .tc S256x128 32 [1] iota_S256x128_d1_w32) X3 X2 (k0_pay2 X1 X3 X2) (k0_pay3 X1) k0_pay4
    (k0_pay5 X1) k0_pay6 X0 X4 X5 X6 = bY X0 (bM X1 X2 X3) X4 X5 X6 := rfl

/-- A block of the result at an index. -/
theorem out8 (i : Fin 256) (k : Fin 1024) : out0_8 X0 X1 X2 X3 X4 X5 X6 X7 (ix2 i k)
    = Mem.norm (fun k => bY X0 (bM X1 X2 X3) X4 X5 X6 (ix2 i k)) (fun k => X7 (ix2 0 k)) k := by
  rw [← pay7_eq]
  unfold_out out0_8
  canon_tiles x hx
  all_goals
    idx_vars x
    obtain rfl : i = x0 := Fin.ext hx0
    obtain rfl : k = x1 := Fin.ext hx1
    have l0 : View.ld X0 r0_2 = X0 := View.ld_unit_lit _ _ (by decide)
    have l1 : View.ld X1 r0_0 = X1 := View.ld_unit_lit _ _ (by decide)
    have l2 : View.ld X2 r0_0 = X2 := View.ld_unit_lit _ _ (by decide)
    have l3 : View.ld X3 r0_1 = X3 := View.ld_unit_lit _ _ (by decide)
    have l4 : View.ld X4 r0_3 = X4 := View.ld_unit_lit _ _ (by decide)
    have l5 : View.ld X5 r0_4 = X5 := View.ld_unit_lit _ _ (by decide)
    have l6 : View.ld X6 r0_4 = X6 := View.ld_unit_lit _ _ (by decide)
    rw [l0, l1, l2, l3, l4, l5, l6]
    pointwise [k0_pay1, k0_pay8, k0_pay9, Mem.norm]

/-- Column `d` of the first head of pair `p`. -/
def ce (p : Fin 2) (d : Fin 64) : Fin 256 := ⟨p.val * 128 + d.val, by omega⟩
/-- Column `d` of the second head of pair `p`. -/
def co (p : Fin 2) (d : Fin 64) : Fin 256 := ⟨p.val * 128 + 64 + d.val, by omega⟩
/-- Column `k` of the keys. -/
def bk (k : Fin 256) : Fin 512 := ⟨k.val, by omega⟩
/-- Column `k` of the values. -/
def bv (k : Fin 256) : Fin 512 := ⟨256 + k.val, by omega⟩

/-- The kernel's attention of one row: the weighted sum of the values over the sum of the weights. -/
def kat (s v : Fin 256 → EReal) : EReal := Ideal.div (∑ n, Mem.wt s n * v n) (Mem.tot s)

/-- A pair's output at a lane of its first head. -/
theorem bO_lo (q k v : FVec Ideal S256x128 .bf16) (i : Fin 256) (l : Fin 128) :
    bO (bW (bS q k)) v (ix2 (up i) l)
      = kat (Mem.score (fun d => q (ix2 i (lo d))) (fun n d => k (ix2 n (lo d)))) (fun n => v (ix2 n l)) := by
  unfold kat Mem.tot
  simp only [bO_at, bW_at, bS_up]

/-- A pair's output at a lane of its second head. -/
theorem bO_hi (q k v : FVec Ideal S256x128 .bf16) (i : Fin 256) (l : Fin 128) :
    bO (bW (bS q k)) v (ix2 (dn i) l)
      = kat (Mem.score (fun d => q (ix2 i (hi d))) (fun n d => k (ix2 n (hi d)))) (fun n => v (ix2 n l)) := by
  unfold kat Mem.tot
  simp only [bO_at, bW_at, bS_dn]

/-- The score of the block's row with memory token `n`, from the columns `f` of a head. -/
def bs (f : Fin 64 → Fin 256) (i : Fin 256) : Fin 256 → EReal :=
  Mem.score (fun d => X1 (ix2 i (f d))) (fun n d => X3 (ix2 n (bk (f d))))

/-- The gated memory attention at a column of a pair's first head. -/
theorem bM_ce (i : Fin 256) (p : Fin 2) (d : Fin 64) : bM X1 X2 X3 (ix2 i (ce p d))
    = kat (bs X1 X3 (ce p) i) (fun n => X3 (ix2 n (bv (ce p d)))) * X2 (ix2 i (ce p d)) := by
  have hd := d.isLt
  obtain rfl | rfl : p = 0 ∨ p = 1 := by omega
  · have e : bM X1 X2 X3 (ix2 i (ce 0 d)) = bC (bO (bW (bS (extractStridedSlice S256x128 ![0, 0] X1 slices_S256x256_o0_0_S256x128)
        (extractStridedSlice S256x128 ![0, 0] X3 slices_S256x512_o0_0_S256x128)))
        (extractStridedSlice S256x128 ![0, 256] X3 slices_S256x512_o0_256_S256x128))
        (extractStridedSlice S256x128 ![0, 0] X2 slices_S256x256_o0_0_S256x128) (ix2 i (lo d)) := by
      pointwise [bM, ce, lo]
      exact dif_pos (by omega)
    refine e.trans ?_
    rw [bC_lo, bO_lo]
    pointwise [bs, bk, bv, ce, lo]
  · have e : bM X1 X2 X3 (ix2 i (ce 1 d)) = bC (bO (bW (bS (extractStridedSlice S256x128 ![0, 128] X1 slices_S256x256_o0_128_S256x128)
        (extractStridedSlice S256x128 ![0, 128] X3 slices_S256x512_o0_128_S256x128)))
        (extractStridedSlice S256x128 ![0, 384] X3 slices_S256x512_o0_384_S256x128))
        (extractStridedSlice S256x128 ![0, 128] X2 slices_S256x256_o0_128_S256x128) (ix2 i (lo d)) := by
      pointwise [bM, ce, lo]
    refine e.trans ?_
    rw [bC_lo, bO_lo]
    pointwise [bs, bk, bv, ce, lo]
    simp only [← Nat.add_assoc, Nat.reduceAdd]

/-- The gated memory attention at a column of a pair's second head. -/
theorem bM_co (i : Fin 256) (p : Fin 2) (d : Fin 64) : bM X1 X2 X3 (ix2 i (co p d))
    = kat (bs X1 X3 (co p) i) (fun n => X3 (ix2 n (bv (co p d)))) * X2 (ix2 i (co p d)) := by
  have hd := d.isLt
  obtain rfl | rfl : p = 0 ∨ p = 1 := by omega
  · have e : bM X1 X2 X3 (ix2 i (co 0 d)) = bC (bO (bW (bS (extractStridedSlice S256x128 ![0, 0] X1 slices_S256x256_o0_0_S256x128)
        (extractStridedSlice S256x128 ![0, 0] X3 slices_S256x512_o0_0_S256x128)))
        (extractStridedSlice S256x128 ![0, 256] X3 slices_S256x512_o0_256_S256x128))
        (extractStridedSlice S256x128 ![0, 0] X2 slices_S256x256_o0_0_S256x128) (ix2 i (hi d)) := by
      pointwise [bM, co, hi]
      exact dif_pos (by omega)
    refine e.trans ?_
    rw [bC_hi, bO_hi]
    pointwise [bs, bk, bv, co, hi]
  · have e : bM X1 X2 X3 (ix2 i (co 1 d)) = bC (bO (bW (bS (extractStridedSlice S256x128 ![0, 128] X1 slices_S256x256_o0_128_S256x128)
        (extractStridedSlice S256x128 ![0, 128] X3 slices_S256x512_o0_128_S256x128)))
        (extractStridedSlice S256x128 ![0, 384] X3 slices_S256x512_o0_384_S256x128))
        (extractStridedSlice S256x128 ![0, 128] X2 slices_S256x256_o0_128_S256x128) (ix2 i (hi d)) := by
      pointwise [bM, co, hi]
      exact (dif_neg (by omega)).trans (congrArg _ (congrArg (ix2 i) (Fin.ext (by simp only []; omega))))
    refine e.trans ?_
    rw [bC_hi, bO_hi]
    pointwise [bs, bk, bv, co, hi]
    simp only [← Nat.add_assoc, Nat.reduceAdd]

end Cert.Proof.Out1

end

end
-- ==== Proof.Out1Ref.lean ====
module

public import proofs.«01_k».proof.Proof.Gen.Reference3Ideal.Run
public import proofs.«01_k».proof.Proof.MemMath
public import Idealize.ShloMosaic.Lib.ValueIdx

/-! # The last output projection: the formula, and the reference's result

A row's memory attention, gated, and the retention's row are multiplied by the weights, added to the
residual, and normalised. -/

@[expose] public section

open Idealize Idealize.ShloMosaic Idealize.ShloMosaic.TcCoe Idealize.SL.Sem
open Cert.Reference3Ideal Cert.Reference3Ideal.Gen

set_option maxRecDepth 16384

noncomputable section

namespace Cert.Proof.Out1

/-- The arrays the call is given. -/
structure Args where
  rg : FVec Ideal S16384x2048 .bf16
  e : FVec Ideal S16384x256 .bf16
  z : FVec Ideal S16384x256 .bf16
  kv : FVec Ideal S256x512 .bf16
  w : FVec Ideal S2304x1024 .f32
  x : FVec Ideal S16384x1024 .f32
  g : FVec Ideal S1024 .f32

variable (A : Args)

/-- The reference's scores. -/
def scoreA : FVec Ideal S1x4x16384x256 .f32 :=
  Host.dotGeneral dot_S1x16384x4x64_S1x256x4x64_S1x4x16384x256_3_3_1_1_02_02 none (shapeCast _ (extf .f32 A.e bitsLt_bf16_f32)
    shapeCasts_S16384x256_S1x16384x4x64) (shapeCast _ (extractStridedSlice S256x256 ![0, 0] (extf .f32 A.kv bitsLt_bf16_f32)
    slices_S256x512_S256x256_0_0) shapeCasts_S256x256_S1x256x4x64)

/-- The reference's largest scores. -/
def topA : FVec Ideal S1x4x16384 .f32 :=
  Host.reduce FloatOps.maximumf (scoreA A) (constant S_ .f32 0xFF800000#32) reducesTo_S1x4x16384x256_S1x4x16384_d3 h_S_

/-- The reference's weights, not yet divided by their sum. -/
def expA : FVec Ideal S1x4x16384x256 .f32 :=
  Host.exp (subf (scoreA A) (broadcastInDim S1x4x16384x256 ![0, 1, 2, 3] bcast_S1x4x16384x1_S1x4x16384x256_0_1_2_3 (broadcastInDim S1x4x16384x1 ![0, 1,
    2] bcast_S1x4x16384_S1x4x16384x1_0_1_2 (maximumf (broadcastInDim S1x4x16384 ![] bcast_S_S1x4x16384 (constant S_ .f32 0xFF800000#32)) (topA A)))))

/-- The sums of the reference's weights. -/
def totA : FVec Ideal S1x4x16384 .f32 :=
  Host.reduceAdd (expA A) (constant S_ .f32 0x00000000#32) reducesTo_S1x4x16384x256_S1x4x16384_d3 h_S_

/-- The reference's weights. -/
def wtA : FVec Ideal S1x4x16384x256 .f32 :=
  Host.divf (expA A) (broadcastInDim S1x4x16384x256 ![0, 1, 2, 3] bcast_S1x4x16384x1_S1x4x16384x256_0_1_2_3 (broadcastInDim S1x4x16384x1 ![0, 1, 2]
    bcast_S1x4x16384_S1x4x16384x1_0_1_2 (totA A)))

/-- The reference's gated memory attention. -/
def memA : FVec Ideal S16384x256 .f32 :=
  mulf (shapeCast _ (shapeCast _ (transpose S1x16384x4x64 [0, 3, 1, 2] (Host.dotGeneral dot_S1x256x4x64_S1x4x16384x256_S1x4x64x16384_1_3_3_2_02_01 none
    (shapeCast _ (extractStridedSlice S256x256 ![0, 256] (extf .f32 A.kv bitsLt_bf16_f32) slices_S256x512_S256x256_0_256)
    shapeCasts_S256x256_S1x256x4x64) (wtA A)) transposes_S1x4x64x16384_S1x16384x4x64_0_3_1_2) shapeCasts_S1x16384x4x64_S1x16384x256)
    shapeCasts_S1x16384x256_S16384x256) (extf .f32 A.z bitsLt_bf16_f32)

/-- The reference's rows before the norm. -/
def sumA : FVec Ideal S16384x1024 .f32 :=
  addf A.x (Host.dotGeneral dot_S16384x2304_S2304x1024_S16384x1024_1_0_0_1_n_n none (concatenate S16384x2304 1 [⟨S16384x2048, (extf .f32 A.rg
    bitsLt_bf16_f32)⟩, ⟨S16384x256, (memA A)⟩] concatenates_S16384x2048_S16384x256_S16384x2304_d1) A.w)

/-- The reference's result. -/
def outA : FVec Ideal S16384x1024 .f32 :=
  mulf (mulf (sumA A) (broadcastInDim S16384x1024 ![0, 1] bcast_S16384x1_S16384x1024_0_1 (Host.rsqrt (addf (Host.divf (broadcastInDim S16384x1 ![0]
    bcast_S16384_S16384x1_0 (Host.reduceAdd (mulf (sumA A) (sumA A)) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32
    0x358637BD#32)))))) (broadcastInDim S16384x1024 ![0, 1] bcast_S1x1024_S16384x1024_0_1 (broadcastInDim S1x1024 ![1] bcast_S1024_S1x1024_1 A.g))

/-- Column `d` of head `h`. -/
def col (h : Fin 4) (d : Fin 64) : Fin 256 := ⟨h.val * 64 + d.val, by omega⟩
/-- Column `k` of the keys. -/
def kcol (k : Fin 256) : Fin 512 := ⟨k.val, by omega⟩
/-- Column `k` of the values. -/
def vcol (k : Fin 256) : Fin 512 := ⟨256 + k.val, by omega⟩

/-- The score of row `r`'s query of head `h` with memory token `n`. -/
def sc (r : Fin 16384) (h : Fin 4) (n : Fin 256) : EReal :=
  Mem.score (fun d => A.e (ix2 r (col h d))) (fun n d => A.kv (ix2 n (kcol (col h d)))) n

/-- The gated memory attention of row `r`. -/
def mem (r : Fin 16384) (h : Fin 4) (d : Fin 64) : EReal :=
  Mem.att (sc A r h) (fun n => A.kv (ix2 n (vcol (col h d)))) * A.z (ix2 r (col h d))

/-- Row `k` of the retention's weights. -/
def wr (k : Fin 2048) : Fin 2304 := ⟨k.val, by omega⟩
/-- Row `k` of the memory attention's weights. -/
def wm (k : Fin 256) : Fin 2304 := ⟨2048 + k.val, by omega⟩

/-- The scores at an index. -/
theorem scoreA_at (r : Fin 16384) (h : Fin 4) (n : Fin 256) : scoreA A (ix4 0 h r n) = sc A r h n := by
  pointwise [scoreA, sc, Mem.score, col, kcol]

/-- The largest scores at an index. -/
theorem topA_at (r : Fin 16384) (h : Fin 4) : topA A (ix3 0 h r) = Mem.top (sc A r h) := by
  pointwise [topA, Mem.top, ← scoreA_at]

/-- A value per row and head, spread over the memory tokens. -/
theorem bcast_at (a : FVec Ideal S1x4x16384 .f32) (r : Fin 16384) (h : Fin 4) (n : Fin 256) :
    broadcastInDim S1x4x16384x256 ![0, 1, 2, 3] bcast_S1x4x16384x1_S1x4x16384x256_0_1_2_3
      (broadcastInDim S1x4x16384x1 ![0, 1, 2] bcast_S1x4x16384_S1x4x16384x1_0_1_2 a) (ix4 0 h r n) = a (ix3 0 h r) := by
  rw [broadcastInDim_apply _ _ _ (ix4 0 h r n) (ix4 0 h r 0) (by intro a; fin_cases a <;> simp [ix4]),
    broadcastInDim_apply _ _ _ (ix4 0 h r 0) (ix3 0 h r) (by intro a; fin_cases a <;> simp [ix4, ix3])]

/-- The undivided weights at an index. -/
theorem expA_at (r : Fin 16384) (h : Fin 4) (n : Fin 256) : expA A (ix4 0 h r n) = Mem.wt (sc A r h) n := by
  have e : expA A (ix4 0 h r n) = Ideal.exp (scoreA A (ix4 0 h r n) - broadcastInDim S1x4x16384x256 ![0, 1, 2, 3]
      bcast_S1x4x16384x1_S1x4x16384x256_0_1_2_3 (broadcastInDim S1x4x16384x1 ![0, 1, 2] bcast_S1x4x16384_S1x4x16384x1_0_1_2
      (maximumf (broadcastInDim S1x4x16384 ![] bcast_S_S1x4x16384 (constant S_ .f32 0xFF800000#32)) (topA A))) (ix4 0 h r n)) := by
    unfold expA; rfl
  have e' : maximumf (broadcastInDim S1x4x16384 ![] bcast_S_S1x4x16384 (constant S_ .f32 0xFF800000#32)) (topA A) (ix3 0 h r)
      = max (Ideal.ofBits .f32 0xFF800000#32) (topA A (ix3 0 h r)) := by
    generalize topA A = a
    rw [ValueIdx.maximumf_apply, ValueIdx.broadcastInDim_scalar_apply]
    rfl
  rw [e, bcast_at, e', scoreA_at, topA_at, Mem.max_top]
  rfl

/-- The sums at an index. -/
theorem totA_at (r : Fin 16384) (h : Fin 4) : totA A (ix3 0 h r) = Mem.tot (sc A r h) := by
  pointwise [totA, Mem.tot, ← expA_at]

/-- The weights at an index. -/
theorem wtA_at (r : Fin 16384) (h : Fin 4) (n : Fin 256) :
    wtA A (ix4 0 h r n) = Ideal.div (Mem.wt (sc A r h) n) (Mem.tot (sc A r h)) := by
  have e : wtA A (ix4 0 h r n) = Ideal.div (expA A (ix4 0 h r n)) (broadcastInDim S1x4x16384x256 ![0, 1, 2, 3]
      bcast_S1x4x16384x1_S1x4x16384x256_0_1_2_3 (broadcastInDim S1x4x16384x1 ![0, 1, 2] bcast_S1x4x16384_S1x4x16384x1_0_1_2
      (totA A)) (ix4 0 h r n)) := by
    unfold wtA
    rw [ValueIdx.hostDivf_apply]
  rw [e, bcast_at, expA_at, totA_at]

/-- The memory attention at an index. -/
theorem memA_at (r : Fin 16384) (h : Fin 4) (d : Fin 64) : memA A (ix2 r (col h d)) = mem A r h d := by
  pointwise [memA, mem, Mem.att, ← wtA_at, col, vcol]

/-- A row before the norm. -/
def sm (r : Fin 16384) (k : Fin 1024) : EReal :=
  A.x (ix2 r k) + (∑ n : Fin 2048, A.rg (ix2 r n) * A.w (ix2 (wr n) k) + ∑ n : Fin 256, memA A (ix2 r n) * A.w (ix2 (wm n) k))

/-- The rows before the norm at an index. -/
theorem sumA_at (r : Fin 16384) (k : Fin 1024) : sumA A (ix2 r k) = sm A r k := by
  pointwise [sumA, sm, wr, wm]

/-- The result at an index. -/
theorem outA_at (r : Fin 16384) (k : Fin 1024) : outA A (ix2 r k) = Mem.norm (sm A r) (fun k => A.g (ix1 k)) k := by
  pointwise [outA, Mem.norm, ← sumA_at]

/-- The arguments the reference's memory holds. -/
def refArgs (m : (ℓ : Loc nD τ sig) → Buf (Elt Ideal) ℓ) (c : Dev nD) : Args where
  rg := m ((c.tc : Thread nD τ).loc main_arg0)
  e := m ((c.tc : Thread nD τ).loc main_arg1)
  z := m ((c.tc : Thread nD τ).loc main_arg2)
  kv := m ((c.tc : Thread nD τ).loc main_arg3)
  w := m ((c.tc : Thread nD τ).loc main_arg4)
  x := m ((c.tc : Thread nD τ).loc main_arg5)
  g := m ((c.tc : Thread nD τ).loc main_arg6)

/-- The reference's run, its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = outA (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Cert.Proof.Out1

end

end
-- ==== Proof.Out1Kernel.lean ====
module

public import proofs.«01_k».proof.Proof.Out1Blocks
public import proofs.«01_k».proof.Proof.Out1Ref

/-! # The odd layer's output: the kernel's result is the reference's

The kernel divides the weighted sum of the values by the sum of the weights once, the reference divides
every weight; the two agree where the scores are real numbers. -/

@[expose] public section

open Idealize Idealize.ShloMosaic
open Cert.Kernel3Ideal Cert.Kernel3Ideal.Gen

set_option maxRecDepth 16384

noncomputable section

namespace Cert.Proof.Out1

variable (m : (ℓ : Loc nD τ sig) → Buf (Elt Ideal) ℓ) (c : Dev nD)

/-- The arguments a core holds. -/
def args : Args where
  rg := m (c.tc.loc main_arg0)
  e := m (c.tc.loc main_arg1)
  z := m (c.tc.loc main_arg2)
  kv := m (c.tc.loc main_arg3)
  w := m (c.tc.loc main_arg4)
  x := m (c.tc.loc main_arg5)
  g := m (c.tc.loc main_arg6)

/-- Row `i` of block `t`. -/
def row (t : Fin cfg0.N) (i : Fin 256) : Fin 16384 :=
  ⟨t.val * 256 + i.val, by have := lt_of_lt_of_eq t.isLt (show cfg0.N = 64 from N_0); omega⟩

/-- The host's weights of the retention at an index. -/
theorem V_wr (n : Fin 2048) (k : Fin 1024) :
    (V m c main_v1 : Vec Ideal S2048x1024 .bf16) (ix2 n k) = (args m c).w (ix2 (wr n) k) := by
  have e : V m c main_v1 = (truncf .bf16 (extractStridedSlice S2048x1024 ![0, 0] (args m c).w slices_S2304x1024_S2048x1024_0_0)
      bitsLt_bf16_f32 : FVec Ideal S2048x1024 .bf16) := by
    entry_read
    rfl
  rw [e]; pointwise [wr]

/-- The host's weights of the memory attention at an index. -/
theorem V_wm (n : Fin 256) (k : Fin 1024) :
    (V m c main_v3 : Vec Ideal S256x1024 .bf16) (ix2 n k) = (args m c).w (ix2 (wm n) k) := by
  have e : V m c main_v3 = (truncf .bf16 (extractStridedSlice S256x1024 ![2048, 0] (args m c).w slices_S2304x1024_S256x1024_2048_0)
      bitsLt_bf16_f32 : FVec Ideal S256x1024 .bf16) := by
    entry_read
    rfl
  rw [e]; pointwise [wm]

/-- The host's gain row at an index. -/
theorem V_gain (k : Fin 1024) : (V m c main_v4 : Vec Ideal S1x1024 .f32) (ix2 0 k) = (args m c).g (ix1 k) := by
  have e : V m c main_v4 = broadcastInDim S1x1024 ![1] bcast_S1024_S1x1024_1 (args m c).g := by
    entry_read
    rfl
  rw [e]; pointwise

/-- Where each block lies. -/
theorem idx_facts : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![0, 0] ∧ win0_6.index t = ![t.val, 0] ∧ win0_7.index t = ![0, 0] ∧ win0_8.index t = ![t.val, 0] :=
  (by decide +kernel : ∀ t : Fin grid0.N, _)

variable (t : Fin cfg0.N)

/-- Input block 0 at an index. -/
theorem blk0 (i : Fin 256) (k : Fin 2048) :
    (iblk m c 0 t : Vec Ideal S256x2048 .bf16) (ix2 i k) = (args m c).rg (ix2 (row t i) k) := by
  unfold args row
  blk_ext [iblk, Gen.V, idx_facts t]

/-- Input block 1 at an index. -/
theorem blk1 (i : Fin 256) (k : Fin 256) :
    (iblk m c 1 t : Vec Ideal S256x256 .bf16) (ix2 i k) = (args m c).e (ix2 (row t i) k) := by
  unfold args row
  blk_ext [iblk, Gen.V, idx_facts t]

/-- Input block 2 at an index. -/
theorem blk2 (i : Fin 256) (k : Fin 256) :
    (iblk m c 2 t : Vec Ideal S256x256 .bf16) (ix2 i k) = (args m c).z (ix2 (row t i) k) := by
  unfold args row
  blk_ext [iblk, Gen.V, idx_facts t]

/-- Input block 3 at an index. -/
theorem blk3 (i : Fin 256) (k : Fin 512) :
    (iblk m c 3 t : Vec Ideal S256x512 .bf16) (ix2 i k) = (args m c).kv (ix2 i k) := by
  unfold args
  blk_ext [iblk, Gen.V, idx_facts t]

/-- Input block 4 at an index. -/
theorem blk4 (n : Fin 2048) (k : Fin 1024) :
    (iblk m c 4 t : Vec Ideal S2048x1024 .bf16) (ix2 n k) = (args m c).w (ix2 (wr n) k) := by
  have e : (iblk m c 4 t : Vec Ideal S2048x1024 .bf16) (ix2 n k) = (Gen.V m c main_v1 : Vec Ideal S2048x1024 .bf16) (ix2 n k) := by
    blk_ext [iblk, idx_facts t]
  rw [e]; exact V_wr ..

/-- Input block 5 at an index. -/
theorem blk5 (n : Fin 256) (k : Fin 1024) :
    (iblk m c 5 t : Vec Ideal S256x1024 .bf16) (ix2 n k) = (args m c).w (ix2 (wm n) k) := by
  have e : (iblk m c 5 t : Vec Ideal S256x1024 .bf16) (ix2 n k) = (Gen.V m c main_v3 : Vec Ideal S256x1024 .bf16) (ix2 n k) := by
    blk_ext [iblk, idx_facts t]
  rw [e]; exact V_wm ..

/-- Input block 6 at an index. -/
theorem blk6 (i : Fin 256) (k : Fin 1024) :
    (iblk m c 6 t : Vec Ideal S256x1024 .f32) (ix2 i k) = (args m c).x (ix2 (row t i) k) := by
  unfold args row
  blk_ext [iblk, Gen.V, idx_facts t]

/-- Input block 7 at an index. -/
theorem blk7 (k : Fin 1024) : (iblk m c 7 t : Vec Ideal S1x1024 .f32) (ix2 0 k) = (args m c).g (ix1 k) := by
  have e : (iblk m c 7 t : Vec Ideal S1x1024 .f32) (ix2 0 k) = (Gen.V m c main_v4 : Vec Ideal S1x1024 .f32) (ix2 0 k) := by
    blk_ext [iblk, idx_facts t]
  rw [e]; exact V_gain ..

/-- A column of the memory attention belongs to the first or the second head of a pair. -/
theorem pairs (k : Fin 256) : ∃ (p : Fin 2) (d : Fin 64), k = ce p d ∨ k = co p d := by
  refine ⟨⟨k.val / 128, by omega⟩, ⟨k.val % 64, by omega⟩, ?_⟩
  unfold ce co
  simp only [Fin.ext_iff]
  omega

/-- The head of a pair's first half. -/
def he (p : Fin 2) : Fin 4 := ⟨2 * p.val, by omega⟩
/-- The head of a pair's second half. -/
def ho (p : Fin 2) : Fin 4 := ⟨2 * p.val + 1, by omega⟩

/-- A column of a pair's first half is a column of its first head. -/
theorem ce_eq (p : Fin 2) (d : Fin 64) : ce p d = col (he p) d := by
  unfold ce col he; simp only [Fin.ext_iff]; omega
/-- A column of a pair's second half is a column of its second head. -/
theorem co_eq (p : Fin 2) (d : Fin 64) : co p d = col (ho p) d := by
  unfold co col ho; simp only [Fin.ext_iff]; omega

section
variable (A : Args) (hq : ∀ r k, Mem.IsReal (A.e (ix2 r k))) (hk : ∀ n k, Mem.IsReal (A.kv (ix2 n (kcol k))))
include hq hk

/-- The scores are real numbers. -/
theorem sc_real (r : Fin 16384) (h : Fin 4) (n : Fin 256) : Mem.IsReal (sc A r h n) :=
  Mem.score_real _ _ (fun _ => hq _ _) (fun _ _ => hk _ _) n

/-- The memory attention of a row of a block is the reference's, when the block holds that row of the arguments. -/
theorem bM_eq (X1 X2 : FVec Ideal S256x256 .bf16) (X3 : FVec Ideal S256x512 .bf16) (i : Fin 256) (r : Fin 16384)
    (h1 : ∀ k, X1 (ix2 i k) = A.e (ix2 r k)) (h2 : ∀ k, X2 (ix2 i k) = A.z (ix2 r k)) (h3 : ∀ n k, X3 (ix2 n k) = A.kv (ix2 n k))
    (k : Fin 256) : bM X1 X2 X3 (ix2 i k) = memA A (ix2 r k) := by
  obtain ⟨p, d, rfl | rfl⟩ := pairs k
  · have es : bs X1 X3 (ce p) i = sc A r (he p) := by
      unfold bs sc
      simp only [h1, h3, ce_eq]
      rfl
    rw [bM_ce, es, kat, Mem.div_sum _ _ (sc_real A hq hk _ _), h2]
    simp only [h3, ce_eq]
    rw [memA_at]
    rfl
  · have es : bs X1 X3 (co p) i = sc A r (ho p) := by
      unfold bs sc
      simp only [h1, h3, co_eq]
      rfl
    rw [bM_co, es, kat, Mem.div_sum _ _ (sc_real A hq hk _ _), h2]
    simp only [h3, co_eq]
    rw [memA_at]
    rfl

end

variable (hq : ∀ r k, Mem.IsReal ((args m c).e (ix2 r k))) (hk : ∀ n k, Mem.IsReal ((args m c).kv (ix2 n (kcol k))))
include hq hk

/-- The block's memory attention is the reference's. -/
theorem mem_blk (i : Fin 256) (k : Fin 256) :
    bM (iblk m c 1 t) (iblk m c 2 t) (iblk m c 3 t) (ix2 i k) = memA (args m c) (ix2 (row t i) k) :=
  bM_eq (args m c) hq hk _ _ _ i (row t i) (blk1 m c t i) (blk2 m c t i) (blk3 m c t) k

omit hq hk in
/-- Where the result's blocks lie. -/
theorem emb8 (i : Fin 256) (k : Fin 1024) :
    ((win0_8.blk t).view.emb (ix2 i k : S256x1024.Idx) : S16384x1024.Idx) = ix2 (row t i) k := by
  unfold row
  blk_ext [idx_facts t]

/-- The result is the reference's. -/
theorem res8 : (dats m 0 c).arrAt 8 cfg0.N = outA (args m c) := by
  refine (dats m 0 c).arrAt_eq_of_covers 8 _ (by decide +kernel) fun t hf y => ?_
  blk_simp
  rw [after0_8]
  obtain ⟨i, k, rfl⟩ : ∃ (i : Fin 256) (k : Fin 1024), y = (ix2 i k : S256x1024.Idx) := ⟨y 0, y 1, eq_ix2 y⟩
  refine Eq.trans ?_ (congrArg (outA (args m c)) (emb8 t i k)).symm
  rw [out8, outA_at]
  simp only [bY_at, mem_blk m c t hq hk, blk0, blk4, blk5, blk6, blk7]
  rfl

end Cert.Proof.Out1

end

end
-- ==== Proof.Out1Pre.lean ====
module

public import proofs.«01_k».proof.Pre_finite_scores
public import proofs.«01_k».proof.Proof.MemMath
public import proofs.«01_k».proof.Proof.Out1Ref
public import Idealize.ShloMosaic.Lib.ReduceAll

/-! # The odd layer's output: what the precondition says

The memory queries and the memory keys are real numbers. -/

@[expose] public section

open Idealize Idealize.ShloMosaic

set_option maxRecDepth 16384

noncomputable section

namespace Cert.Proof.Out1

/-- A value whose size is below infinity is a real number. -/
theorem real_of_lt (x : EReal) (h : Ideal.cmp .olt (max x (-x)) (Ideal.ofBits .f32 0x7F800000#32) = 1#1) : Mem.IsReal x := by
  have hb : Ideal.ofBits .f32 0x7F800000#32 = (⊤ : EReal) := by simp [Ideal.ofBits, Ideal.ieee]
  rw [hb] at h
  induction x using EReal.rec with
  | bot => simp [Ideal.cmp] at h
  | top => simp [Ideal.cmp] at h
  | coe r => exact ⟨r, rfl⟩

open Cert.Pre_finite_scores in
/-- Under the precondition the memory queries and the memory keys are real numbers. -/
theorem pre_real [Cert.Pre_finite_scores.Facts] (a0 : FVec Ideal S16384x2048 .bf16) (a1 a2 : FVec Ideal S16384x256 .bf16)
    (a3 : FVec Ideal S256x512 .bf16) (a4 : FVec Ideal S2304x1024 .f32) (a5 : FVec Ideal S16384x1024 .f32) (a6 : FVec Ideal S1024 .f32)
    (h : Cert.Pre_finite_scores.fn (F := Ideal) a0 a1 a2 a3 a4 a5 a6 = fun _ => 1#1) :
    (∀ r k, Mem.IsReal (a1 (ix2 r k))) ∧ ∀ n k, Mem.IsReal (a3 (ix2 n (kcol k))) := by
  have h0 := congrFun h ix0
  obtain ⟨h1, h2⟩ := IntOp.andi_eq_one.1 h0
  haveI : Subsingleton S_.Idx := ⟨fun a b => funext fun d => d.elim0⟩
  refine ⟨fun r k => real_of_lt _ (Host.reduce_andi_all _ _ _ _ _ h1 (ix2 r k)), fun n k => real_of_lt _ ?_⟩
  have e := Host.reduce_andi_all _ _ _ _ _ h2 (ix2 n k)
  have e2 : extractStridedSlice S256x256 ![0, 0] a3 Facts.slices_S256x512_S256x256_0_0 (ix2 n k) = a3 (ix2 n (kcol k)) := by
    pointwise [kcol]
  rw [← e2]
  exact e

end Cert.Proof.Out1

end

end
-- ==== Proof.Proj0Ref.lean ====
module

public import proofs.«01_k».proof.Proof.Gen.Reference4Ideal.Run
public import Idealize.ShloMosaic.Lib.Pointwise
public import Idealize.ShloMosaic.Lib.KernelVsHost

/-! # The even layer's input projection: the formula, and the reference's results

`hid` is a row after its norm and `prod` its product with the weights. The reference's results are read
at an index as `prod` at the result's columns: rotated, as it is, through `y * (1 / (1 + exp (-y)))`, scaled,
gated, or averaged over 256 rows; two of them have their eight heads in another order. -/

@[expose] public section

open Idealize Idealize.ShloMosaic Idealize.ShloMosaic.TcCoe Idealize.SL.Sem
open Cert.Reference4Ideal Cert.Reference4Ideal.Gen

set_option maxRecDepth 16384

noncomputable section

namespace Cert.Proof.Proj0

/-- The arrays the call is given. -/
structure Args where
  x : FVec Ideal S16384x1024 .f32
  pos : IVec S1x16384 32
  g : FVec Ideal S1024 .f32
  w : FVec Ideal S1024x4376 .f32
  b : FVec Ideal S24 .f32

/-- The rotation frequencies, one per pair of lanes. -/
def freq : FVec Ideal S32 .f32 :=
  Host.divf (broadcastInDim S32 ![] bcast_S_S32 (constant S_ .f32 0x3F800000#32)) (Host.powf (broadcastInDim S32 ![] bcast_S_S32 (constant S_ .f32
    0x461C4000#32)) (Host.divf (addf (broadcastInDim S32 ![] bcast_S_S32 (constant S_ .f32 0x00000000#32)) (mulf (broadcastInDim S32 ![] bcast_S_S32
    (constant S_ .f32 0x40000000#32)) (sitofp .f32 (iotaInDim S32 32 0)))) (broadcastInDim S32 ![] bcast_S_S32 (constant S_ .f32 0x42800000#32))))

variable (A : Args)

/-- Entry `k` of row `r` after the norm. -/
def hid (r : Fin 16384) (k : Fin 1024) : EReal :=
  A.x (ix2 r k) * Ideal.rsqrt (Ideal.div (∑ j : Fin 1024, A.x (ix2 r j) * A.x (ix2 r j)) (Ideal.ofBits .f32 0x44800000#32)
    + Ideal.ofBits .f32 0x358637BD#32) * A.g (ix1 k)

/-- Entry `n` of row `r` of the product with the weights. -/
def prod (r : Fin 16384) (n : Fin 4376) : EReal := ∑ k : Fin 1024, hid A r k * A.w (ix2 k n)

/-- The angle by which row `r` turns pair `j`. -/
def ang (r : Fin 16384) (j : Fin 32) : EReal := (FloatOps.sitofp (F := Ideal) .f32 (A.pos (ix2 0 r)) : EReal) * freq (ix1 j)

/-- The logistic function. -/
def logistic (y : EReal) : EReal := Ideal.div (Ideal.ofBits .f32 0x3F800000#32) (Ideal.ofBits .f32 0x3F800000#32 + Ideal.exp (-y))

/-- The logistic gate. -/
def silu (y : EReal) : EReal := y * logistic y

/-- A column of one of the product's parts: the part starts at `o` and is `n` wide. -/
def at_ (o n : ℕ) (h : o + n ≤ 4376) (k : Fin n) : Fin 4376 := ⟨o + k.val, by omega⟩

/-- Column `j` of the first half of head `h` of eight. -/
def lo8 (h : Fin 8) (j : Fin 32) : Fin 512 := ⟨h.val * 64 + j.val, by omega⟩
/-- Column `j` of the second half of head `h` of eight. -/
def hi8 (h : Fin 8) (j : Fin 32) : Fin 512 := ⟨h.val * 64 + 32 + j.val, by omega⟩
/-- Column `j` of the first half of head `h` of two. -/
def lo2 (h : Fin 2) (j : Fin 32) : Fin 128 := ⟨h.val * 64 + j.val, by omega⟩
/-- Column `j` of the second half of head `h` of two. -/
def hi2 (h : Fin 2) (j : Fin 32) : Fin 128 := ⟨h.val * 64 + 32 + j.val, by omega⟩
/-- The head standing at place `p` when head `i` of group 0 stands beside head `i` of group 1. -/
def mate (p : Fin 8) : Fin 8 := ⟨p.val % 2 * 4 + p.val / 2, by omega⟩
/-- The column standing at column `k` when head `i` of group 0 stands beside head `i` of group 1. -/
def mateCol (k : Fin 512) : Fin 512 := ⟨(k.val / 64 % 2 * 4 + k.val / 128) * 64 + k.val % 64, by omega⟩

/-- The first half of a head, turned. -/
def rotLo (a b c s : EReal) : EReal := a * c - b * s
/-- The second half of a head, turned. -/
def rotHi (a b c s : EReal) : EReal := a * s + b * c

/-- The reference's product. -/
def prodA : FVec Ideal S1x16384x4376 .f32 :=
  Host.dotGeneral dot_S1x16384x1024_S1024x4376_S1x16384x4376_2_0_01_1_n_n none (mulf (mulf (broadcastInDim S1x16384x1024 ![1, 2]
    bcast_S16384x1024_S1x16384x1024_1_2 A.x) (broadcastInDim S1x16384x1024 ![0, 1, 2] bcast_S1x16384x1_S1x16384x1024_0_1_2 (Host.rsqrt (addf
    (Host.divf (broadcastInDim S1x16384x1 ![0, 1] bcast_S1x16384_S1x16384x1_0_1 (Host.reduceAdd (mulf (broadcastInDim S1x16384x1024 ![1, 2]
    bcast_S16384x1024_S1x16384x1024_1_2 A.x) (broadcastInDim S1x16384x1024 ![1, 2] bcast_S16384x1024_S1x16384x1024_1_2 A.x)) (constant S_ .f32
    0x00000000#32) reducesTo_S1x16384x1024_S1x16384_d2 h_S_)) (broadcastInDim S1x16384x1 ![] bcast_S_S1x16384x1 (constant S_ .f32 0x44800000#32)))
    (broadcastInDim S1x16384x1 ![] bcast_S_S1x16384x1 (constant S_ .f32 0x358637BD#32)))))) (broadcastInDim S1x16384x1024 ![0, 1, 2]
    bcast_S1x1x1024_S1x16384x1024_0_1_2 (broadcastInDim S1x1x1024 ![2] bcast_S1024_S1x1x1024_2 A.g))) A.w

/-- The reference's cosines. -/
def cosA : FVec Ideal S1x16384x32 .f32 :=
  Host.cos (mulf (broadcastInDim S1x16384x32 ![0, 1, 2] bcast_S1x16384x1_S1x16384x32_0_1_2 (broadcastInDim S1x16384x1 ![0, 1]
    bcast_S1x16384_S1x16384x1_0_1 (sitofp .f32 A.pos))) (broadcastInDim S1x16384x32 ![0, 1, 2] bcast_S1x1x32_S1x16384x32_0_1_2 (broadcastInDim S1x1x32
    ![2] bcast_S32_S1x1x32_2 freq)))

/-- The reference's sines. -/
def sinA : FVec Ideal S1x16384x32 .f32 :=
  Host.sin (mulf (broadcastInDim S1x16384x32 ![0, 1, 2] bcast_S1x16384x1_S1x16384x32_0_1_2 (broadcastInDim S1x16384x1 ![0, 1]
    bcast_S1x16384_S1x16384x1_0_1 (sitofp .f32 A.pos))) (broadcastInDim S1x16384x32 ![0, 1, 2] bcast_S1x1x32_S1x16384x32_0_1_2 (broadcastInDim S1x1x32
    ![2] bcast_S32_S1x1x32_2 freq)))

/-- Eight heads turned. -/
def rot8 (Y : FVec Ideal S1x16384x512 .f32) (C S : FVec Ideal S1x16384x32 .f32) : FVec Ideal S16384x512 .f32 :=
  shapeCast _ (shapeCast _ (concatenate S1x16384x8x64 3 [⟨S1x16384x8x32, (subf (mulf (extractStridedSlice S1x16384x8x32 ![0, 0, 0, 0] (shapeCast _ Y
    shapeCasts_S1x16384x512_S1x16384x8x64) slices_S1x16384x8x64_S1x16384x8x32_0_0_0_0) (broadcastInDim S1x16384x8x32 ![0, 1, 2, 3]
    bcast_S1x16384x1x32_S1x16384x8x32_0_1_2_3 (broadcastInDim S1x16384x1x32 ![0, 1, 3] bcast_S1x16384x32_S1x16384x1x32_0_1_3 C))) (mulf
    (extractStridedSlice S1x16384x8x32 ![0, 0, 0, 32] (shapeCast _ Y shapeCasts_S1x16384x512_S1x16384x8x64)
    slices_S1x16384x8x64_S1x16384x8x32_0_0_0_32) (broadcastInDim S1x16384x8x32 ![0, 1, 2, 3] bcast_S1x16384x1x32_S1x16384x8x32_0_1_2_3 (broadcastInDim
    S1x16384x1x32 ![0, 1, 3] bcast_S1x16384x32_S1x16384x1x32_0_1_3 S))))⟩, ⟨S1x16384x8x32, (addf (mulf (extractStridedSlice S1x16384x8x32 ![0, 0, 0,
    0] (shapeCast _ Y shapeCasts_S1x16384x512_S1x16384x8x64) slices_S1x16384x8x64_S1x16384x8x32_0_0_0_0) (broadcastInDim S1x16384x8x32 ![0, 1, 2, 3]
    bcast_S1x16384x1x32_S1x16384x8x32_0_1_2_3 (broadcastInDim S1x16384x1x32 ![0, 1, 3] bcast_S1x16384x32_S1x16384x1x32_0_1_3 S))) (mulf
    (extractStridedSlice S1x16384x8x32 ![0, 0, 0, 32] (shapeCast _ Y shapeCasts_S1x16384x512_S1x16384x8x64)
    slices_S1x16384x8x64_S1x16384x8x32_0_0_0_32) (broadcastInDim S1x16384x8x32 ![0, 1, 2, 3] bcast_S1x16384x1x32_S1x16384x8x32_0_1_2_3 (broadcastInDim
    S1x16384x1x32 ![0, 1, 3] bcast_S1x16384x32_S1x16384x1x32_0_1_3 C))))⟩] concatenates_S1x16384x8x32_S1x16384x8x32_S1x16384x8x64_d3)
    shapeCasts_S1x16384x8x64_S16384x8x64) shapeCasts_S16384x8x64_S16384x512

/-- Two heads turned. -/
def rot2 (Y : FVec Ideal S1x16384x128 .f32) (C S : FVec Ideal S1x16384x32 .f32) : FVec Ideal S16384x128 .f32 :=
  shapeCast _ (shapeCast _ (concatenate S1x16384x2x64 3 [⟨S1x16384x2x32, (subf (mulf (extractStridedSlice S1x16384x2x32 ![0, 0, 0, 0] (shapeCast _ Y
    shapeCasts_S1x16384x128_S1x16384x2x64) slices_S1x16384x2x64_S1x16384x2x32_0_0_0_0) (broadcastInDim S1x16384x2x32 ![0, 1, 2, 3]
    bcast_S1x16384x1x32_S1x16384x2x32_0_1_2_3 (broadcastInDim S1x16384x1x32 ![0, 1, 3] bcast_S1x16384x32_S1x16384x1x32_0_1_3 C))) (mulf
    (extractStridedSlice S1x16384x2x32 ![0, 0, 0, 32] (shapeCast _ Y shapeCasts_S1x16384x128_S1x16384x2x64)
    slices_S1x16384x2x64_S1x16384x2x32_0_0_0_32) (broadcastInDim S1x16384x2x32 ![0, 1, 2, 3] bcast_S1x16384x1x32_S1x16384x2x32_0_1_2_3 (broadcastInDim
    S1x16384x1x32 ![0, 1, 3] bcast_S1x16384x32_S1x16384x1x32_0_1_3 S))))⟩, ⟨S1x16384x2x32, (addf (mulf (extractStridedSlice S1x16384x2x32 ![0, 0, 0,
    0] (shapeCast _ Y shapeCasts_S1x16384x128_S1x16384x2x64) slices_S1x16384x2x64_S1x16384x2x32_0_0_0_0) (broadcastInDim S1x16384x2x32 ![0, 1, 2, 3]
    bcast_S1x16384x1x32_S1x16384x2x32_0_1_2_3 (broadcastInDim S1x16384x1x32 ![0, 1, 3] bcast_S1x16384x32_S1x16384x1x32_0_1_3 S))) (mulf
    (extractStridedSlice S1x16384x2x32 ![0, 0, 0, 32] (shapeCast _ Y shapeCasts_S1x16384x128_S1x16384x2x64)
    slices_S1x16384x2x64_S1x16384x2x32_0_0_0_32) (broadcastInDim S1x16384x2x32 ![0, 1, 2, 3] bcast_S1x16384x1x32_S1x16384x2x32_0_1_2_3 (broadcastInDim
    S1x16384x1x32 ![0, 1, 3] bcast_S1x16384x32_S1x16384x1x32_0_1_3 C))))⟩] concatenates_S1x16384x2x32_S1x16384x2x32_S1x16384x2x64_d3)
    shapeCasts_S1x16384x2x64_S16384x2x64) shapeCasts_S16384x2x64_S16384x128

/-- The eight heads with head `i` of group 0 beside head `i` of group 1. -/
def grouped (Y : FVec Ideal S16384x512 .f32) : FVec Ideal S16384x512 .f32 :=
  shapeCast _ (transpose S16384x4x2x64 [0, 2, 1, 3] (shapeCast _ Y shapeCasts_S16384x512_S16384x2x4x64)
    transposes_S16384x2x4x64_S16384x4x2x64_0_2_1_3) shapeCasts_S16384x4x2x64_S16384x512

/-- The part of the product that holds the memory-block keys, turned. -/
def mkA0 : FVec Ideal S16384x512 .f32 :=
  rot8 (extractStridedSlice S1x16384x512 ![0, 0, 2328] (prodA A) slices_S1x16384x4376_S1x16384x512_0_0_2328) (cosA A) (sinA A)

/-- The reference's grouped queries. -/
def nqA : FVec Ideal S16384x512 .bf16 :=
  truncf .bf16 (mulf (grouped (rot8 (extractStridedSlice S1x16384x512 ![0, 0, 0] (prodA A) slices_S1x16384x4376_S1x16384x512_0_0_0) (cosA A) (sinA
    A))) (broadcastInDim S16384x512 ![] bcast_S_S16384x512 (constant S_ .f32 0x3E000000#32))) bitsLt_bf16_f32

/-- The reference's compressed keys. -/
def nkcA : FVec Ideal S16384x128 .bf16 :=
  truncf .bf16 (rot2 (extractStridedSlice S1x16384x128 ![0, 0, 512] (prodA A) slices_S1x16384x4376_S1x16384x128_0_0_512) (cosA A) (sinA A))
    bitsLt_bf16_f32

/-- The reference's compressed values. -/
def nvcA : FVec Ideal S16384x128 .bf16 :=
  truncf .bf16 (shapeCast _ (extractStridedSlice S1x16384x128 ![0, 0, 640] (prodA A) slices_S1x16384x4376_S1x16384x128_0_0_640)
    shapeCasts_S1x16384x128_S16384x128) bitsLt_bf16_f32

/-- The reference's selected keys. -/
def nksA : FVec Ideal S16384x128 .bf16 :=
  truncf .bf16 (rot2 (extractStridedSlice S1x16384x128 ![0, 0, 768] (prodA A) slices_S1x16384x4376_S1x16384x128_0_0_768) (cosA A) (sinA A))
    bitsLt_bf16_f32

/-- The reference's selected values. -/
def nvsA : FVec Ideal S16384x128 .bf16 :=
  truncf .bf16 (shapeCast _ (extractStridedSlice S1x16384x128 ![0, 0, 896] (prodA A) slices_S1x16384x4376_S1x16384x128_0_0_896)
    shapeCasts_S1x16384x128_S16384x128) bitsLt_bf16_f32

/-- The reference's window keys. -/
def nkwA : FVec Ideal S16384x128 .bf16 :=
  truncf .bf16 (rot2 (extractStridedSlice S1x16384x128 ![0, 0, 1024] (prodA A) slices_S1x16384x4376_S1x16384x128_0_0_1024) (cosA A) (sinA A))
    bitsLt_bf16_f32

/-- The reference's window values. -/
def nvwA : FVec Ideal S16384x128 .bf16 :=
  truncf .bf16 (shapeCast _ (extractStridedSlice S1x16384x128 ![0, 0, 1152] (prodA A) slices_S1x16384x4376_S1x16384x128_0_0_1152)
    shapeCasts_S1x16384x128_S16384x128) bitsLt_bf16_f32

/-- The reference's branch gates. -/
def ngA : FVec Ideal S16384x128 .f32 :=
  Host.divf (broadcastInDim S16384x128 ![] bcast_S_S16384x128 (constant S_ .f32 0x3F800000#32)) (addf (broadcastInDim S16384x128 ![]
    bcast_S_S16384x128 (constant S_ .f32 0x3F800000#32)) (Host.exp (Host.negf (addf (pad S16384x128 ![0, 0] ![0, 104] ![0, 0] (shapeCast _
    (extractStridedSlice S1x16384x24 ![0, 0, 1280] (prodA A) slices_S1x16384x4376_S1x16384x24_0_0_1280) shapeCasts_S1x16384x24_S16384x24) (sitofp .f32
    (constantI S_ 32 0#32)) pads_S16384x24_S16384x128_000_01040 h_S_) (broadcastInDim S16384x128 ![0, 1] bcast_S1x128_S16384x128_0_1 (broadcastInDim
    S1x128 ![1] bcast_S128_S1x128_1 (pad S128 ![0] ![104] ![0] A.b (sitofp .f32 (constantI S_ 32 0#32)) pads_S24_S128_01040 h_S_)))))))

/-- The reference's grouped output gates. -/
def snzA : FVec Ideal S16384x512 .bf16 :=
  truncf .bf16 (grouped (mulf (shapeCast _ (extractStridedSlice S1x16384x512 ![0, 0, 1304] (prodA A) slices_S1x16384x4376_S1x16384x512_0_0_1304)
    shapeCasts_S1x16384x512_S16384x512) (Host.divf (broadcastInDim S16384x512 ![] bcast_S_S16384x512 (constant S_ .f32 0x3F800000#32)) (addf
    (broadcastInDim S16384x512 ![] bcast_S_S16384x512 (constant S_ .f32 0x3F800000#32)) (Host.exp (Host.negf (shapeCast _ (extractStridedSlice
    S1x16384x512 ![0, 0, 1304] (prodA A) slices_S1x16384x4376_S1x16384x512_0_0_1304) shapeCasts_S1x16384x512_S16384x512))))))) bitsLt_bf16_f32

/-- The reference's block queries. -/
def mqA : FVec Ideal S16384x512 .bf16 :=
  truncf .bf16 (mulf (rot8 (extractStridedSlice S1x16384x512 ![0, 0, 1816] (prodA A) slices_S1x16384x4376_S1x16384x512_0_0_1816) (cosA A) (sinA A))
    (broadcastInDim S16384x512 ![] bcast_S_S16384x512 (constant S_ .f32 0x3E000000#32))) bitsLt_bf16_f32

/-- The reference's block keys. -/
def mkA : FVec Ideal S16384x512 .bf16 :=
  truncf .bf16 (mkA0 A) bitsLt_bf16_f32

/-- The reference's block key means. -/
def kmA : FVec Ideal S64x1x512 .f32 :=
  Host.divf (broadcastInDim S64x1x512 ![0, 2] bcast_S64x512_S64x1x512_0_2 (Host.reduceAdd (shapeCast _ (mkA0 A) shapeCasts_S16384x512_S64x256x512)
    (constant S_ .f32 0x00000000#32) reducesTo_S64x256x512_S64x512_d1 h_S_)) (broadcastInDim S64x1x512 ![] bcast_S_S64x1x512 (constant S_ .f32
    0x43800000#32))

/-- The reference's block values. -/
def mvA : FVec Ideal S16384x512 .bf16 :=
  truncf .bf16 (shapeCast _ (extractStridedSlice S1x16384x512 ![0, 0, 2840] (prodA A) slices_S1x16384x4376_S1x16384x512_0_0_2840)
    shapeCasts_S1x16384x512_S16384x512) bitsLt_bf16_f32

/-- The reference's block output gates. -/
def smzA : FVec Ideal S16384x512 .bf16 :=
  truncf .bf16 (mulf (shapeCast _ (extractStridedSlice S1x16384x512 ![0, 0, 3352] (prodA A) slices_S1x16384x4376_S1x16384x512_0_0_3352)
    shapeCasts_S1x16384x512_S16384x512) (Host.divf (broadcastInDim S16384x512 ![] bcast_S_S16384x512 (constant S_ .f32 0x3F800000#32)) (addf
    (broadcastInDim S16384x512 ![] bcast_S_S16384x512 (constant S_ .f32 0x3F800000#32)) (Host.exp (Host.negf (shapeCast _ (extractStridedSlice
    S1x16384x512 ![0, 0, 3352] (prodA A) slices_S1x16384x4376_S1x16384x512_0_0_3352) shapeCasts_S1x16384x512_S16384x512)))))) bitsLt_bf16_f32

/-- The reference's memory queries. -/
def eqA : FVec Ideal S16384x256 .bf16 :=
  truncf .bf16 (mulf (shapeCast _ (extractStridedSlice S1x16384x256 ![0, 0, 3864] (prodA A) slices_S1x16384x4376_S1x16384x256_0_0_3864)
    shapeCasts_S1x16384x256_S16384x256) (broadcastInDim S16384x256 ![] bcast_S_S16384x256 (constant S_ .f32 0x3E000000#32))) bitsLt_bf16_f32

/-- The reference's memory gates. -/
def sezA : FVec Ideal S16384x256 .bf16 :=
  truncf .bf16 (mulf (shapeCast _ (extractStridedSlice S1x16384x256 ![0, 0, 4120] (prodA A) slices_S1x16384x4376_S1x16384x256_0_0_4120)
    shapeCasts_S1x16384x256_S16384x256) (Host.divf (broadcastInDim S16384x256 ![] bcast_S_S16384x256 (constant S_ .f32 0x3F800000#32)) (addf
    (broadcastInDim S16384x256 ![] bcast_S_S16384x256 (constant S_ .f32 0x3F800000#32)) (Host.exp (Host.negf (shapeCast _ (extractStridedSlice
    S1x16384x256 ![0, 0, 4120] (prodA A) slices_S1x16384x4376_S1x16384x256_0_0_4120) shapeCasts_S1x16384x256_S16384x256)))))) bitsLt_bf16_f32

/-- The product at an index. -/
theorem prodA_at (r : Fin 16384) (n : Fin 4376) : prodA A (ix3 0 r n) = prod A r n := by
  pointwise [prodA, prod, hid]

/-- The cosines at an index. -/
theorem cosA_at (r : Fin 16384) (j : Fin 32) : cosA A (ix3 0 r j) = Ideal.cos (ang A r j) := by
  pointwise [cosA, ang]

/-- The sines at an index. -/
theorem sinA_at (r : Fin 16384) (j : Fin 32) : sinA A (ix3 0 r j) = Ideal.sin (ang A r j) := by
  pointwise [sinA, ang]

/-- The first half of one of eight heads turned. -/
theorem rot8_lo (Y : FVec Ideal S1x16384x512 .f32) (C S : FVec Ideal S1x16384x32 .f32) (r : Fin 16384) (h : Fin 8) (j : Fin 32) :
    rot8 Y C S (ix2 r (lo8 h j)) = rotLo (Y (ix3 0 r (lo8 h j))) (Y (ix3 0 r (hi8 h j))) (C (ix3 0 r j)) (S (ix3 0 r j)) := by
  pointwise [rot8, rotLo, lo8, hi8]
  have e : (h.val * 64 + j.val) % 64 = j.val := by omega
  simp only [e, dif_pos j.isLt, Nat.add_assoc, Fin.eta]

/-- The second half of one of eight heads turned. -/
theorem rot8_hi (Y : FVec Ideal S1x16384x512 .f32) (C S : FVec Ideal S1x16384x32 .f32) (r : Fin 16384) (h : Fin 8) (j : Fin 32) :
    rot8 Y C S (ix2 r (hi8 h j)) = rotHi (Y (ix3 0 r (lo8 h j))) (Y (ix3 0 r (hi8 h j))) (C (ix3 0 r j)) (S (ix3 0 r j)) := by
  pointwise [rot8, rotHi, lo8, hi8]
  have e : (h.val * 64 + (32 + j.val)) % 64 = 32 + j.val := by omega
  have e' : ¬ 32 + j.val < 32 := by omega
  simp only [e, dif_neg e', Nat.add_sub_cancel_left, Nat.add_assoc, Fin.eta]

/-- The first half of one of two heads turned. -/
theorem rot2_lo (Y : FVec Ideal S1x16384x128 .f32) (C S : FVec Ideal S1x16384x32 .f32) (r : Fin 16384) (h : Fin 2) (j : Fin 32) :
    rot2 Y C S (ix2 r (lo2 h j)) = rotLo (Y (ix3 0 r (lo2 h j))) (Y (ix3 0 r (hi2 h j))) (C (ix3 0 r j)) (S (ix3 0 r j)) := by
  pointwise [rot2, rotLo, lo2, hi2]
  have e : (h.val * 64 + j.val) % 64 = j.val := by omega
  simp only [e, dif_pos j.isLt, Nat.add_assoc, Fin.eta]

/-- The second half of one of two heads turned. -/
theorem rot2_hi (Y : FVec Ideal S1x16384x128 .f32) (C S : FVec Ideal S1x16384x32 .f32) (r : Fin 16384) (h : Fin 2) (j : Fin 32) :
    rot2 Y C S (ix2 r (hi2 h j)) = rotHi (Y (ix3 0 r (lo2 h j))) (Y (ix3 0 r (hi2 h j))) (C (ix3 0 r j)) (S (ix3 0 r j)) := by
  pointwise [rot2, rotHi, lo2, hi2]
  have e : (h.val * 64 + (32 + j.val)) % 64 = 32 + j.val := by omega
  have e' : ¬ 32 + j.val < 32 := by omega
  simp only [e, dif_neg e', Nat.add_sub_cancel_left, Nat.add_assoc, Fin.eta]

/-- The regrouped heads at an index. -/
theorem grouped_at (Y : FVec Ideal S16384x512 .f32) (r : Fin 16384) (k : Fin 512) : grouped Y (ix2 r k) = Y (ix2 r (mateCol k)) := by
  pointwise [grouped, mateCol]
  exact congrArg Y (congrArg (ix2 r) (Fin.ext (by simp only []; omega)))

/-- The column standing at a column of the first half of a head. -/
theorem mateCol_lo (p : Fin 8) (j : Fin 32) : mateCol (lo8 p j) = lo8 (mate p) j := by
  unfold mateCol lo8 mate
  simp only [Fin.ext_iff]
  omega

/-- The column standing at a column of the second half of a head. -/
theorem mateCol_hi (p : Fin 8) (j : Fin 32) : mateCol (hi8 p j) = hi8 (mate p) j := by
  unfold mateCol hi8 mate
  simp only [Fin.ext_iff]
  omega

/-- A cast to bf16 keeps every entry. -/
theorem cast_at {s : Shape} (Y : FVec Ideal s .f32) (h : FTy.bits .bf16 < FTy.bits .f32) (i : s.Idx) :
    (truncf .bf16 Y h : FVec Ideal s .bf16) i = Y i := rfl

/-- A part of the product at an index. -/
theorem part512 (o : ℕ) (h : o + 512 ≤ 4376) (hs : S1x16384x4376.Slices ![0, 0, o] S1x16384x512) (r : Fin 16384) (k : Fin 512) :
    extractStridedSlice S1x16384x512 ![0, 0, o] (prodA A) hs (ix3 0 r k) = prod A r (at_ o 512 h k) := by
  pointwise [at_, ← prodA_at]

/-- A part of the product at an index. -/
theorem part128 (o : ℕ) (h : o + 128 ≤ 4376) (hs : S1x16384x4376.Slices ![0, 0, o] S1x16384x128) (r : Fin 16384) (k : Fin 128) :
    extractStridedSlice S1x16384x128 ![0, 0, o] (prodA A) hs (ix3 0 r k) = prod A r (at_ o 128 h k) := by
  pointwise [at_, ← prodA_at]

/-- The grouped queries, first half of a head. -/
theorem nqA_lo (r : Fin 16384) (h : Fin 8) (j : Fin 32) :
    nqA A (ix2 r (lo8 h j)) = rotLo (prod A r (at_ 0 512 (by decide) (lo8 (mate h) j))) (prod A r (at_ 0 512 (by decide) (hi8 (mate h) j)))
      (Ideal.cos (ang A r j)) (Ideal.sin (ang A r j)) * Ideal.ofBits .f32 0x3E000000#32 := by
  refine Eq.trans (b := (grouped (rot8 (extractStridedSlice S1x16384x512 ![0, 0, 0] (prodA A) slices_S1x16384x4376_S1x16384x512_0_0_0) (cosA A) (sinA A))) (ix2 r (lo8 h j)) * Ideal.ofBits .f32 0x3E000000#32) rfl ?_
  rw [grouped_at, mateCol_lo, rot8_lo, part512 A 0 (by decide), part512 A 0 (by decide), cosA_at, sinA_at]

/-- The grouped queries, second half of a head. -/
theorem nqA_hi (r : Fin 16384) (h : Fin 8) (j : Fin 32) :
    nqA A (ix2 r (hi8 h j)) = rotHi (prod A r (at_ 0 512 (by decide) (lo8 (mate h) j))) (prod A r (at_ 0 512 (by decide) (hi8 (mate h) j)))
      (Ideal.cos (ang A r j)) (Ideal.sin (ang A r j)) * Ideal.ofBits .f32 0x3E000000#32 := by
  refine Eq.trans (b := (grouped (rot8 (extractStridedSlice S1x16384x512 ![0, 0, 0] (prodA A) slices_S1x16384x4376_S1x16384x512_0_0_0) (cosA A) (sinA A))) (ix2 r (hi8 h j)) * Ideal.ofBits .f32 0x3E000000#32) rfl ?_
  rw [grouped_at, mateCol_hi, rot8_hi, part512 A 0 (by decide), part512 A 0 (by decide), cosA_at, sinA_at]

/-- The compressed keys, first half of a head. -/
theorem nkcA_lo (r : Fin 16384) (h : Fin 2) (j : Fin 32) :
    nkcA A (ix2 r (lo2 h j)) = rotLo (prod A r (at_ 512 128 (by decide) (lo2 h j))) (prod A r (at_ 512 128 (by decide) (hi2 h j)))
      (Ideal.cos (ang A r j)) (Ideal.sin (ang A r j)) := by
  unfold nkcA
  refine (cast_at _ _ _).trans ?_
  rw [rot2_lo, part128 A 512 (by decide), part128 A 512 (by decide), cosA_at, sinA_at]

/-- The compressed keys, second half of a head. -/
theorem nkcA_hi (r : Fin 16384) (h : Fin 2) (j : Fin 32) :
    nkcA A (ix2 r (hi2 h j)) = rotHi (prod A r (at_ 512 128 (by decide) (lo2 h j))) (prod A r (at_ 512 128 (by decide) (hi2 h j)))
      (Ideal.cos (ang A r j)) (Ideal.sin (ang A r j)) := by
  unfold nkcA
  refine (cast_at _ _ _).trans ?_
  rw [rot2_hi, part128 A 512 (by decide), part128 A 512 (by decide), cosA_at, sinA_at]

/-- The compressed values at an index. -/
theorem nvcA_at (r : Fin 16384) (n : Fin 128) : nvcA A (ix2 r n) = prod A r (at_ 640 128 (by decide) n) := by
  pointwise [nvcA, at_, silu, logistic, ← prodA_at]

/-- The selected keys, first half of a head. -/
theorem nksA_lo (r : Fin 16384) (h : Fin 2) (j : Fin 32) :
    nksA A (ix2 r (lo2 h j)) = rotLo (prod A r (at_ 768 128 (by decide) (lo2 h j))) (prod A r (at_ 768 128 (by decide) (hi2 h j)))
      (Ideal.cos (ang A r j)) (Ideal.sin (ang A r j)) := by
  unfold nksA
  refine (cast_at _ _ _).trans ?_
  rw [rot2_lo, part128 A 768 (by decide), part128 A 768 (by decide), cosA_at, sinA_at]

/-- The selected keys, second half of a head. -/
theorem nksA_hi (r : Fin 16384) (h : Fin 2) (j : Fin 32) :
    nksA A (ix2 r (hi2 h j)) = rotHi (prod A r (at_ 768 128 (by decide) (lo2 h j))) (prod A r (at_ 768 128 (by decide) (hi2 h j)))
      (Ideal.cos (ang A r j)) (Ideal.sin (ang A r j)) := by
  unfold nksA
  refine (cast_at _ _ _).trans ?_
  rw [rot2_hi, part128 A 768 (by decide), part128 A 768 (by decide), cosA_at, sinA_at]

/-- The selected values at an index. -/
theorem nvsA_at (r : Fin 16384) (n : Fin 128) : nvsA A (ix2 r n) = prod A r (at_ 896 128 (by decide) n) := by
  pointwise [nvsA, at_, silu, logistic, ← prodA_at]

/-- The window keys, first half of a head. -/
theorem nkwA_lo (r : Fin 16384) (h : Fin 2) (j : Fin 32) :
    nkwA A (ix2 r (lo2 h j)) = rotLo (prod A r (at_ 1024 128 (by decide) (lo2 h j))) (prod A r (at_ 1024 128 (by decide) (hi2 h j)))
      (Ideal.cos (ang A r j)) (Ideal.sin (ang A r j)) := by
  unfold nkwA
  refine (cast_at _ _ _).trans ?_
  rw [rot2_lo, part128 A 1024 (by decide), part128 A 1024 (by decide), cosA_at, sinA_at]

/-- The window keys, second half of a head. -/
theorem nkwA_hi (r : Fin 16384) (h : Fin 2) (j : Fin 32) :
    nkwA A (ix2 r (hi2 h j)) = rotHi (prod A r (at_ 1024 128 (by decide) (lo2 h j))) (prod A r (at_ 1024 128 (by decide) (hi2 h j)))
      (Ideal.cos (ang A r j)) (Ideal.sin (ang A r j)) := by
  unfold nkwA
  refine (cast_at _ _ _).trans ?_
  rw [rot2_hi, part128 A 1024 (by decide), part128 A 1024 (by decide), cosA_at, sinA_at]

/-- The window values at an index. -/
theorem nvwA_at (r : Fin 16384) (n : Fin 128) : nvwA A (ix2 r n) = prod A r (at_ 1152 128 (by decide) n) := by
  pointwise [nvwA, at_, silu, logistic, ← prodA_at]

/-- The gates' part of the product, zero after its 24 columns. -/
def gateCol (r : Fin 16384) (n : Fin 128) : EReal := if h : n.val < 24 then prod A r ⟨1280 + n.val, by omega⟩ else 0

/-- The gates' bias, zero after its 24 entries. -/
def gateBias (n : Fin 128) : EReal := if h : n.val < 24 then A.b (ix1 ⟨n.val, h⟩) else 0

/-- The branch gates at an index. -/
theorem ngA_at (r : Fin 16384) (n : Fin 128) : ngA A (ix2 r n) = logistic (gateCol A r n + gateBias A n) := by
  pointwise [ngA, logistic, gateCol, gateBias, ← prodA_at]
  simp only [show (FloatOps.sitofp .f32 0#32 : Ideal .f32) = 0 from sitofp_zero]

/-- The grouped output gates at an index. -/
theorem snzA_at (r : Fin 16384) (n : Fin 512) : snzA A (ix2 r n) = silu (prod A r (at_ 1304 512 (by decide) (mateCol n))) := by
  unfold snzA
  refine (cast_at _ _ _).trans ((grouped_at _ r n).trans ?_)
  pointwise [at_, silu, logistic, ← prodA_at]

/-- The block queries, first half of a head. -/
theorem mqA_lo (r : Fin 16384) (h : Fin 8) (j : Fin 32) :
    mqA A (ix2 r (lo8 h j)) = rotLo (prod A r (at_ 1816 512 (by decide) (lo8 h j))) (prod A r (at_ 1816 512 (by decide) (hi8 h j)))
      (Ideal.cos (ang A r j)) (Ideal.sin (ang A r j)) * Ideal.ofBits .f32 0x3E000000#32 := by
  refine Eq.trans (b := (rot8 (extractStridedSlice S1x16384x512 ![0, 0, 1816] (prodA A) slices_S1x16384x4376_S1x16384x512_0_0_1816) (cosA A) (sinA A)) (ix2 r (lo8 h j)) * Ideal.ofBits .f32 0x3E000000#32) rfl ?_
  rw [rot8_lo, part512 A 1816 (by decide), part512 A 1816 (by decide), cosA_at, sinA_at]

/-- The block queries, second half of a head. -/
theorem mqA_hi (r : Fin 16384) (h : Fin 8) (j : Fin 32) :
    mqA A (ix2 r (hi8 h j)) = rotHi (prod A r (at_ 1816 512 (by decide) (lo8 h j))) (prod A r (at_ 1816 512 (by decide) (hi8 h j)))
      (Ideal.cos (ang A r j)) (Ideal.sin (ang A r j)) * Ideal.ofBits .f32 0x3E000000#32 := by
  refine Eq.trans (b := (rot8 (extractStridedSlice S1x16384x512 ![0, 0, 1816] (prodA A) slices_S1x16384x4376_S1x16384x512_0_0_1816) (cosA A) (sinA A)) (ix2 r (hi8 h j)) * Ideal.ofBits .f32 0x3E000000#32) rfl ?_
  rw [rot8_hi, part512 A 1816 (by decide), part512 A 1816 (by decide), cosA_at, sinA_at]

/-- The block keys before their cast, first half of a head. -/
theorem mkA0_lo (r : Fin 16384) (h : Fin 8) (j : Fin 32) :
    mkA0 A (ix2 r (lo8 h j)) = rotLo (prod A r (at_ 2328 512 (by decide) (lo8 h j))) (prod A r (at_ 2328 512 (by decide) (hi8 h j)))
      (Ideal.cos (ang A r j)) (Ideal.sin (ang A r j)) := by
  unfold mkA0
  rw [rot8_lo, part512 A 2328 (by decide), part512 A 2328 (by decide), cosA_at, sinA_at]

/-- The block keys, first half of a head. -/
theorem mkA_lo (r : Fin 16384) (h : Fin 8) (j : Fin 32) :
    mkA A (ix2 r (lo8 h j)) = rotLo (prod A r (at_ 2328 512 (by decide) (lo8 h j))) (prod A r (at_ 2328 512 (by decide) (hi8 h j)))
      (Ideal.cos (ang A r j)) (Ideal.sin (ang A r j)) :=
  mkA0_lo A r h j

/-- The block keys before their cast, second half of a head. -/
theorem mkA0_hi (r : Fin 16384) (h : Fin 8) (j : Fin 32) :
    mkA0 A (ix2 r (hi8 h j)) = rotHi (prod A r (at_ 2328 512 (by decide) (lo8 h j))) (prod A r (at_ 2328 512 (by decide) (hi8 h j)))
      (Ideal.cos (ang A r j)) (Ideal.sin (ang A r j)) := by
  unfold mkA0
  rw [rot8_hi, part512 A 2328 (by decide), part512 A 2328 (by decide), cosA_at, sinA_at]

/-- The block keys, second half of a head. -/
theorem mkA_hi (r : Fin 16384) (h : Fin 8) (j : Fin 32) :
    mkA A (ix2 r (hi8 h j)) = rotHi (prod A r (at_ 2328 512 (by decide) (lo8 h j))) (prod A r (at_ 2328 512 (by decide) (hi8 h j)))
      (Ideal.cos (ang A r j)) (Ideal.sin (ang A r j)) :=
  mkA0_hi A r h j

/-- The block key means at an index. -/
theorem kmA_at (t : Fin 64) (k : Fin 512) : kmA A (ix3 t 0 k) =
    Ideal.div (∑ i : Fin 256, mkA0 A (ix2 ⟨t.val * 256 + i.val, by omega⟩ k)) (Ideal.ofBits .f32 0x43800000#32) := by
  pointwise [kmA]

/-- The block values at an index. -/
theorem mvA_at (r : Fin 16384) (n : Fin 512) : mvA A (ix2 r n) = prod A r (at_ 2840 512 (by decide) n) := by
  pointwise [mvA, at_, silu, logistic, ← prodA_at]

/-- The block output gates at an index. -/
theorem smzA_at (r : Fin 16384) (n : Fin 512) : smzA A (ix2 r n) = silu (prod A r (at_ 3352 512 (by decide) n)) := by
  pointwise [smzA, at_, silu, logistic, ← prodA_at]

/-- The memory queries at an index. -/
theorem eqA_at (r : Fin 16384) (n : Fin 256) : eqA A (ix2 r n) = prod A r (at_ 3864 256 (by decide) n) * Ideal.ofBits .f32 0x3E000000#32 := by
  pointwise [eqA, at_, silu, logistic, ← prodA_at]

/-- The memory gates at an index. -/
theorem sezA_at (r : Fin 16384) (n : Fin 256) : sezA A (ix2 r n) = silu (prod A r (at_ 4120 256 (by decide) n)) := by
  pointwise [sezA, at_, silu, logistic, ← prodA_at]

/-- The arguments the reference's memory holds. -/
def refArgs (m : (ℓ : Loc nD τ sig) → Buf (Elt Ideal) ℓ) (c : Dev nD) : Args where
  x := m ((c.tc : Thread nD τ).loc main_arg0)
  pos := m ((c.tc : Thread nD τ).loc main_arg1)
  g := m ((c.tc : Thread nD τ).loc main_arg2)
  w := m ((c.tc : Thread nD τ).loc main_arg3)
  b := m ((c.tc : Thread nD τ).loc main_arg4)

/-- The reference's run, its results named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v107) = nqA (refArgs m c)
      ∧ r.2.mem ((c.tc : Thread nD τ).loc main_v126) = nkcA (refArgs m c)
      ∧ r.2.mem ((c.tc : Thread nD τ).loc main_v128) = nvcA (refArgs m c)
      ∧ r.2.mem ((c.tc : Thread nD τ).loc main_v147) = nksA (refArgs m c)
      ∧ r.2.mem ((c.tc : Thread nD τ).loc main_v149) = nvsA (refArgs m c)
      ∧ r.2.mem ((c.tc : Thread nD τ).loc main_v168) = nkwA (refArgs m c)
      ∧ r.2.mem ((c.tc : Thread nD τ).loc main_v170) = nvwA (refArgs m c)
      ∧ r.2.mem ((c.tc : Thread nD τ).loc main_v60) = ngA (refArgs m c)
      ∧ r.2.mem ((c.tc : Thread nD τ).loc main_v176) = snzA (refArgs m c)
      ∧ r.2.mem ((c.tc : Thread nD τ).loc main_v197) = mqA (refArgs m c)
      ∧ r.2.mem ((c.tc : Thread nD τ).loc main_v198) = mkA (refArgs m c)
      ∧ r.2.mem ((c.tc : Thread nD τ).loc main_v83) = kmA (refArgs m c)
      ∧ r.2.mem ((c.tc : Thread nD τ).loc main_v200) = mvA (refArgs m c)
      ∧ r.2.mem ((c.tc : Thread nD τ).loc main_v203) = smzA (refArgs m c)
      ∧ r.2.mem ((c.tc : Thread nD τ).loc main_v207) = eqA (refArgs m c)
      ∧ r.2.mem ((c.tc : Thread nD τ).loc main_v210) = sezA (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.Proof.Proj0

end

end
-- ==== Proof.Proj0Blocks.lean ====
module

public import proofs.«01_k».proof.Proof.Proj0Ref
public import proofs.«01_k».proof.Proof.Gen.Kernel4Ideal.Value
public import Idealize.ShloMosaic.Lib.Pointwise
public import Idealize.ShloMosaic.Lib.Pipeline.ValueKit
public import Idealize.ShloMosaic.Lib.Pipeline.ReadBack

/-! # The even layer's input projection: what a grid point stores

Each output block is read at an index: `bprod`, the block's row after its norm times the weights, at the
output's columns. `turn` is the rotation of 128 lanes, two heads of 64. -/

@[expose] public section

open Idealize Idealize.ShloMosaic
open Cert.Kernel4Ideal Cert.Kernel4Ideal.Gen

set_option maxRecDepth 16384

noncomputable section

namespace Cert.Proof.Proj0

variable (X : Vec Ideal S256x1024 .f32) (G : Vec Ideal S1x1024 .f32) (W : Vec Ideal S1024x4480 .bf16)
  (C : Vec Ideal S256x128 .f32) (S : Vec Ideal S256x128 .f32) (B : Vec Ideal S1x128 .f32)

/-- Entry `k` of row `i` of a block after the norm. -/
def bhid (i : Fin 256) (k : Fin 1024) : EReal :=
  X (ix2 i k) * Ideal.rsqrt (Ideal.div (∑ j : Fin 1024, X (ix2 i j) * X (ix2 i j)) (Ideal.ofBits .f32 0x44800000#32)
    + Ideal.ofBits .f32 0x358637BD#32) * G (ix2 0 k)

/-- Entry `n` of row `i` of a block's product with the weights. -/
def bprod (i : Fin 256) (n : Fin 4480) : EReal := ∑ k : Fin 1024, bhid X G i k * W (ix2 k n)

/-- A column of one of the block product's parts: the part starts at `o` and is `n` wide. -/
def bat (o n : ℕ) (h : o + n ≤ 4480) (k : Fin n) : Fin 4480 := ⟨o + k.val, by omega⟩

/-- 128 lanes turned: each lane times its cosine, plus its partner 32 lanes away times its sine. -/
def turn (Y C S : FVec Ideal S256x128 .f32) : FVec Ideal S256x128 .f32 :=
  addf (mulf Y C) (mulf (select k0_pay4 (dynamicRotate 1 96#32 none Y rotates_S256x128_d1)
    (dynamicRotate 1 32#32 none Y rotates_S256x128_d1)) S)

/-- Which lanes lie in the first half of a head. -/
theorem lanes : ∀ (h : Fin 2) (j : Fin 32), IntOp.cmpi .eq (BitVec.ofNat 32 (h.val * 64 + j.val) &&& 32#32) 0#32 = 1
    ∧ ¬ IntOp.cmpi .eq (BitVec.ofNat 32 (h.val * 64 + 32 + j.val) &&& 32#32) 0#32 = 1 := by decide

/-- The turned lanes, first half of a head. -/
theorem turn_lo (Y C S : FVec Ideal S256x128 .f32) (i : Fin 256) (h : Fin 2) (j : Fin 32) :
    turn Y C S (ix2 i (lo2 h j)) = Y (ix2 i (lo2 h j)) * C (ix2 i (lo2 h j)) + Y (ix2 i (hi2 h j)) * S (ix2 i (lo2 h j)) := by
  pointwise [turn, k0_pay4, lo2, hi2]
  have l : Scalar.select (IntOp.cmpi CmpIPredicate.eq (IntOp.andi (BitVec.ofNat 32 (h.val * 64 + j.val)) 32#32) 0#32) = fun (a b : EReal) => a := by
    funext a b
    exact if_pos (lanes h j).1
  rw [l]
  have e : (h.val * 64 + j.val + 128 - 96) % 128 = h.val * 64 + 32 + j.val := by omega
  simp only [e]

/-- The turned lanes, second half of a head. -/
theorem turn_hi (Y C S : FVec Ideal S256x128 .f32) (i : Fin 256) (h : Fin 2) (j : Fin 32) :
    turn Y C S (ix2 i (hi2 h j)) = Y (ix2 i (hi2 h j)) * C (ix2 i (hi2 h j)) + Y (ix2 i (lo2 h j)) * S (ix2 i (hi2 h j)) := by
  pointwise [turn, k0_pay4, lo2, hi2]
  have l : Scalar.select (IntOp.cmpi CmpIPredicate.eq (IntOp.andi (BitVec.ofNat 32 (h.val * 64 + 32 + j.val)) 32#32) 0#32) = fun (a b : EReal) => b := by
    funext a b
    exact if_neg (lanes h j).2
  rw [l]
  have e : (h.val * 64 + 32 + j.val + 128 - 32) % 128 = h.val * 64 + j.val := by omega
  simp only [e]

/-- The block's product, 512 columns. -/
theorem mat512 (V : Vec Ideal S1024x512 .bf16) (i : Fin 256) (n : Fin 512) :
    k0_pay22 (k0_pay3 X G) V (ix2 i n) = ∑ k : Fin 1024, bhid X G i k * V (ix2 k n) := by
  pointwise [k0_pay22, k0_pay3, bhid]

/-- The block's product, 128 columns. -/
theorem mat128 (V : Vec Ideal S1024x128 .bf16) (i : Fin 256) (n : Fin 128) :
    k0_pay16 (k0_pay3 X G) V (ix2 i n) = ∑ k : Fin 1024, bhid X G i k * V (ix2 k n) := by
  pointwise [k0_pay16, k0_pay3, bhid]

/-- A part of the weights, 512 columns. -/
theorem ld512 (o : ℕ) (h : o + 512 ≤ 4480) (hb) (k : Fin 1024) (n : Fin 512) :
    View.ld W (Rect.unit (s := S1024x4480) ![0, o] S1024x512.size hb) (ix2 k n) = W (ix2 k (bat o 512 h n)) := by
  pointwise [bat]

/-- A part of the weights, 128 columns. -/
theorem ld128 (o : ℕ) (h : o + 128 ≤ 4480) (hb) (k : Fin 1024) (n : Fin 128) :
    View.ld W (Rect.unit (s := S1024x4480) ![0, o] S1024x128.size hb) (ix2 k n) = W (ix2 k (bat o 128 h n)) := by
  pointwise [bat]

/-- Four pieces of 128 lanes turned. -/
def turns (M : FVec Ideal S256x512 .f32) (C S : FVec Ideal S256x128 .f32) : FVec Ideal S256x512 .f32 :=
  concatenate S256x512 1 [
    ⟨S256x128, turn (extractStridedSlice S256x128 ![0, 0] M slices_S256x512_o0_0_S256x128) C S⟩,
    ⟨S256x128, turn (extractStridedSlice S256x128 ![0, 128] M slices_S256x512_o0_128_S256x128) C S⟩,
    ⟨S256x128, turn (extractStridedSlice S256x128 ![0, 256] M slices_S256x512_o0_256_S256x128) C S⟩,
    ⟨S256x128, turn (extractStridedSlice S256x128 ![0, 384] M slices_S256x512_o0_384_S256x128) C S⟩]
    concatenates_S256x128_S256x128_S256x128_S256x128_S256x512_d1

/-- Head `p`'s place among the two heads of its 128 lanes. -/
def par (p : Fin 8) : Fin 2 := ⟨p.val % 2, by omega⟩

/-- Head `b` of piece `q`. -/
def pair (q : Fin 4) (b : Fin 2) : Fin 8 := ⟨q.val * 2 + b.val, by omega⟩

/-- Column `n` of piece `q`. -/
def piece (q : Fin 4) (n : Fin 128) : Fin 512 := ⟨q.val * 128 + n.val, by omega⟩

/-- A column of the first half of a head of a piece. -/
theorem piece_lo (q : Fin 4) (b : Fin 2) (j : Fin 32) : lo8 (pair q b) j = piece q (lo2 b j) := by
  unfold lo8 pair piece lo2
  simp only [Fin.ext_iff]
  omega

/-- A column of the second half of a head of a piece. -/
theorem piece_hi (q : Fin 4) (b : Fin 2) (j : Fin 32) : hi8 (pair q b) j = piece q (hi2 b j) := by
  unfold hi8 pair piece hi2
  simp only [Fin.ext_iff]
  omega

/-- A head's place in its piece. -/
theorem par_pair (q : Fin 4) (b : Fin 2) : par (pair q b) = b := by
  unfold par pair
  simp only [Fin.ext_iff]
  omega

/-- One of four pieces. -/
theorem quarter : ∀ q : Fin 4, q = 0 ∨ q = 1 ∨ q = 2 ∨ q = 3 := by decide

/-- Piece 0 of the pieces turned. -/
theorem turns_0 (M : FVec Ideal S256x512 .f32) (C S : FVec Ideal S256x128 .f32) (i : Fin 256) (n : Fin 128) :
    turns M C S (ix2 i (piece 0 n)) = turn (fun y => M (ix2 (y 0) (piece 0 (y 1)))) C S (ix2 i n) := by
  have e : extractStridedSlice S256x128 ![0, 0] M slices_S256x512_o0_0_S256x128 = fun y => M (ix2 (y 0) (piece 0 (y 1))) := by
    funext y
    obtain ⟨a, b, rfl⟩ : ∃ (a : Fin 256) (b : Fin 128), y = (ix2 a b : S256x128.Idx) := ⟨y 0, y 1, eq_ix2 y⟩
    pointwise [piece]
  rw [← e]
  generalize hT : turn (extractStridedSlice S256x128 ![0, 0] M slices_S256x512_o0_0_S256x128) C S = T
  unfold turns
  rw [hT]
  pointwise [piece]

/-- Piece 1 of the pieces turned. -/
theorem turns_1 (M : FVec Ideal S256x512 .f32) (C S : FVec Ideal S256x128 .f32) (i : Fin 256) (n : Fin 128) :
    turns M C S (ix2 i (piece 1 n)) = turn (fun y => M (ix2 (y 0) (piece 1 (y 1)))) C S (ix2 i n) := by
  have e : extractStridedSlice S256x128 ![0, 128] M slices_S256x512_o0_128_S256x128 = fun y => M (ix2 (y 0) (piece 1 (y 1))) := by
    funext y
    obtain ⟨a, b, rfl⟩ : ∃ (a : Fin 256) (b : Fin 128), y = (ix2 a b : S256x128.Idx) := ⟨y 0, y 1, eq_ix2 y⟩
    pointwise [piece]
  rw [← e]
  generalize hT : turn (extractStridedSlice S256x128 ![0, 128] M slices_S256x512_o0_128_S256x128) C S = T
  unfold turns
  rw [hT]
  pointwise [piece]

/-- Piece 2 of the pieces turned. -/
theorem turns_2 (M : FVec Ideal S256x512 .f32) (C S : FVec Ideal S256x128 .f32) (i : Fin 256) (n : Fin 128) :
    turns M C S (ix2 i (piece 2 n)) = turn (fun y => M (ix2 (y 0) (piece 2 (y 1)))) C S (ix2 i n) := by
  have e : extractStridedSlice S256x128 ![0, 256] M slices_S256x512_o0_256_S256x128 = fun y => M (ix2 (y 0) (piece 2 (y 1))) := by
    funext y
    obtain ⟨a, b, rfl⟩ : ∃ (a : Fin 256) (b : Fin 128), y = (ix2 a b : S256x128.Idx) := ⟨y 0, y 1, eq_ix2 y⟩
    pointwise [piece]
  rw [← e]
  generalize hT : turn (extractStridedSlice S256x128 ![0, 256] M slices_S256x512_o0_256_S256x128) C S = T
  unfold turns
  rw [hT]
  pointwise [piece]
  exact (dif_neg (by omega)).trans ((dif_neg (by omega)).trans ((dif_pos (by omega)).trans (congrArg T (congrArg (ix2 i) (Fin.ext (by simp only []; omega))))))

/-- Piece 3 of the pieces turned. -/
theorem turns_3 (M : FVec Ideal S256x512 .f32) (C S : FVec Ideal S256x128 .f32) (i : Fin 256) (n : Fin 128) :
    turns M C S (ix2 i (piece 3 n)) = turn (fun y => M (ix2 (y 0) (piece 3 (y 1)))) C S (ix2 i n) := by
  have e : extractStridedSlice S256x128 ![0, 384] M slices_S256x512_o0_384_S256x128 = fun y => M (ix2 (y 0) (piece 3 (y 1))) := by
    funext y
    obtain ⟨a, b, rfl⟩ : ∃ (a : Fin 256) (b : Fin 128), y = (ix2 a b : S256x128.Idx) := ⟨y 0, y 1, eq_ix2 y⟩
    pointwise [piece]
  rw [← e]
  generalize hT : turn (extractStridedSlice S256x128 ![0, 384] M slices_S256x512_o0_384_S256x128) C S = T
  unfold turns
  rw [hT]
  pointwise [piece]
  exact (dif_neg (by omega)).trans ((dif_neg (by omega)).trans ((dif_neg (by omega)).trans (congrArg T (congrArg (ix2 i) (Fin.ext (by simp only []; omega))))))

/-- The pieces turned, first half of a head. -/
theorem turns_lo (M : FVec Ideal S256x512 .f32) (C S : FVec Ideal S256x128 .f32) (i : Fin 256) (p : Fin 8) (j : Fin 32) :
    turns M C S (ix2 i (lo8 p j)) = M (ix2 i (lo8 p j)) * C (ix2 i (lo2 (par p) j))
      + M (ix2 i (hi8 p j)) * S (ix2 i (lo2 (par p) j)) := by
  obtain ⟨q, b, rfl⟩ : ∃ (q : Fin 4) (b : Fin 2), p = pair q b :=
    ⟨⟨p.val / 2, by omega⟩, ⟨p.val % 2, by omega⟩, Fin.ext (by simp only [pair]; omega)⟩
  rw [piece_lo, piece_hi, par_pair]
  rcases quarter q with rfl | rfl | rfl | rfl
  · exact (turns_0 M C S i _).trans (turn_lo _ C S i b j)
  · exact (turns_1 M C S i _).trans (turn_lo _ C S i b j)
  · exact (turns_2 M C S i _).trans (turn_lo _ C S i b j)
  · exact (turns_3 M C S i _).trans (turn_lo _ C S i b j)

/-- The pieces turned, second half of a head. -/
theorem turns_hi (M : FVec Ideal S256x512 .f32) (C S : FVec Ideal S256x128 .f32) (i : Fin 256) (p : Fin 8) (j : Fin 32) :
    turns M C S (ix2 i (hi8 p j)) = M (ix2 i (hi8 p j)) * C (ix2 i (hi2 (par p) j))
      + M (ix2 i (lo8 p j)) * S (ix2 i (hi2 (par p) j)) := by
  obtain ⟨q, b, rfl⟩ : ∃ (q : Fin 4) (b : Fin 2), p = pair q b :=
    ⟨⟨p.val / 2, by omega⟩, ⟨p.val % 2, by omega⟩, Fin.ext (by simp only [pair]; omega)⟩
  rw [piece_hi, piece_lo, par_pair]
  rcases quarter q with rfl | rfl | rfl | rfl
  · exact (turns_0 M C S i _).trans (turn_hi _ C S i b j)
  · exact (turns_1 M C S i _).trans (turn_hi _ C S i b j)
  · exact (turns_2 M C S i _).trans (turn_hi _ C S i b j)
  · exact (turns_3 M C S i _).trans (turn_hi _ C S i b j)

/-- A cast to the same shape keeps the array. -/
theorem same (C : FVec Ideal S256x128 .f32) : shapeCast S256x128 C shapeCasts_S256x128_S256x128 = C := by
  funext y
  obtain ⟨a, b, rfl⟩ : ∃ (a : Fin 256) (b : Fin 128), y = (ix2 a b : S256x128.Idx) := ⟨y 0, y 1, eq_ix2 y⟩
  pointwise

/-- The grouped queries' block as pieces turned. -/
theorem pay_q (V : Vec Ideal S1024x512 .bf16) :
    k0_pay11 k0_pay4 (k0_pay5 X G V) (k0_pay6 C) (k0_pay7 S) (k0_pay8 X G V C S) (k0_pay9 X G V) (k0_pay10 X G V)
    = (truncf .bf16 (mulf (turns (k0_pay22 (k0_pay3 X G) V) C S) (broadcast S256x512 (Scalar.ofBits .f32 0x3E000000#32)))
        bitsLt_bf16_f32 : FVec Ideal S256x512 .bf16) := by
  unfold k0_pay11 k0_pay8 k0_pay9 k0_pay10 k0_pay6 k0_pay7
  rw [same, same]
  rfl

/-- The block queries' block as pieces turned. -/
theorem pay_mq (H : FVec Ideal S256x1024 .bf16) (V : Vec Ideal S1024x512 .bf16) :
    k0_pay34 (k0_pay27 S) (k0_pay28 H k0_pay4 V C S) (k0_pay29 H k0_pay4 V C S) (k0_pay30 H k0_pay4 V C S)
      (k0_pay32 H k0_pay4 V) (k0_pay33 H V C)
    = (truncf .bf16 (mulf (turns (k0_pay22 H V) C S) (broadcast S256x512 (Scalar.ofBits .f32 0x3E000000#32)))
        bitsLt_bf16_f32 : FVec Ideal S256x512 .bf16) := by
  unfold k0_pay34 k0_pay28 k0_pay29 k0_pay30 k0_pay33 k0_pay26 k0_pay27
  rw [same, same]
  rfl

/-- The block keys before their cast as pieces turned. -/
theorem pay_mk (H : FVec Ideal S256x1024 .bf16) (V : Vec Ideal S1024x512 .bf16) :
    k0_pay44 (k0_pay38 H k0_pay4 V C S) (k0_pay39 H k0_pay4 V C S) (k0_pay40 H k0_pay4 V C S) (k0_pay42 H V C)
      (k0_pay43 H k0_pay4 V S) = turns (k0_pay22 H V) C S := by
  unfold k0_pay44 k0_pay38 k0_pay39 k0_pay40 k0_pay42 k0_pay43 k0_pay36 k0_pay37
  rw [same, same]
  rfl

/-- The keys' block as 128 lanes turned. -/
theorem pay_k (H : FVec Ideal S256x1024 .bf16) (V : Vec Ideal S1024x128 .bf16) :
    k0_pay12 H k0_pay4 V C S = (truncf .bf16 (turn (k0_pay16 H V) C S) bitsLt_bf16_f32 : FVec Ideal S256x128 .bf16) := by
  unfold k0_pay12
  simp only [same]
  rfl

/-- The selected keys' block as 128 lanes turned. -/
theorem pay_ks (H : FVec Ideal S256x1024 .bf16) (V : Vec Ideal S1024x128 .bf16) :
    k0_pay14 H k0_pay4 V C S = (truncf .bf16 (turn (k0_pay16 H V) C S) bitsLt_bf16_f32 : FVec Ideal S256x128 .bf16) := by
  unfold k0_pay14
  simp only [same]
  rfl

/-- The window keys' block as 128 lanes turned. -/
theorem pay_kw (V : FVec Ideal S256x128 .f32) :
    k0_pay19 k0_pay4 V (k0_pay17 C) (k0_pay18 S) = (truncf .bf16 (turn V C S) bitsLt_bf16_f32 : FVec Ideal S256x128 .bf16) := by
  unfold k0_pay17 k0_pay18
  rw [same, same]
  rfl

/-- The whole array read back. -/
theorem lx : View.ld X r0_0 = X := View.ld_unit_lit _ _ (by decide)
/-- The whole array read back. -/
theorem lg : View.ld G r0_1 = G := View.ld_unit_lit _ _ (by decide)
/-- The whole array read back. -/
theorem lc : View.ld C r0_3 = C := View.ld_unit_lit _ _ (by decide)
/-- The whole array read back. -/
theorem lb : View.ld B r0_12 = B := View.ld_unit_lit _ _ (by decide)

/-- The block's product with a part of the weights, 512 columns. -/
theorem part_512 (o : ℕ) (h : o + 512 ≤ 4480) (hb) (i : Fin 256) (n : Fin 512) :
    k0_pay22 (k0_pay3 X G) (View.ld W (Rect.unit (s := S1024x4480) ![0, o] S1024x512.size hb)) (ix2 i n)
      = bprod X G W i (bat o 512 h n) := by
  rw [mat512]
  simp only [ld512 W o h]
  rfl

/-- The block's product with a part of the weights, 128 columns. -/
theorem part_128 (o : ℕ) (h : o + 128 ≤ 4480) (hb) (i : Fin 256) (n : Fin 128) :
    k0_pay16 (k0_pay3 X G) (View.ld W (Rect.unit (s := S1024x4480) ![0, o] S1024x128.size hb)) (ix2 i n)
      = bprod X G W i (bat o 128 h n) := by
  rw [mat128]
  simp only [ld128 W o h]
  rfl

/-- The grouped queries's block as lanes turned. -/
theorem out6 (i : Fin 256) (n : Fin 512) : out0_6 X G W C S B (ix2 i n) =
    turns (k0_pay22 (k0_pay3 X G) (View.ld W r0_2)) C S (ix2 i n) * Ideal.ofBits .f32 0x3E000000#32 := by
  unfold_out out0_6
  canon_tiles x hx
  all_goals
    idx_vars x
    obtain rfl : i = x0 := Fin.ext hx0
    obtain rfl : n = x1 := Fin.ext hx1
    rw [lx, lg, lc, lc, pay_q]
    rfl

/-- The grouped queries, first half of a head. -/
theorem out6_lo (i : Fin 256) (p : Fin 8) (j : Fin 32) : out0_6 X G W C S B (ix2 i (lo8 p j)) =
    (bprod X G W i (bat 0 512 (by decide) (lo8 p j)) * C (ix2 i (lo2 (par p) j))
      + bprod X G W i (bat 0 512 (by decide) (hi8 p j)) * S (ix2 i (lo2 (par p) j))) * Ideal.ofBits .f32 0x3E000000#32 := by
  rw [out6, turns_lo, part_512 X G W 0 (by decide), part_512 X G W 0 (by decide)]

/-- The grouped queries, second half of a head. -/
theorem out6_hi (i : Fin 256) (p : Fin 8) (j : Fin 32) : out0_6 X G W C S B (ix2 i (hi8 p j)) =
    (bprod X G W i (bat 0 512 (by decide) (hi8 p j)) * C (ix2 i (hi2 (par p) j))
      + bprod X G W i (bat 0 512 (by decide) (lo8 p j)) * S (ix2 i (hi2 (par p) j))) * Ideal.ofBits .f32 0x3E000000#32 := by
  rw [out6, turns_hi, part_512 X G W 0 (by decide), part_512 X G W 0 (by decide)]

/-- The compressed keys's block as lanes turned. -/
theorem out7 (i : Fin 256) (n : Fin 128) : out0_7 X G W C S B (ix2 i n) =
    turn (k0_pay16 (k0_pay3 X G) (View.ld W r0_5)) C S (ix2 i n) := by
  unfold_out out0_7
  canon_tiles x hx
  all_goals
    idx_vars x
    obtain rfl : i = x0 := Fin.ext hx0
    obtain rfl : n = x1 := Fin.ext hx1
    rw [lx, lg, lc, lc, pay_k]
    rfl

/-- The compressed keys, first half of a head. -/
theorem out7_lo (i : Fin 256) (p : Fin 2) (j : Fin 32) : out0_7 X G W C S B (ix2 i (lo2 p j)) =
    bprod X G W i (bat 512 128 (by decide) (lo2 p j)) * C (ix2 i (lo2 p j))
      + bprod X G W i (bat 512 128 (by decide) (hi2 p j)) * S (ix2 i (lo2 p j)) := by
  rw [out7, turn_lo, part_128 X G W 512 (by decide), part_128 X G W 512 (by decide)]

/-- The compressed keys, second half of a head. -/
theorem out7_hi (i : Fin 256) (p : Fin 2) (j : Fin 32) : out0_7 X G W C S B (ix2 i (hi2 p j)) =
    bprod X G W i (bat 512 128 (by decide) (hi2 p j)) * C (ix2 i (hi2 p j))
      + bprod X G W i (bat 512 128 (by decide) (lo2 p j)) * S (ix2 i (hi2 p j)) := by
  rw [out7, turn_hi, part_128 X G W 512 (by decide), part_128 X G W 512 (by decide)]

/-- The selected keys's block as lanes turned. -/
theorem out9 (i : Fin 256) (n : Fin 128) : out0_9 X G W C S B (ix2 i n) =
    turn (k0_pay16 (k0_pay3 X G) (View.ld W r0_7)) C S (ix2 i n) := by
  unfold_out out0_9
  canon_tiles x hx
  all_goals
    idx_vars x
    obtain rfl : i = x0 := Fin.ext hx0
    obtain rfl : n = x1 := Fin.ext hx1
    rw [lx, lg, lc, lc, pay_ks]
    rfl

/-- The selected keys, first half of a head. -/
theorem out9_lo (i : Fin 256) (p : Fin 2) (j : Fin 32) : out0_9 X G W C S B (ix2 i (lo2 p j)) =
    bprod X G W i (bat 768 128 (by decide) (lo2 p j)) * C (ix2 i (lo2 p j))
      + bprod X G W i (bat 768 128 (by decide) (hi2 p j)) * S (ix2 i (lo2 p j)) := by
  rw [out9, turn_lo, part_128 X G W 768 (by decide), part_128 X G W 768 (by decide)]

/-- The selected keys, second half of a head. -/
theorem out9_hi (i : Fin 256) (p : Fin 2) (j : Fin 32) : out0_9 X G W C S B (ix2 i (hi2 p j)) =
    bprod X G W i (bat 768 128 (by decide) (hi2 p j)) * C (ix2 i (hi2 p j))
      + bprod X G W i (bat 768 128 (by decide) (lo2 p j)) * S (ix2 i (hi2 p j)) := by
  rw [out9, turn_hi, part_128 X G W 768 (by decide), part_128 X G W 768 (by decide)]

/-- The window keys's block as lanes turned. -/
theorem out11 (i : Fin 256) (n : Fin 128) : out0_11 X G W C S B (ix2 i n) =
    turn (k0_pay16 (k0_pay3 X G) (View.ld W r0_9)) C S (ix2 i n) := by
  unfold_out out0_11
  canon_tiles x hx
  all_goals
    idx_vars x
    obtain rfl : i = x0 := Fin.ext hx0
    obtain rfl : n = x1 := Fin.ext hx1
    rw [lx, lg, lc, lc, pay_kw]
    rfl

/-- The window keys, first half of a head. -/
theorem out11_lo (i : Fin 256) (p : Fin 2) (j : Fin 32) : out0_11 X G W C S B (ix2 i (lo2 p j)) =
    bprod X G W i (bat 1024 128 (by decide) (lo2 p j)) * C (ix2 i (lo2 p j))
      + bprod X G W i (bat 1024 128 (by decide) (hi2 p j)) * S (ix2 i (lo2 p j)) := by
  rw [out11, turn_lo, part_128 X G W 1024 (by decide), part_128 X G W 1024 (by decide)]

/-- The window keys, second half of a head. -/
theorem out11_hi (i : Fin 256) (p : Fin 2) (j : Fin 32) : out0_11 X G W C S B (ix2 i (hi2 p j)) =
    bprod X G W i (bat 1024 128 (by decide) (hi2 p j)) * C (ix2 i (hi2 p j))
      + bprod X G W i (bat 1024 128 (by decide) (lo2 p j)) * S (ix2 i (hi2 p j)) := by
  rw [out11, turn_hi, part_128 X G W 1024 (by decide), part_128 X G W 1024 (by decide)]

/-- The block queries's block as lanes turned. -/
theorem out15 (i : Fin 256) (n : Fin 512) : out0_15 X G W C S B (ix2 i n) =
    turns (k0_pay22 (k0_pay3 X G) (View.ld W r0_14)) C S (ix2 i n) * Ideal.ofBits .f32 0x3E000000#32 := by
  unfold_out out0_15
  canon_tiles x hx
  all_goals
    idx_vars x
    obtain rfl : i = x0 := Fin.ext hx0
    obtain rfl : n = x1 := Fin.ext hx1
    rw [lx, lg, lc, lc, pay_mq]
    rfl

/-- The block queries, first half of a head. -/
theorem out15_lo (i : Fin 256) (p : Fin 8) (j : Fin 32) : out0_15 X G W C S B (ix2 i (lo8 p j)) =
    (bprod X G W i (bat 1920 512 (by decide) (lo8 p j)) * C (ix2 i (lo2 (par p) j))
      + bprod X G W i (bat 1920 512 (by decide) (hi8 p j)) * S (ix2 i (lo2 (par p) j))) * Ideal.ofBits .f32 0x3E000000#32 := by
  rw [out15, turns_lo, part_512 X G W 1920 (by decide), part_512 X G W 1920 (by decide)]

/-- The block queries, second half of a head. -/
theorem out15_hi (i : Fin 256) (p : Fin 8) (j : Fin 32) : out0_15 X G W C S B (ix2 i (hi8 p j)) =
    (bprod X G W i (bat 1920 512 (by decide) (hi8 p j)) * C (ix2 i (hi2 (par p) j))
      + bprod X G W i (bat 1920 512 (by decide) (lo8 p j)) * S (ix2 i (hi2 (par p) j))) * Ideal.ofBits .f32 0x3E000000#32 := by
  rw [out15, turns_hi, part_512 X G W 1920 (by decide), part_512 X G W 1920 (by decide)]

/-- The block keys's block as lanes turned. -/
theorem out16 (i : Fin 256) (n : Fin 512) : out0_16 X G W C S B (ix2 i n) =
    turns (k0_pay22 (k0_pay3 X G) (View.ld W r0_15)) C S (ix2 i n) := by
  unfold_out out0_16
  canon_tiles x hx
  all_goals
    idx_vars x
    obtain rfl : i = x0 := Fin.ext hx0
    obtain rfl : n = x1 := Fin.ext hx1
    rw [k0_pay46, lx, lg, lc, lc, pay_mk]
    rfl

/-- The block keys, first half of a head. -/
theorem out16_lo (i : Fin 256) (p : Fin 8) (j : Fin 32) : out0_16 X G W C S B (ix2 i (lo8 p j)) =
    bprod X G W i (bat 2432 512 (by decide) (lo8 p j)) * C (ix2 i (lo2 (par p) j))
      + bprod X G W i (bat 2432 512 (by decide) (hi8 p j)) * S (ix2 i (lo2 (par p) j)) := by
  rw [out16, turns_lo, part_512 X G W 2432 (by decide), part_512 X G W 2432 (by decide)]

/-- The block keys, second half of a head. -/
theorem out16_hi (i : Fin 256) (p : Fin 8) (j : Fin 32) : out0_16 X G W C S B (ix2 i (hi8 p j)) =
    bprod X G W i (bat 2432 512 (by decide) (hi8 p j)) * C (ix2 i (hi2 (par p) j))
      + bprod X G W i (bat 2432 512 (by decide) (lo8 p j)) * S (ix2 i (hi2 (par p) j)) := by
  rw [out16, turns_hi, part_512 X G W 2432 (by decide), part_512 X G W 2432 (by decide)]

/-- The compressed values. -/
theorem out8 (i : Fin 256) (n : Fin 128) : out0_8 X G W C S B (ix2 i n) = bprod X G W i (bat 640 128 (by decide) n) := by
  unfold_out out0_8
  canon_tiles x hx
  all_goals
    idx_vars x
    obtain rfl : i = x0 := Fin.ext hx0
    obtain rfl : n = x1 := Fin.ext hx1
    pointwise [k0_pay50, k0_pay3, bprod, bhid, bat, silu, logistic, k0_pay13]
  all_goals
    try simp only [← Nat.add_assoc, Nat.reduceAdd, zero_sub]

/-- The selected values. -/
theorem out10 (i : Fin 256) (n : Fin 128) : out0_10 X G W C S B (ix2 i n) = bprod X G W i (bat 896 128 (by decide) n) := by
  unfold_out out0_10
  canon_tiles x hx
  all_goals
    idx_vars x
    obtain rfl : i = x0 := Fin.ext hx0
    obtain rfl : n = x1 := Fin.ext hx1
    pointwise [k0_pay50, k0_pay3, bprod, bhid, bat, silu, logistic, k0_pay15]
  all_goals
    try simp only [← Nat.add_assoc, Nat.reduceAdd, zero_sub]

/-- The window values. -/
theorem out12 (i : Fin 256) (n : Fin 128) : out0_12 X G W C S B (ix2 i n) = bprod X G W i (bat 1152 128 (by decide) n) := by
  unfold_out out0_12
  canon_tiles x hx
  all_goals
    idx_vars x
    obtain rfl : i = x0 := Fin.ext hx0
    obtain rfl : n = x1 := Fin.ext hx1
    pointwise [k0_pay50, k0_pay3, bprod, bhid, bat, silu, logistic, k0_pay20]
  all_goals
    try simp only [← Nat.add_assoc, Nat.reduceAdd, zero_sub]

/-- The branch gates. -/
theorem out13 (i : Fin 256) (n : Fin 128) : out0_13 X G W C S B (ix2 i n) = logistic (bprod X G W i (bat 1280 128 (by decide) n) + B (ix2 0 n)) := by
  unfold_out out0_13
  canon_tiles x hx
  all_goals
    idx_vars x
    obtain rfl : i = x0 := Fin.ext hx0
    obtain rfl : n = x1 := Fin.ext hx1
    pointwise [k0_pay50, k0_pay3, bprod, bhid, bat, silu, logistic, k0_pay21]
  all_goals
    try simp only [← Nat.add_assoc, Nat.reduceAdd, zero_sub]

/-- The grouped output gates. -/
theorem out14 (i : Fin 256) (n : Fin 512) : out0_14 X G W C S B (ix2 i n) = silu (bprod X G W i (bat 1408 512 (by decide) n)) := by
  unfold_out out0_14
  canon_tiles x hx
  all_goals
    idx_vars x
    obtain rfl : i = x0 := Fin.ext hx0
    obtain rfl : n = x1 := Fin.ext hx1
    pointwise [k0_pay50, k0_pay3, bprod, bhid, bat, silu, logistic, k0_pay22, k0_pay23, k0_pay24]
  all_goals
    try simp only [← Nat.add_assoc, Nat.reduceAdd, zero_sub]

/-- The block values. -/
theorem out18 (i : Fin 256) (n : Fin 512) : out0_18 X G W C S B (ix2 i n) = bprod X G W i (bat 2944 512 (by decide) n) := by
  unfold_out out0_18
  canon_tiles x hx
  all_goals
    idx_vars x
    obtain rfl : i = x0 := Fin.ext hx0
    obtain rfl : n = x1 := Fin.ext hx1
    pointwise [k0_pay50, k0_pay3, bprod, bhid, bat, silu, logistic, k0_pay47]
  all_goals
    try simp only [← Nat.add_assoc, Nat.reduceAdd, zero_sub]

/-- The block output gates. -/
theorem out19 (i : Fin 256) (n : Fin 512) : out0_19 X G W C S B (ix2 i n) = silu (bprod X G W i (bat 3456 512 (by decide) n)) := by
  unfold_out out0_19
  canon_tiles x hx
  all_goals
    idx_vars x
    obtain rfl : i = x0 := Fin.ext hx0
    obtain rfl : n = x1 := Fin.ext hx1
    pointwise [k0_pay50, k0_pay3, bprod, bhid, bat, silu, logistic, k0_pay48]
  all_goals
    try simp only [← Nat.add_assoc, Nat.reduceAdd, zero_sub]

/-- The memory queries. -/
theorem out20 (i : Fin 256) (n : Fin 256) : out0_20 X G W C S B (ix2 i n) = bprod X G W i (bat 3968 256 (by decide) n) * Ideal.ofBits .f32 0x3E000000#32 := by
  unfold_out out0_20
  canon_tiles x hx
  all_goals
    idx_vars x
    obtain rfl : i = x0 := Fin.ext hx0
    obtain rfl : n = x1 := Fin.ext hx1
    pointwise [k0_pay50, k0_pay3, bprod, bhid, bat, silu, logistic, k0_pay49, k0_pay1]
  all_goals
    try simp only [← Nat.add_assoc, Nat.reduceAdd, zero_sub]

/-- The memory gates. -/
theorem out21 (i : Fin 256) (n : Fin 256) : out0_21 X G W C S B (ix2 i n) = silu (bprod X G W i (bat 4224 256 (by decide) n)) := by
  unfold_out out0_21
  canon_tiles x hx
  all_goals
    idx_vars x
    obtain rfl : i = x0 := Fin.ext hx0
    obtain rfl : n = x1 := Fin.ext hx1
    pointwise [k0_pay50, k0_pay3, bprod, bhid, bat, silu, logistic, k0_pay2]
  all_goals
    try simp only [← Nat.add_assoc, Nat.reduceAdd, zero_sub]

/-- The mean over a block's rows, at a column. -/
theorem mean_at (a b c d e : FVec Ideal S256x128 .f32) (u v : Fin 1) (k : Fin 512) : k0_pay45 a b c d e (ix3 u v k) =
    Ideal.div (∑ i : Fin 256, k0_pay44 a b c d e (ix2 i k)) (Ideal.ofBits .f32 0x43800000#32) := by
  unfold k0_pay45
  generalize k0_pay44 a b c d e = T
  pointwise

/-- The block key means. -/
theorem out17 (k : Fin 512) : out0_17 X G W C S B (ix3 0 0 k) =
    Ideal.div (∑ i : Fin 256, out0_16 X G W C S B (ix2 i k)) (Ideal.ofBits .f32 0x43800000#32) := by
  simp only [out16]
  unfold_out out0_17
  canon_tiles x hx
  all_goals
    idx_vars x
    obtain rfl : k = x2 := Fin.ext hx2
    rw [mean_at, lx, lg, lc, lc, pay_mk]

end Cert.Proof.Proj0

end

end
-- ==== Proof.Proj0Kernel.lean ====
module

public import proofs.«01_k».proof.Proof.Proj0Blocks
public import Idealize.ShloMosaic.Lib.StableHlo.RunRead

/-! # The even layer's input projection: the kernel's results are the reference's -/

@[expose] public section

open Idealize Idealize.ShloMosaic
open Cert.Kernel4Ideal Cert.Kernel4Ideal.Gen
open StableHlo (after after_append upto upto_last_write after_last_write after_of_writes_sub forall_writes_sub_of_map nary_result unary_result)

set_option maxRecDepth 16384

noncomputable section

namespace Cert.Proof.Proj0

variable (m : (ℓ : Loc nD τ sig) → Buf (Elt Ideal) ℓ) (c : Dev nD)

/-- The arguments a core holds. -/
def args : Args where
  x := m (c.tc.loc main_arg0)
  pos := m (c.tc.loc main_arg1)
  g := m (c.tc.loc main_arg2)
  w := m (c.tc.loc main_arg3)
  b := m (c.tc.loc main_arg4)

/-- Row `i` of block `t`. -/
def row (t : Fin cfg0.N) (i : Fin 256) : Fin 16384 :=
  ⟨t.val * 256 + i.val, by have := lt_of_lt_of_eq t.isLt (show cfg0.N = 64 from N_0); omega⟩

/-- The host's angles. -/
def angA (A : Args) : FVec Ideal S16384x32 .f32 :=
  mulf (broadcastInDim S16384x32 ![0, 1] bcast_S16384x1_S16384x32_0_1
      (broadcastInDim S16384x1 ![0] bcast_S16384_S16384x1_0 (sitofp .f32 (shapeCast S16384 A.pos shapeCasts_S1x16384_S16384))))
    (broadcastInDim S16384x32 ![0, 1] bcast_S1x32_S16384x32_0_1 (broadcastInDim S1x32 ![1] bcast_S32_S1x32_1 freq))

/-- The host's angles at an index. -/
theorem angA_at (A : Args) (r : Fin 16384) (j : Fin 32) : angA A (ix2 r j) = ang A r j := by
  pointwise [angA, ang]

/-- A table of 32 lanes repeated four times. -/
def tile4 (Y : FVec Ideal S16384x32 .f32) : FVec Ideal S16384x128 .f32 :=
  shapeCast S16384x128 (broadcastInDim S1x16384x4x32 ![0, 1, 2, 3] bcast_S1x16384x1x32_S1x16384x4x32_0_1_2_3
    (shapeCast S1x16384x1x32 Y shapeCasts_S16384x32_S1x16384x1x32)) shapeCasts_S1x16384x4x32_S16384x128

/-- A table of 64 lanes repeated twice. -/
def tile2 (Y : FVec Ideal S16384x64 .f32) : FVec Ideal S16384x128 .f32 :=
  shapeCast S16384x128 (broadcastInDim S1x16384x2x64 ![0, 1, 2, 3] bcast_S1x16384x1x64_S1x16384x2x64_0_1_2_3
    (shapeCast S1x16384x1x64 Y shapeCasts_S16384x64_S1x16384x1x64)) shapeCasts_S1x16384x2x64_S16384x128

/-- The table repeated four times, at an index. -/
theorem tile4_at (Y : FVec Ideal S16384x32 .f32) (r : Fin 16384) (n : Fin 128) :
    tile4 Y (ix2 r n) = Y (ix2 r ⟨n.val % 32, by omega⟩) := by
  pointwise [tile4]

/-- The table repeated twice, at an index. -/
theorem tile2_at (Y : FVec Ideal S16384x64 .f32) (r : Fin 16384) (n : Fin 128) :
    tile2 Y (ix2 r n) = Y (ix2 r ⟨n.val % 64, by omega⟩) := by
  pointwise [tile2]

/-- The host's cosines. -/
theorem V_cos : (V m c main_v21 : Vec Ideal S16384x128 .f32) = tile4 (Host.cos (angA (args m c))) := by
  entry_read
  rfl

/-- The host's sines. -/
theorem V_sin : (V m c main_v28 : Vec Ideal S16384x128 .f32) = tile2 (concatenate S16384x64 1
    [⟨S16384x32, Host.negf (Host.sin (angA (args m c)))⟩, ⟨S16384x32, Host.sin (angA (args m c))⟩]
    concatenates_S16384x32_S16384x32_S16384x64_d1) := by
  entry_read
  rfl

/-- The host's gain row at an index. -/
theorem V_gain (k : Fin 1024) : (V m c main_v46 : Vec Ideal S1x1024 .f32) (ix2 0 k) = (args m c).g (ix1 k) := by
  have e : V m c main_v46 = broadcastInDim S1x1024 ![1] bcast_S1024_S1x1024_1 (args m c).g := by
    entry_read
    rfl
  rw [e]; pointwise

/-- The host's bias row at an index. -/
theorem V_bias (n : Fin 128) : (V m c main_v45 : Vec Ideal S1x128 .f32) (ix2 0 n) = gateBias (args m c) n := by
  have e : V m c main_v45 = broadcastInDim S1x128 ![1] bcast_S128_S1x128_1 (concatenate S128 0 [⟨S24, (args m c).b⟩,
      ⟨S104, broadcastInDim S104 ![] bcast_S_S104 (constant (F := Ideal) S_ .f32 0x00000000#32)⟩] concatenates_S24_S104_S128_d0) := by
    entry_read
    rfl
  rw [e]; pointwise [gateBias]

/-- The host's weights. -/
def wA (A : Args) : FVec Ideal S1024x4480 .f32 :=
  concatenate S1024x4480 1 [
    ⟨S1024x512, shapeCast S1024x512 (transpose S1024x4x2x64 [0, 2, 1, 3] (shapeCast S1024x2x4x64 (extractStridedSlice S1024x512 ![0, 0] A.w
      slices_S1024x4376_S1024x512_0_0) shapeCasts_S1024x512_S1024x2x4x64) transposes_S1024x2x4x64_S1024x4x2x64_0_2_1_3) shapeCasts_S1024x4x2x64_S1024x512⟩,
    ⟨S1024x768, extractStridedSlice S1024x768 ![0, 512] A.w slices_S1024x4376_S1024x768_0_512⟩,
    ⟨S1024x24, extractStridedSlice S1024x24 ![0, 1280] A.w slices_S1024x4376_S1024x24_0_1280⟩,
    ⟨S1024x104, broadcastInDim S1024x104 ![] bcast_S_S1024x104 (constant (F := Ideal) S_ .f32 0x00000000#32)⟩,
    ⟨S1024x512, shapeCast S1024x512 (transpose S1024x4x2x64 [0, 2, 1, 3] (shapeCast S1024x2x4x64 (extractStridedSlice S1024x512 ![0, 1304] A.w
      slices_S1024x4376_S1024x512_0_1304) shapeCasts_S1024x512_S1024x2x4x64) transposes_S1024x2x4x64_S1024x4x2x64_0_2_1_3) shapeCasts_S1024x4x2x64_S1024x512⟩,
    ⟨S1024x2560, extractStridedSlice S1024x2560 ![0, 1816] A.w slices_S1024x4376_S1024x2560_0_1816⟩]
    concatenates_S1024x512_S1024x768_S1024x24_S1024x104_S1024x512_S1024x2560_S1024x4480_d1

/-- A buffer that the last seven host operations do not write holds at the launch what it held before them. -/
theorem V_before {b : Ref sig .tc} (hb : b ∉ [main_v41, main_v42, main_cst_5, main_v43, main_v44, main_v45, main_v46]) :
    upto hostOps0 (fun b => m (c, b)) 47 (Proc.devRef .tc b) = V m c b := by
  have h := after_append ((hostOps0 (F := Ideal)).take 47) (hostOps0.drop 47) (fun b => m (c, b))
  rw [List.take_append_drop] at h
  show _ = after hostOps0 (fun b => m (c, b)) (Proc.devRef .tc b)
  rw [h]
  exact (after_of_writes_sub _ _ (forall_writes_sub_of_map
    (W := [main_v41, main_v42, main_cst_5, main_v43, main_v44, main_v45, main_v46]) rfl) hb).symm

/-- The host's columns of the grouped queries. -/
theorem V_w0 : (V m c main_v32 : Vec Ideal S1024x512 .f32) = shapeCast S1024x512 (transpose S1024x4x2x64 [0, 2, 1, 3] (shapeCast S1024x2x4x64
    (extractStridedSlice S1024x512 ![0, 0] (args m c).w slices_S1024x4376_S1024x512_0_0) shapeCasts_S1024x512_S1024x2x4x64)
    transposes_S1024x2x4x64_S1024x4x2x64_0_2_1_3) shapeCasts_S1024x4x2x64_S1024x512 := by
  entry_read
  rfl

/-- The host's columns up to the gates. -/
theorem V_w1 : (V m c main_v33 : Vec Ideal S1024x768 .f32) =
    extractStridedSlice S1024x768 ![0, 512] (args m c).w slices_S1024x4376_S1024x768_0_512 := by
  entry_read
  rfl

/-- The host's columns of the gates. -/
theorem V_w2 : (V m c main_v34 : Vec Ideal S1024x24 .f32) =
    extractStridedSlice S1024x24 ![0, 1280] (args m c).w slices_S1024x4376_S1024x24_0_1280 := by
  entry_read
  rfl

/-- The host's zero columns. -/
theorem V_w3 : (V m c main_v35 : Vec Ideal S1024x104 .f32) =
    broadcastInDim S1024x104 ![] bcast_S_S1024x104 (constant (F := Ideal) S_ .f32 0x00000000#32) := by
  entry_read
  rfl

/-- The host's columns of the output gates. -/
theorem V_w4 : (V m c main_v39 : Vec Ideal S1024x512 .f32) = shapeCast S1024x512 (transpose S1024x4x2x64 [0, 2, 1, 3] (shapeCast S1024x2x4x64
    (extractStridedSlice S1024x512 ![0, 1304] (args m c).w slices_S1024x4376_S1024x512_0_1304) shapeCasts_S1024x512_S1024x2x4x64)
    transposes_S1024x2x4x64_S1024x4x2x64_0_2_1_3) shapeCasts_S1024x4x2x64_S1024x512 := by
  entry_read
  rfl

/-- The host's remaining columns. -/
theorem V_w5 : (V m c main_v40 : Vec Ideal S1024x2560 .f32) =
    extractStridedSlice S1024x2560 ![0, 1816] (args m c).w slices_S1024x4376_S1024x2560_0_1816 := by
  entry_read
  rfl

/-- The six pieces of the weights side by side. -/
def cat6 (a0 : FVec Ideal S1024x512 .f32) (a1 : FVec Ideal S1024x768 .f32) (a2 : FVec Ideal S1024x24 .f32) (a3 : FVec Ideal S1024x104 .f32)
    (a4 : FVec Ideal S1024x512 .f32) (a5 : FVec Ideal S1024x2560 .f32) : FVec Ideal S1024x4480 .f32 :=
  concatenate S1024x4480 1 [⟨S1024x512, a0⟩, ⟨S1024x768, a1⟩, ⟨S1024x24, a2⟩, ⟨S1024x104, a3⟩, ⟨S1024x512, a4⟩, ⟨S1024x2560, a5⟩]
    concatenates_S1024x512_S1024x768_S1024x24_S1024x104_S1024x512_S1024x2560_S1024x4480_d1

/-- The host's weights before their cast are its six pieces side by side. -/
theorem V_cat : upto hostOps0 (fun b => m (c, b)) 48 (Proc.devRef .tc main_v41) =
    cat6 (V m c main_v32) (V m c main_v33) (V m c main_v34) (V m c main_v35) (V m c main_v39) (V m c main_v40) := by
  rw [← V_before m c (b := main_v32) (by decide), ← V_before m c (b := main_v33) (by decide), ← V_before m c (b := main_v34) (by decide),
    ← V_before m c (b := main_v35) (by decide), ← V_before m c (b := main_v39) (by decide), ← V_before m c (b := main_v40) (by decide)]
  exact (upto_last_write (n := 48) (i := 47) [] rfl rfl (by decide) _).trans (nary_result ..)

/-- The host's weights are `wA`. -/
theorem V_weight : (V m c main_v42 : Vec Ideal S1024x4480 .bf16) = (truncf .bf16 (wA (args m c)) bitsLt_bf16_f32 : FVec Ideal S1024x4480 .bf16) := by
  have e : (V m c main_v42 : Vec Ideal S1024x4480 .bf16) = (truncf .bf16
      (upto hostOps0 (fun b => m (c, b)) 48 (Proc.devRef .tc main_v41) : FVec Ideal S1024x4480 .f32) bitsLt_bf16_f32 :
        FVec Ideal S1024x4480 .bf16) := by
    refine (after_last_write (i := 48) [main_cst_5, main_v43, main_v44, main_v45, main_v46] rfl rfl (by decide) _).trans ?_
    rw [unary_result]
  rw [e, V_cat, V_w0, V_w1, V_w2, V_w3, V_w4, V_w5]
  rfl

variable (A : Args)

/-- The weights' columns of the grouped queries. -/
theorem wA_q (k : Fin 1024) (n : Fin 512) : wA A (ix2 k (bat 0 512 (by decide) n)) = A.w (ix2 k (at_ 0 512 (by decide) (mateCol n))) := by
  pointwise [wA, bat, at_, mateCol]
  exact congrArg A.w (congrArg (ix2 k) (Fin.ext (by simp only []; omega)))

/-- The weights' columns up to the gates. -/
theorem wA_1 (k : Fin 1024) (n : Fin 768) : wA A (ix2 k (bat 512 768 (by decide) n)) = A.w (ix2 k (at_ 512 768 (by decide) n)) := by
  pointwise [wA, bat, at_]

/-- The gates' columns of the weights, zero after the 24th. -/
theorem wA_g (k : Fin 1024) (n : Fin 128) : wA A (ix2 k (bat 1280 128 (by decide) n)) =
    if h : n.val < 24 then A.w (ix2 k ⟨1280 + n.val, by omega⟩) else 0 := by
  pointwise [wA, bat, at_]
  have e : 1280 + n.val - 512 - 768 = n.val := by omega
  rw [dif_neg (by omega), dif_neg (by omega)]
  by_cases h : n.val < 24
  · rw [dif_pos h, dif_pos (by omega)]
    exact congrArg A.w (congrArg (ix2 k) (Fin.ext (by simp only []; omega)))
  · rw [dif_neg h, dif_neg (by omega), dif_pos (by omega)]

/-- The weights' columns of the grouped output gates. -/
theorem wA_z (k : Fin 1024) (n : Fin 512) : wA A (ix2 k (bat 1408 512 (by decide) n)) = A.w (ix2 k (at_ 1304 512 (by decide) (mateCol n))) := by
  pointwise [wA, bat, at_, mateCol]
  rw [dif_neg (by omega), dif_neg (by omega), dif_neg (by omega), dif_neg (by omega), dif_pos (by omega)]
  exact congrArg A.w (congrArg (ix2 k) (Fin.ext (by simp only []; omega)))

/-- The weights' remaining columns. -/
theorem wA_2 (k : Fin 1024) (n : Fin 2560) : wA A (ix2 k (bat 1920 2560 (by decide) n)) = A.w (ix2 k (at_ 1816 2560 (by decide) n)) := by
  pointwise [wA, bat, at_]
  rw [dif_neg (by omega), dif_neg (by omega), dif_neg (by omega), dif_neg (by omega), dif_neg (by omega)]
  exact congrArg A.w (congrArg (ix2 k) (Fin.ext (by simp only []; omega)))

variable (t : Fin cfg0.N)

/-- Where each block lies. -/
theorem idx_facts : ∀ t : Fin cfg0.N, win0_0.index t = ![t.val, 0] ∧ win0_1.index t = ![0, 0]
    ∧ win0_2.index t = ![0, 0] ∧ win0_3.index t = ![t.val, 0] ∧ win0_4.index t = ![t.val, 0] ∧ win0_5.index t = ![0, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0, 0]
    ∧ win0_18.index t = ![t.val, 0] ∧ win0_19.index t = ![t.val, 0] ∧ win0_20.index t = ![t.val, 0] ∧ win0_21.index t = ![t.val, 0] :=
  (by decide +kernel : ∀ t : Fin grid0.N, _)

/-- Input block 0 at an index. -/
theorem blk0 (i : Fin 256) (k : Fin 1024) :
    (iblk m c 0 t : Vec Ideal S256x1024 .f32) (ix2 i k) = (args m c).x (ix2 (row t i) k) := by
  unfold args row
  blk_ext [iblk, Gen.V, idx_facts t]

/-- Input block 1 at an index. -/
theorem blk1 (k : Fin 1024) : (iblk m c 1 t : Vec Ideal S1x1024 .f32) (ix2 0 k) = (args m c).g (ix1 k) := by
  have e : (iblk m c 1 t : Vec Ideal S1x1024 .f32) (ix2 0 k) = (Gen.V m c main_v46 : Vec Ideal S1x1024 .f32) (ix2 0 k) := by
    blk_ext [iblk, idx_facts t]
  rw [e]; exact V_gain ..

/-- Input block 2 at an index. -/
theorem blk2 (k : Fin 1024) (n : Fin 4480) :
    (iblk m c 2 t : Vec Ideal S1024x4480 .bf16) (ix2 k n) = wA (args m c) (ix2 k n) := by
  have e : (iblk m c 2 t : Vec Ideal S1024x4480 .bf16) (ix2 k n) = (Gen.V m c main_v42 : Vec Ideal S1024x4480 .bf16) (ix2 k n) := by
    blk_ext [iblk, idx_facts t]
  rw [e, V_weight]
  rfl

/-- Input block 3 at an index. -/
theorem blk3 (i : Fin 256) (n : Fin 128) :
    (iblk m c 3 t : Vec Ideal S256x128 .f32) (ix2 i n) = Ideal.cos (ang (args m c) (row t i) ⟨n.val % 32, by omega⟩) := by
  have e : (iblk m c 3 t : Vec Ideal S256x128 .f32) (ix2 i n) = (Gen.V m c main_v21 : Vec Ideal S16384x128 .f32) (ix2 (row t i) n) := by
    unfold row
    blk_ext [iblk, idx_facts t]
  rw [e, V_cos, tile4_at, ← angA_at]
  rfl

/-- The cosines of a head's two halves. -/
theorem cos_lanes (i : Fin 256) (b : Fin 2) (j : Fin 32) :
    (iblk m c 3 t : Vec Ideal S256x128 .f32) (ix2 i (lo2 b j)) = Ideal.cos (ang (args m c) (row t i) j)
    ∧ (iblk m c 3 t : Vec Ideal S256x128 .f32) (ix2 i (hi2 b j)) = Ideal.cos (ang (args m c) (row t i) j) := by
  refine ⟨(blk3 m c t i _).trans ?_, (blk3 m c t i _).trans ?_⟩
  · exact congrArg (fun j => Ideal.cos (ang (args m c) (row t i) j)) (Fin.ext (by simp only [lo2]; omega))
  · exact congrArg (fun j => Ideal.cos (ang (args m c) (row t i) j)) (Fin.ext (by simp only [hi2]; omega))

/-- Input block 4 at an index. -/
theorem blk4 (i : Fin 256) (n : Fin 128) : (iblk m c 4 t : Vec Ideal S256x128 .f32) (ix2 i n) =
    if n.val % 64 < 32 then -(Ideal.sin (ang (args m c) (row t i) ⟨n.val % 32, by omega⟩))
    else Ideal.sin (ang (args m c) (row t i) ⟨n.val % 32, by omega⟩) := by
  have e : (iblk m c 4 t : Vec Ideal S256x128 .f32) (ix2 i n) = (Gen.V m c main_v28 : Vec Ideal S16384x128 .f32) (ix2 (row t i) n) := by
    unfold row
    blk_ext [iblk, idx_facts t]
  rw [e, V_sin, tile2_at, ← angA_at]
  generalize angA (args m c) = Y
  generalize row t i = r
  pointwise
  by_cases h : n.val % 64 < 32
  · rw [dif_pos h, if_pos h]
    exact congrArg (fun j => -(Ideal.sin (Y (ix2 r j)))) (Fin.ext (by simp only []; omega))
  · rw [dif_neg h, if_neg h]
    exact congrArg (fun j => Ideal.sin (Y (ix2 r j))) (Fin.ext (by simp only []; omega))

/-- The sines of a head's two halves. -/
theorem sin_lanes (i : Fin 256) (b : Fin 2) (j : Fin 32) :
    (iblk m c 4 t : Vec Ideal S256x128 .f32) (ix2 i (lo2 b j)) = -(Ideal.sin (ang (args m c) (row t i) j))
    ∧ (iblk m c 4 t : Vec Ideal S256x128 .f32) (ix2 i (hi2 b j)) = Ideal.sin (ang (args m c) (row t i) j) := by
  refine ⟨(blk4 m c t i _).trans ?_, (blk4 m c t i _).trans ?_⟩
  · refine (if_pos (by simp only [lo2]; omega)).trans ?_
    exact congrArg (fun j => -(Ideal.sin (ang (args m c) (row t i) j))) (Fin.ext (by simp only [lo2]; omega))
  · refine (if_neg (by simp only [hi2]; omega)).trans ?_
    exact congrArg (fun j => Ideal.sin (ang (args m c) (row t i) j)) (Fin.ext (by simp only [hi2]; omega))

/-- Input block 5 at an index. -/
theorem blk5 (n : Fin 128) : (iblk m c 5 t : Vec Ideal S1x128 .f32) (ix2 0 n) = gateBias (args m c) n := by
  have e : (iblk m c 5 t : Vec Ideal S1x128 .f32) (ix2 0 n) = (Gen.V m c main_v45 : Vec Ideal S1x128 .f32) (ix2 0 n) := by
    blk_ext [iblk, idx_facts t]
  rw [e]; exact V_bias ..

/-- A block's product. -/
theorem prod_blk (i : Fin 256) (n : Fin 4480) : bprod (iblk m c 0 t) (iblk m c 1 t) (iblk m c 2 t) i n =
    ∑ k : Fin 1024, hid (args m c) (row t i) k * wA (args m c) (ix2 k n) := by
  unfold bprod bhid hid
  simp only [blk0, blk1, blk2]

/-- The grouped queries' columns of a block's product. -/
theorem prod_q (i : Fin 256) (n : Fin 512) : bprod (iblk m c 0 t) (iblk m c 1 t) (iblk m c 2 t) i (bat 0 512 (by decide) n) =
    prod (args m c) (row t i) (at_ 0 512 (by decide) (mateCol n)) := by
  rw [prod_blk]
  simp only [wA_q]
  rfl

/-- The columns of a block's product that lie before the gates. -/
theorem prod_1 (o : ℕ) (h1 : 512 ≤ o) (h2 : o + 128 ≤ 1280) (i : Fin 256) (n : Fin 128) :
    bprod (iblk m c 0 t) (iblk m c 1 t) (iblk m c 2 t) i (bat o 128 (by omega) n) =
    prod (args m c) (row t i) (at_ o 128 (by omega) n) := by
  rw [prod_blk, show bat o 128 (by omega) n = bat 512 768 (by decide) ⟨o - 512 + n.val, by omega⟩ from Fin.ext (by simp only [bat]; omega)]
  simp only [wA_1]
  unfold prod
  rw [show at_ o 128 (by omega) n = at_ 512 768 (by decide) ⟨o - 512 + n.val, by omega⟩ from Fin.ext (by simp only [at_]; omega)]

/-- The gates' columns of a block's product. -/
theorem prod_g (i : Fin 256) (n : Fin 128) : bprod (iblk m c 0 t) (iblk m c 1 t) (iblk m c 2 t) i (bat 1280 128 (by decide) n) =
    gateCol (args m c) (row t i) n := by
  rw [prod_blk]
  simp only [wA_g]
  unfold gateCol
  by_cases h : n.val < 24
  · simp only [dif_pos h]
    rfl
  · simp only [dif_neg h, mul_zero, Finset.sum_const_zero]

/-- The grouped output gates' columns of a block's product. -/
theorem prod_z (i : Fin 256) (n : Fin 512) : bprod (iblk m c 0 t) (iblk m c 1 t) (iblk m c 2 t) i (bat 1408 512 (by decide) n) =
    prod (args m c) (row t i) (at_ 1304 512 (by decide) (mateCol n)) := by
  rw [prod_blk]
  simp only [wA_z]
  rfl

/-- The columns of a block's product that lie after the grouped output gates. -/
theorem prod_2 (o w o' : ℕ) (e : o = o' + 104) (h1 : 1920 ≤ o) (h2 : o + w ≤ 4480) (i : Fin 256) (n : Fin w) :
    bprod (iblk m c 0 t) (iblk m c 1 t) (iblk m c 2 t) i (bat o w h2 n) = prod (args m c) (row t i) (at_ o' w (by omega) n) := by
  rw [prod_blk, show bat o w h2 n = bat 1920 2560 (by decide) ⟨o - 1920 + n.val, by omega⟩ from Fin.ext (by simp only [bat]; omega)]
  simp only [wA_2]
  unfold prod
  rw [show at_ o' w (by omega) n = at_ 1816 2560 (by decide) ⟨o - 1920 + n.val, by omega⟩ from Fin.ext (by simp only [at_]; omega)]

/-- The first half of a head turned, in the kernel's form. -/
theorem lo_form (a b c s : EReal) : a * c + b * -s = rotLo a b c s := by
  rw [rotLo, mul_neg, ← sub_eq_add_neg]

/-- The second half of a head turned, in the kernel's form. -/
theorem hi_form (a b c s : EReal) : b * c + a * s = rotHi a b c s := add_comm _ _

/-- A column of eight heads lies in the first or the second half of a head. -/
theorem halves8 (k : Fin 512) : ∃ (h : Fin 8) (j : Fin 32), k = lo8 h j ∨ k = hi8 h j := by
  refine ⟨⟨k.val / 64, by omega⟩, ⟨k.val % 32, by omega⟩, ?_⟩
  unfold lo8 hi8
  simp only [Fin.ext_iff]
  omega

/-- A column of two heads lies in the first or the second half of a head. -/
theorem halves2 (k : Fin 128) : ∃ (h : Fin 2) (j : Fin 32), k = lo2 h j ∨ k = hi2 h j := by
  refine ⟨⟨k.val / 64, by omega⟩, ⟨k.val % 32, by omega⟩, ?_⟩
  unfold lo2 hi2
  simp only [Fin.ext_iff]
  omega

/-- Where window 6's blocks lie. -/
theorem emb6 (i : Fin 256) (k : Fin 512) :
    ((win0_6.blk t).view.emb (ix2 i k : S256x512.Idx) : S16384x512.Idx) = ix2 (row t i) k := by
  unfold row
  blk_ext [idx_facts t]

/-- The grouped queries are the reference's. -/
theorem res6 : (dats m 0 c).arrAt 6 cfg0.N = nqA (args m c) := by
  refine (dats m 0 c).arrAt_eq_of_covers 6 _ (by decide +kernel) fun t hf y => ?_
  blk_simp
  rw [after0_6]
  obtain ⟨i, k, rfl⟩ : ∃ (i : Fin 256) (k : Fin 512), y = (ix2 i k : S256x512.Idx) := ⟨y 0, y 1, eq_ix2 y⟩
  refine Eq.trans ?_ (congrArg (nqA (args m c)) (emb6 t i k)).symm
  obtain ⟨h, j, rfl | rfl⟩ := halves8 k
  · rw [out6_lo, nqA_lo, prod_q, prod_q, mateCol_lo, mateCol_hi, (cos_lanes m c t i _ j).1, (sin_lanes m c t i _ j).1, lo_form]
  · rw [out6_hi, nqA_hi, prod_q, prod_q, mateCol_hi, mateCol_lo, (cos_lanes m c t i _ j).2, (sin_lanes m c t i _ j).2, hi_form]

/-- Where window 7's blocks lie. -/
theorem emb7 (i : Fin 256) (k : Fin 128) :
    ((win0_7.blk t).view.emb (ix2 i k : S256x128.Idx) : S16384x128.Idx) = ix2 (row t i) k := by
  unfold row
  blk_ext [idx_facts t]

/-- The compressed keys are the reference's. -/
theorem res7 : (dats m 0 c).arrAt 7 cfg0.N = nkcA (args m c) := by
  refine (dats m 0 c).arrAt_eq_of_covers 7 _ (by decide +kernel) fun t hf y => ?_
  blk_simp
  rw [after0_7]
  obtain ⟨i, k, rfl⟩ : ∃ (i : Fin 256) (k : Fin 128), y = (ix2 i k : S256x128.Idx) := ⟨y 0, y 1, eq_ix2 y⟩
  refine Eq.trans ?_ (congrArg (nkcA (args m c)) (emb7 t i k)).symm
  obtain ⟨h, j, rfl | rfl⟩ := halves2 k
  · rw [out7_lo, nkcA_lo, prod_1 m c t 512 (by decide) (by decide), prod_1 m c t 512 (by decide) (by decide), (cos_lanes m c t i _ j).1, (sin_lanes m c t i _ j).1, lo_form]
  · rw [out7_hi, nkcA_hi, prod_1 m c t 512 (by decide) (by decide), prod_1 m c t 512 (by decide) (by decide), (cos_lanes m c t i _ j).2, (sin_lanes m c t i _ j).2, hi_form]

/-- Where window 8's blocks lie. -/
theorem emb8 (i : Fin 256) (k : Fin 128) :
    ((win0_8.blk t).view.emb (ix2 i k : S256x128.Idx) : S16384x128.Idx) = ix2 (row t i) k := by
  unfold row
  blk_ext [idx_facts t]

/-- The compressed values are the reference's. -/
theorem res8 : (dats m 0 c).arrAt 8 cfg0.N = nvcA (args m c) := by
  refine (dats m 0 c).arrAt_eq_of_covers 8 _ (by decide +kernel) fun t hf y => ?_
  blk_simp
  rw [after0_8]
  obtain ⟨i, k, rfl⟩ : ∃ (i : Fin 256) (k : Fin 128), y = (ix2 i k : S256x128.Idx) := ⟨y 0, y 1, eq_ix2 y⟩
  refine Eq.trans ?_ (congrArg (nvcA (args m c)) (emb8 t i k)).symm
  rw [out8, nvcA_at, prod_1 m c t 640 (by decide) (by decide)]

/-- Where window 9's blocks lie. -/
theorem emb9 (i : Fin 256) (k : Fin 128) :
    ((win0_9.blk t).view.emb (ix2 i k : S256x128.Idx) : S16384x128.Idx) = ix2 (row t i) k := by
  unfold row
  blk_ext [idx_facts t]

/-- The selected keys are the reference's. -/
theorem res9 : (dats m 0 c).arrAt 9 cfg0.N = nksA (args m c) := by
  refine (dats m 0 c).arrAt_eq_of_covers 9 _ (by decide +kernel) fun t hf y => ?_
  blk_simp
  rw [after0_9]
  obtain ⟨i, k, rfl⟩ : ∃ (i : Fin 256) (k : Fin 128), y = (ix2 i k : S256x128.Idx) := ⟨y 0, y 1, eq_ix2 y⟩
  refine Eq.trans ?_ (congrArg (nksA (args m c)) (emb9 t i k)).symm
  obtain ⟨h, j, rfl | rfl⟩ := halves2 k
  · rw [out9_lo, nksA_lo, prod_1 m c t 768 (by decide) (by decide), prod_1 m c t 768 (by decide) (by decide), (cos_lanes m c t i _ j).1, (sin_lanes m c t i _ j).1, lo_form]
  · rw [out9_hi, nksA_hi, prod_1 m c t 768 (by decide) (by decide), prod_1 m c t 768 (by decide) (by decide), (cos_lanes m c t i _ j).2, (sin_lanes m c t i _ j).2, hi_form]

/-- Where window 10's blocks lie. -/
theorem emb10 (i : Fin 256) (k : Fin 128) :
    ((win0_10.blk t).view.emb (ix2 i k : S256x128.Idx) : S16384x128.Idx) = ix2 (row t i) k := by
  unfold row
  blk_ext [idx_facts t]

/-- The selected values are the reference's. -/
theorem res10 : (dats m 0 c).arrAt 10 cfg0.N = nvsA (args m c) := by
  refine (dats m 0 c).arrAt_eq_of_covers 10 _ (by decide +kernel) fun t hf y => ?_
  blk_simp
  rw [after0_10]
  obtain ⟨i, k, rfl⟩ : ∃ (i : Fin 256) (k : Fin 128), y = (ix2 i k : S256x128.Idx) := ⟨y 0, y 1, eq_ix2 y⟩
  refine Eq.trans ?_ (congrArg (nvsA (args m c)) (emb10 t i k)).symm
  rw [out10, nvsA_at, prod_1 m c t 896 (by decide) (by decide)]

/-- Where window 11's blocks lie. -/
theorem emb11 (i : Fin 256) (k : Fin 128) :
    ((win0_11.blk t).view.emb (ix2 i k : S256x128.Idx) : S16384x128.Idx) = ix2 (row t i) k := by
  unfold row
  blk_ext [idx_facts t]

/-- The window keys are the reference's. -/
theorem res11 : (dats m 0 c).arrAt 11 cfg0.N = nkwA (args m c) := by
  refine (dats m 0 c).arrAt_eq_of_covers 11 _ (by decide +kernel) fun t hf y => ?_
  blk_simp
  rw [after0_11]
  obtain ⟨i, k, rfl⟩ : ∃ (i : Fin 256) (k : Fin 128), y = (ix2 i k : S256x128.Idx) := ⟨y 0, y 1, eq_ix2 y⟩
  refine Eq.trans ?_ (congrArg (nkwA (args m c)) (emb11 t i k)).symm
  obtain ⟨h, j, rfl | rfl⟩ := halves2 k
  · rw [out11_lo, nkwA_lo, prod_1 m c t 1024 (by decide) (by decide), prod_1 m c t 1024 (by decide) (by decide), (cos_lanes m c t i _ j).1, (sin_lanes m c t i _ j).1, lo_form]
  · rw [out11_hi, nkwA_hi, prod_1 m c t 1024 (by decide) (by decide), prod_1 m c t 1024 (by decide) (by decide), (cos_lanes m c t i _ j).2, (sin_lanes m c t i _ j).2, hi_form]

/-- Where window 12's blocks lie. -/
theorem emb12 (i : Fin 256) (k : Fin 128) :
    ((win0_12.blk t).view.emb (ix2 i k : S256x128.Idx) : S16384x128.Idx) = ix2 (row t i) k := by
  unfold row
  blk_ext [idx_facts t]

/-- The window values are the reference's. -/
theorem res12 : (dats m 0 c).arrAt 12 cfg0.N = nvwA (args m c) := by
  refine (dats m 0 c).arrAt_eq_of_covers 12 _ (by decide +kernel) fun t hf y => ?_
  blk_simp
  rw [after0_12]
  obtain ⟨i, k, rfl⟩ : ∃ (i : Fin 256) (k : Fin 128), y = (ix2 i k : S256x128.Idx) := ⟨y 0, y 1, eq_ix2 y⟩
  refine Eq.trans ?_ (congrArg (nvwA (args m c)) (emb12 t i k)).symm
  rw [out12, nvwA_at, prod_1 m c t 1152 (by decide) (by decide)]

/-- Where window 13's blocks lie. -/
theorem emb13 (i : Fin 256) (k : Fin 128) :
    ((win0_13.blk t).view.emb (ix2 i k : S256x128.Idx) : S16384x128.Idx) = ix2 (row t i) k := by
  unfold row
  blk_ext [idx_facts t]

/-- The branch gates are the reference's. -/
theorem res13 : (dats m 0 c).arrAt 13 cfg0.N = ngA (args m c) := by
  refine (dats m 0 c).arrAt_eq_of_covers 13 _ (by decide +kernel) fun t hf y => ?_
  blk_simp
  rw [after0_13]
  obtain ⟨i, k, rfl⟩ : ∃ (i : Fin 256) (k : Fin 128), y = (ix2 i k : S256x128.Idx) := ⟨y 0, y 1, eq_ix2 y⟩
  refine Eq.trans ?_ (congrArg (ngA (args m c)) (emb13 t i k)).symm
  rw [out13, ngA_at, prod_g, blk5]

/-- Where window 14's blocks lie. -/
theorem emb14 (i : Fin 256) (k : Fin 512) :
    ((win0_14.blk t).view.emb (ix2 i k : S256x512.Idx) : S16384x512.Idx) = ix2 (row t i) k := by
  unfold row
  blk_ext [idx_facts t]

/-- The grouped output gates are the reference's. -/
theorem res14 : (dats m 0 c).arrAt 14 cfg0.N = snzA (args m c) := by
  refine (dats m 0 c).arrAt_eq_of_covers 14 _ (by decide +kernel) fun t hf y => ?_
  blk_simp
  rw [after0_14]
  obtain ⟨i, k, rfl⟩ : ∃ (i : Fin 256) (k : Fin 512), y = (ix2 i k : S256x512.Idx) := ⟨y 0, y 1, eq_ix2 y⟩
  refine Eq.trans ?_ (congrArg (snzA (args m c)) (emb14 t i k)).symm
  rw [out14, snzA_at, prod_z]

/-- Where window 15's blocks lie. -/
theorem emb15 (i : Fin 256) (k : Fin 512) :
    ((win0_15.blk t).view.emb (ix2 i k : S256x512.Idx) : S16384x512.Idx) = ix2 (row t i) k := by
  unfold row
  blk_ext [idx_facts t]

/-- The block queries are the reference's. -/
theorem res15 : (dats m 0 c).arrAt 15 cfg0.N = mqA (args m c) := by
  refine (dats m 0 c).arrAt_eq_of_covers 15 _ (by decide +kernel) fun t hf y => ?_
  blk_simp
  rw [after0_15]
  obtain ⟨i, k, rfl⟩ : ∃ (i : Fin 256) (k : Fin 512), y = (ix2 i k : S256x512.Idx) := ⟨y 0, y 1, eq_ix2 y⟩
  refine Eq.trans ?_ (congrArg (mqA (args m c)) (emb15 t i k)).symm
  obtain ⟨h, j, rfl | rfl⟩ := halves8 k
  · rw [out15_lo, mqA_lo, prod_2 m c t 1920 512 1816 rfl (by decide) (by decide), prod_2 m c t 1920 512 1816 rfl (by decide) (by decide), (cos_lanes m c t i _ j).1, (sin_lanes m c t i _ j).1, lo_form]
  · rw [out15_hi, mqA_hi, prod_2 m c t 1920 512 1816 rfl (by decide) (by decide), prod_2 m c t 1920 512 1816 rfl (by decide) (by decide), (cos_lanes m c t i _ j).2, (sin_lanes m c t i _ j).2, hi_form]

/-- Where window 16's blocks lie. -/
theorem emb16 (i : Fin 256) (k : Fin 512) :
    ((win0_16.blk t).view.emb (ix2 i k : S256x512.Idx) : S16384x512.Idx) = ix2 (row t i) k := by
  unfold row
  blk_ext [idx_facts t]

/-- The block's keys. -/
theorem mk_blk (i : Fin 256) (k : Fin 512) :
    out0_16 (iblk m c 0 t) (iblk m c 1 t) (iblk m c 2 t) (iblk m c 3 t) (iblk m c 4 t) (iblk m c 5 t) (ix2 i k) = mkA (args m c) (ix2 (row t i) k) := by
  obtain ⟨h, j, rfl | rfl⟩ := halves8 k
  · rw [out16_lo, mkA_lo, prod_2 m c t 2432 512 2328 rfl (by decide) (by decide), prod_2 m c t 2432 512 2328 rfl (by decide) (by decide), (cos_lanes m c t i _ j).1, (sin_lanes m c t i _ j).1, lo_form]
  · rw [out16_hi, mkA_hi, prod_2 m c t 2432 512 2328 rfl (by decide) (by decide), prod_2 m c t 2432 512 2328 rfl (by decide) (by decide), (cos_lanes m c t i _ j).2, (sin_lanes m c t i _ j).2, hi_form]

/-- The block keys are the reference's. -/
theorem res16 : (dats m 0 c).arrAt 16 cfg0.N = mkA (args m c) := by
  refine (dats m 0 c).arrAt_eq_of_covers 16 _ (by decide +kernel) fun t hf y => ?_
  blk_simp
  rw [after0_16]
  obtain ⟨i, k, rfl⟩ : ∃ (i : Fin 256) (k : Fin 512), y = (ix2 i k : S256x512.Idx) := ⟨y 0, y 1, eq_ix2 y⟩
  refine Eq.trans ?_ (congrArg (mkA (args m c)) (emb16 t i k)).symm
  exact mk_blk ..

/-- Where window 18's blocks lie. -/
theorem emb18 (i : Fin 256) (k : Fin 512) :
    ((win0_18.blk t).view.emb (ix2 i k : S256x512.Idx) : S16384x512.Idx) = ix2 (row t i) k := by
  unfold row
  blk_ext [idx_facts t]

/-- The block values are the reference's. -/
theorem res18 : (dats m 0 c).arrAt 18 cfg0.N = mvA (args m c) := by
  refine (dats m 0 c).arrAt_eq_of_covers 18 _ (by decide +kernel) fun t hf y => ?_
  blk_simp
  rw [after0_18]
  obtain ⟨i, k, rfl⟩ : ∃ (i : Fin 256) (k : Fin 512), y = (ix2 i k : S256x512.Idx) := ⟨y 0, y 1, eq_ix2 y⟩
  refine Eq.trans ?_ (congrArg (mvA (args m c)) (emb18 t i k)).symm
  rw [out18, mvA_at, prod_2 m c t 2944 512 2840 rfl (by decide) (by decide)]

/-- Where window 19's blocks lie. -/
theorem emb19 (i : Fin 256) (k : Fin 512) :
    ((win0_19.blk t).view.emb (ix2 i k : S256x512.Idx) : S16384x512.Idx) = ix2 (row t i) k := by
  unfold row
  blk_ext [idx_facts t]

/-- The block output gates are the reference's. -/
theorem res19 : (dats m 0 c).arrAt 19 cfg0.N = smzA (args m c) := by
  refine (dats m 0 c).arrAt_eq_of_covers 19 _ (by decide +kernel) fun t hf y => ?_
  blk_simp
  rw [after0_19]
  obtain ⟨i, k, rfl⟩ : ∃ (i : Fin 256) (k : Fin 512), y = (ix2 i k : S256x512.Idx) := ⟨y 0, y 1, eq_ix2 y⟩
  refine Eq.trans ?_ (congrArg (smzA (args m c)) (emb19 t i k)).symm
  rw [out19, smzA_at, prod_2 m c t 3456 512 3352 rfl (by decide) (by decide)]

/-- Where window 20's blocks lie. -/
theorem emb20 (i : Fin 256) (k : Fin 256) :
    ((win0_20.blk t).view.emb (ix2 i k : S256x256.Idx) : S16384x256.Idx) = ix2 (row t i) k := by
  unfold row
  blk_ext [idx_facts t]

/-- The memory queries are the reference's. -/
theorem res20 : (dats m 0 c).arrAt 20 cfg0.N = eqA (args m c) := by
  refine (dats m 0 c).arrAt_eq_of_covers 20 _ (by decide +kernel) fun t hf y => ?_
  blk_simp
  rw [after0_20]
  obtain ⟨i, k, rfl⟩ : ∃ (i : Fin 256) (k : Fin 256), y = (ix2 i k : S256x256.Idx) := ⟨y 0, y 1, eq_ix2 y⟩
  refine Eq.trans ?_ (congrArg (eqA (args m c)) (emb20 t i k)).symm
  rw [out20, eqA_at, prod_2 m c t 3968 256 3864 rfl (by decide) (by decide)]

/-- Where window 21's blocks lie. -/
theorem emb21 (i : Fin 256) (k : Fin 256) :
    ((win0_21.blk t).view.emb (ix2 i k : S256x256.Idx) : S16384x256.Idx) = ix2 (row t i) k := by
  unfold row
  blk_ext [idx_facts t]

/-- The memory gates are the reference's. -/
theorem res21 : (dats m 0 c).arrAt 21 cfg0.N = sezA (args m c) := by
  refine (dats m 0 c).arrAt_eq_of_covers 21 _ (by decide +kernel) fun t hf y => ?_
  blk_simp
  rw [after0_21]
  obtain ⟨i, k, rfl⟩ : ∃ (i : Fin 256) (k : Fin 256), y = (ix2 i k : S256x256.Idx) := ⟨y 0, y 1, eq_ix2 y⟩
  refine Eq.trans ?_ (congrArg (sezA (args m c)) (emb21 t i k)).symm
  rw [out21, sezA_at, prod_2 m c t 4224 256 4120 rfl (by decide) (by decide)]

/-- A block's place among the key means. -/
def place (t : Fin cfg0.N) : Fin 64 := ⟨t.val, lt_of_lt_of_eq t.isLt (show cfg0.N = 64 from N_0)⟩

/-- Where window 17's blocks lie. -/
theorem emb17 (k : Fin 512) :
    ((win0_17.blk t).view.emb (ix3 0 0 k : S1x1x512.Idx) : S64x1x512.Idx) = ix3 (place t) 0 k := by
  unfold place
  blk_ext [idx_facts t]

/-- The block key means are the reference's. -/
theorem res17 : (dats m 0 c).arrAt 17 cfg0.N = kmA (args m c) := by
  refine (dats m 0 c).arrAt_eq_of_covers 17 _ (by decide +kernel) fun t hf y => ?_
  blk_simp
  rw [after0_17]
  obtain ⟨a, b, k, rfl⟩ : ∃ (a b : Fin 1) (k : Fin 512), y = (ix3 a b k : S1x1x512.Idx) := ⟨y 0, y 1, y 2, eq_ix3 y⟩
  obtain rfl : a = 0 := Subsingleton.elim _ _
  obtain rfl : b = 0 := Subsingleton.elim _ _
  refine Eq.trans ?_ (congrArg (kmA (args m c)) (emb17 t k)).symm
  rw [out17, kmA_at]
  simp only [mk_blk]
  rfl

end Cert.Proof.Proj0

end

end
-- ==== Proof.Out0Ref.lean ====
module

public import proofs.«01_k».proof.Proof.Gen.Reference5Ideal.Run
public import proofs.«01_k».proof.Proof.Out1Ref

/-! # The even layer's output projection: the formula, and the reference's result

A row's NSA attention, its MoBA attention and its gated memory attention are multiplied by the weights and
added to the residual. The NSA attention arrives with the heads of its two groups interleaved. -/

@[expose] public section

open Idealize Idealize.ShloMosaic Idealize.ShloMosaic.TcCoe Idealize.SL.Sem
open Cert.Reference5Ideal Cert.Reference5Ideal.Gen

set_option maxRecDepth 16384

noncomputable section

namespace Cert.Proof.Out0

/-- The arrays the call is given. -/
structure Args where
  ag : FVec Ideal S16384x512 .bf16
  bg : FVec Ideal S16384x512 .bf16
  e : FVec Ideal S16384x256 .bf16
  z : FVec Ideal S16384x256 .bf16
  kv : FVec Ideal S256x512 .bf16
  w : FVec Ideal S1280x1024 .f32
  x : FVec Ideal S16384x1024 .f32

variable (A : Args)

/-- The arrays of the memory attention, among those the odd layer's output takes; its others play no part in it. -/
def mem1 : Out1.Args := ⟨fun _ => 0, A.e, A.z, A.kv, fun _ => 0, fun _ => 0, fun _ => 0⟩

/-- The NSA attention in the heads' own order. -/
def nsaA : FVec Ideal S16384x512 .f32 :=
  shapeCast _ (transpose S16384x2x4x64 [0, 2, 1, 3] (shapeCast _ (extf .f32 A.ag bitsLt_bf16_f32) shapeCasts_S16384x512_S16384x4x2x64)
    transposes_S16384x4x2x64_S16384x2x4x64_0_2_1_3) shapeCasts_S16384x2x4x64_S16384x512

/-- The three attentions side by side. -/
def catA : FVec Ideal S16384x1280 .f32 :=
  concatenate S16384x1280 1 [⟨S16384x512, nsaA A⟩, ⟨S16384x512, (extf .f32 A.bg bitsLt_bf16_f32)⟩, ⟨S16384x256, Out1.memA (mem1 A)⟩]
    concatenates_S16384x512_S16384x512_S16384x256_S16384x1280_d1

/-- The reference's result. -/
def outA : FVec Ideal S16384x1024 .f32 :=
  addf A.x (Host.dotGeneral dot_S16384x1280_S1280x1024_S16384x1024_1_0_0_1_n_n none (catA A) A.w)

/-- Row `k` of the NSA attention's weights. -/
def wa (k : Fin 512) : Fin 1280 := ⟨k.val, by omega⟩
/-- Row `k` of the MoBA attention's weights. -/
def wb (k : Fin 512) : Fin 1280 := ⟨512 + k.val, by omega⟩
/-- Row `k` of the memory attention's weights. -/
def wm (k : Fin 256) : Fin 1280 := ⟨1024 + k.val, by omega⟩

/-- Where a column of the interleaved NSA attention comes from: the even heads are group 0's, the odd ones group 1's. -/
def mate (k : Fin 512) : Fin 512 := ⟨(k.val / 64 % 2) * 256 + k.val / 128 * 64 + k.val % 64, by omega⟩
/-- Where a column of the NSA attention goes to when the groups are interleaved. -/
def unmate (k : Fin 512) : Fin 512 := ⟨(k.val / 64 % 4) * 128 + k.val / 256 * 64 + k.val % 64, by omega⟩

/-- The two are inverse to each other. -/
def mates : Fin 512 ≃ Fin 512 where
  toFun := mate
  invFun := unmate
  left_inv := by decide +kernel
  right_inv := by decide +kernel

/-- The NSA attention at an index. -/
theorem nsaA_at (r : Fin 16384) (k : Fin 512) : nsaA A (ix2 r k) = A.ag (ix2 r (unmate k)) := by
  pointwise [nsaA, unmate]

/-- The result at an index. -/
def out (r : Fin 16384) (k : Fin 1024) : EReal :=
  A.x (ix2 r k) + (∑ n : Fin 512, A.ag (ix2 r n) * A.w (ix2 (wa (mate n)) k) + ∑ n : Fin 512, A.bg (ix2 r n) * A.w (ix2 (wb n) k)
    + ∑ n : Fin 256, Out1.memA (mem1 A) (ix2 r n) * A.w (ix2 (wm n) k))

/-- The sum over the NSA attention's columns in their own order, taken in the interleaved order. -/
theorem sum_mates (r : Fin 16384) (k : Fin 1024) :
    ∑ n : Fin 512, A.ag (ix2 r n) * A.w (ix2 (wa (mate n)) k) = ∑ n : Fin 512, nsaA A (ix2 r n) * A.w (ix2 (wa n) k) := by
  refine Eq.trans ?_ (Equiv.sum_comp mates fun n => nsaA A (ix2 r n) * A.w (ix2 (wa n) k))
  refine Finset.sum_congr rfl fun n _ => ?_
  rw [nsaA_at]
  have e : unmate (mates n) = n := mates.left_inv n
  rw [e]
  rfl

/-- A sum over the rows of the weights, piece by piece. -/
theorem sum_rows (f : Fin 1280 → EReal) :
    ∑ j, f j = ∑ n : Fin 512, f (wa n) + ∑ n : Fin 512, f (wb n) + ∑ n : Fin 256, f (wm n) := by
  rw [Fin.sum_univ_add (a := 1024) (b := 256) f, Fin.sum_univ_add (a := 512) (b := 512)]
  rfl

/-- The first piece of the attentions. -/
theorem catA_a (r : Fin 16384) (n : Fin 512) : catA A (ix2 r (wa n)) = nsaA A (ix2 r n) := by
  pointwise [catA, wa]

/-- The second piece of the attentions. -/
theorem catA_b (r : Fin 16384) (n : Fin 512) : catA A (ix2 r (wb n)) = A.bg (ix2 r n) := by
  pointwise [catA, wb]

/-- The third piece of the attentions. -/
theorem catA_m (r : Fin 16384) (n : Fin 256) : catA A (ix2 r (wm n)) = Out1.memA (mem1 A) (ix2 r n) := by
  pointwise [catA, wm]
  rw [dif_neg (by omega), dif_neg (by omega)]
  exact congrArg _ (congrArg (ix2 r) (Fin.ext (by simp only []; omega)))

/-- The reference's result at an index. -/
theorem outA_at (r : Fin 16384) (k : Fin 1024) : outA A (ix2 r k) = out A r k := by
  have e : outA A (ix2 r k) = A.x (ix2 r k) + ∑ j : Fin 1280, catA A (ix2 r j) * A.w (ix2 j k) := by
    pointwise [outA]
  unfold out
  rw [e, sum_rows, sum_mates]
  simp only [catA_a, catA_b, catA_m]

/-- The arguments the reference's memory holds. -/
def refArgs (m : (ℓ : Loc nD τ sig) → Buf (Elt Ideal) ℓ) (c : Dev nD) : Args where
  ag := m ((c.tc : Thread nD τ).loc main_arg0)
  bg := m ((c.tc : Thread nD τ).loc main_arg1)
  e := m ((c.tc : Thread nD τ).loc main_arg2)
  z := m ((c.tc : Thread nD τ).loc main_arg3)
  kv := m ((c.tc : Thread nD τ).loc main_arg4)
  w := m ((c.tc : Thread nD τ).loc main_arg5)
  x := m ((c.tc : Thread nD τ).loc main_arg6)

/-- The reference's run, its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = outA (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Cert.Proof.Out0

end

end
-- ==== Proof.Out0Kernel.lean ====
module

public import proofs.«01_k».proof.Proof.Out1Kernel
public import proofs.«01_k».proof.Proof.Out0Ref
public import proofs.«01_k».proof.Proof.Gen.Kernel5Ideal.Value
public import Idealize.ShloMosaic.Lib.Pointwise
public import Idealize.ShloMosaic.Lib.Pipeline.ValueKit
public import Idealize.ShloMosaic.Lib.Pipeline.ReadBack
public import Idealize.ShloMosaic.Lib.Routing.Ops

/-! # The even layer's output: the kernel's result is the reference's

The memory attention of a block is the odd layer's; the weights of the NSA attention are gathered by rows. -/

@[expose] public section

open Idealize Idealize.ShloMosaic
open Cert.Kernel5Ideal Cert.Kernel5Ideal.Gen

set_option maxRecDepth 16384

noncomputable section

namespace Cert.Proof.Out0

/-- The block's rows: the three products, and the residual. -/
def bY (ag bg : FVec Ideal S256x512 .bf16) (mm : FVec Ideal S256x256 .f32) (wa wb : FVec Ideal S512x1024 .bf16)
    (wm : FVec Ideal S256x1024 .bf16) (x : FVec Ideal S256x1024 .f32) : FVec Ideal S256x1024 .f32 :=
  addf x (addf (addf (matmul dot_S256x512_S512x1024_S256x1024_1_0_0_1_n_n none ag
      (shapeCast S512x1024 wa shapeCasts_S512x1024_S512x1024) (constant S256x1024 .f32 0x00000000#32))
    (matmul dot_S256x512_S512x1024_S256x1024_1_0_0_1_n_n none bg
      (shapeCast S512x1024 wb shapeCasts_S512x1024_S512x1024) (constant S256x1024 .f32 0x00000000#32)))
    (matmul dot_S256x256_S256x1024_S256x1024_1_0_0_1_n_n none (truncf .bf16 mm bitsLt_bf16_f32)
      (shapeCast S256x1024 wm shapeCasts_S256x1024_S256x1024) (constant S256x1024 .f32 0x00000000#32)))

/-- The rows at an index. -/
theorem bY_at (ag bg : FVec Ideal S256x512 .bf16) (mm : FVec Ideal S256x256 .f32) (wa wb : FVec Ideal S512x1024 .bf16)
    (wm : FVec Ideal S256x1024 .bf16) (x : FVec Ideal S256x1024 .f32) (i : Fin 256) (k : Fin 1024) :
    bY ag bg mm wa wb wm x (ix2 i k) = x (ix2 i k) + (∑ n : Fin 512, ag (ix2 i n) * wa (ix2 n k) + ∑ n : Fin 512, bg (ix2 i n) * wb (ix2 n k)
      + ∑ n : Fin 256, mm (ix2 i n) * wm (ix2 n k)) := by
  pointwise [bY]

variable (X0 X1 : Vec Ideal S256x512 .bf16) (X2 X3 : Vec Ideal S256x256 .bf16) (X4 : Vec Ideal S256x512 .bf16)
  (X5 X6 : Vec Ideal S512x1024 .bf16) (X7 : Vec Ideal S256x1024 .bf16) (X8 : Vec Ideal S256x1024 .f32)

/-- The text of a grid point's rows is `bY` of the odd layer's memory attention. -/
theorem pay_eq : k0_pay1 (k0_pay7 (iota .tc S256x128 32 [1] iota_S256x128_d1_w32) X4 X3 (k0_pay2 X2 X4 X3) (k0_pay3 X2) k0_pay4
    (k0_pay5 X2) k0_pay6 X0 X5 X1 X6 X7) X8 = bY X0 X1 (Out1.bM X2 X3 X4) X5 X6 X7 X8 := rfl

/-- A block of the result at an index. -/
theorem out9 (i : Fin 256) (k : Fin 1024) : out0_9 X0 X1 X2 X3 X4 X5 X6 X7 X8 (ix2 i k)
    = bY X0 X1 (Out1.bM X2 X3 X4) X5 X6 X7 X8 (ix2 i k) := by
  rw [← pay_eq]
  unfold out0_9
  canon_tiles x hx
  all_goals
    idx_vars x
    obtain rfl : i = x0 := Fin.ext hx0
    obtain rfl : k = x1 := Fin.ext hx1
    have l0 : View.ld X0 r0_1 = X0 := View.ld_unit_lit _ _ (by decide)
    have l1 : View.ld X1 r0_1 = X1 := View.ld_unit_lit _ _ (by decide)
    have l2 : View.ld X2 r0_0 = X2 := View.ld_unit_lit _ _ (by decide)
    have l3 : View.ld X3 r0_0 = X3 := View.ld_unit_lit _ _ (by decide)
    have l4 : View.ld X4 r0_1 = X4 := View.ld_unit_lit _ _ (by decide)
    have l5 : View.ld X5 r0_2 = X5 := View.ld_unit_lit _ _ (by decide)
    have l6 : View.ld X6 r0_2 = X6 := View.ld_unit_lit _ _ (by decide)
    have l7 : View.ld X7 r0_3 = X7 := View.ld_unit_lit _ _ (by decide)
    have l8 : View.ld X8 r0_3 = X8 := View.ld_unit_lit _ _ (by decide)
    rw [l0, l1, l2, l3, l4, l5, l6, l7, l8]

variable (m : (ℓ : Loc nD τ sig) → Buf (Elt Ideal) ℓ) (c : Dev nD)

/-- The arguments a core holds. -/
def args : Args where
  ag := m (c.tc.loc main_arg0)
  bg := m (c.tc.loc main_arg1)
  e := m (c.tc.loc main_arg2)
  z := m (c.tc.loc main_arg3)
  kv := m (c.tc.loc main_arg4)
  w := m (c.tc.loc main_arg5)
  x := m (c.tc.loc main_arg6)

/-- Row `i` of block `t`. -/
def row (t : Fin cfg0.N) (i : Fin 256) : Fin 16384 :=
  ⟨t.val * 256 + i.val, by have := lt_of_lt_of_eq t.isLt (show cfg0.N = 64 from N_0); omega⟩

/-- The host's table holds the heads' rows in the interleaved order. -/
theorem lit0_at : ∀ n : Fin 512, lit0 n = BitVec.ofNat 32 (mate n).val := by decide +kernel

/-- The host's table of rows. -/
def tab : IVec S512x1 32 :=
  broadcastInDim S512x1 ![0] bcast_S512_S512x1_0 (select (constantI S512 1 0#1) (addi (fun i => lit0 (S512.rowMajor i))
    (broadcastInDim S512 ![] bcast_S_S512 (constantI S_ 32 512#32))) (fun i => lit0 (S512.rowMajor i)))

/-- The table of rows at an index. -/
theorem tab_at (n : Fin 512) : tab (ix2 n 0) = BitVec.ofNat 32 (mate n).val := by
  rw [← lit0_at]
  pointwise [tab]
  exact congrArg lit0 (Fin.ext (by rw [Shape.rowMajor_val_one]; rfl))

/-- The host's weights of the NSA attention at an index. -/
theorem V_wa (n : Fin 512) (k : Fin 1024) :
    (V m c main_v6 : Vec Ideal S512x1024 .bf16) (ix2 n k) = (args m c).w (ix2 (wa (mate n)) k) := by
  have e : V m c main_v6 = (truncf .bf16 (Host.gather gather_S512x1024_S512x1_S512x1024_1_0_n_n_0_1_11024
      (extractStridedSlice S512x1024 ![0, 0] (args m c).w slices_S1280x1024_S512x1024_0_0) tab) bitsLt_bf16_f32 : FVec Ideal S512x1024 .bf16) := by
    entry_read
    rfl
  have e2 := Routing.gather_row gather_S512x1024_S512x1_S512x1024_1_0_n_n_0_1_11024 rfl rfl rfl rfl rfl
    (extractStridedSlice S512x1024 ![0, 0] (args m c).w slices_S1280x1024_S512x1024_0_0) tab n k (mate n) (tab_at n) (by decide)
  rw [e]
  refine Eq.trans e2 ?_
  pointwise [wa]

/-- The host's weights of the MoBA attention at an index. -/
theorem V_wb (n : Fin 512) (k : Fin 1024) :
    (V m c main_v8 : Vec Ideal S512x1024 .bf16) (ix2 n k) = (args m c).w (ix2 (wb n) k) := by
  have e : V m c main_v8 = (truncf .bf16 (extractStridedSlice S512x1024 ![512, 0] (args m c).w slices_S1280x1024_S512x1024_512_0)
      bitsLt_bf16_f32 : FVec Ideal S512x1024 .bf16) := by
    entry_read
    rfl
  rw [e]; pointwise [wb]

/-- The host's weights of the memory attention at an index. -/
theorem V_wm (n : Fin 256) (k : Fin 1024) :
    (V m c main_v10 : Vec Ideal S256x1024 .bf16) (ix2 n k) = (args m c).w (ix2 (wm n) k) := by
  have e : V m c main_v10 = (truncf .bf16 (extractStridedSlice S256x1024 ![1024, 0] (args m c).w slices_S1280x1024_S256x1024_1024_0)
      bitsLt_bf16_f32 : FVec Ideal S256x1024 .bf16) := by
    entry_read
    rfl
  rw [e]; pointwise [wm]

/-- Where each block lies. -/
theorem idx_facts : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![t.val, 0] ∧ win0_9.index t = ![t.val, 0] :=
  (by decide +kernel : ∀ t : Fin grid0.N, _)

variable (t : Fin cfg0.N)

/-- Input block 0 at an index. -/
theorem blk0 (i : Fin 256) (k : Fin 512) :
    (iblk m c 0 t : Vec Ideal S256x512 .bf16) (ix2 i k) = (args m c).ag (ix2 (row t i) k) := by
  unfold args row
  blk_ext [iblk, Gen.V, idx_facts t]

/-- Input block 1 at an index. -/
theorem blk1 (i : Fin 256) (k : Fin 512) :
    (iblk m c 1 t : Vec Ideal S256x512 .bf16) (ix2 i k) = (args m c).bg (ix2 (row t i) k) := by
  unfold args row
  blk_ext [iblk, Gen.V, idx_facts t]

/-- Input block 2 at an index. -/
theorem blk2 (i : Fin 256) (k : Fin 256) :
    (iblk m c 2 t : Vec Ideal S256x256 .bf16) (ix2 i k) = (args m c).e (ix2 (row t i) k) := by
  unfold args row
  blk_ext [iblk, Gen.V, idx_facts t]

/-- Input block 3 at an index. -/
theorem blk3 (i : Fin 256) (k : Fin 256) :
    (iblk m c 3 t : Vec Ideal S256x256 .bf16) (ix2 i k) = (args m c).z (ix2 (row t i) k) := by
  unfold args row
  blk_ext [iblk, Gen.V, idx_facts t]

/-- Input block 4 at an index. -/
theorem blk4 (i : Fin 256) (k : Fin 512) :
    (iblk m c 4 t : Vec Ideal S256x512 .bf16) (ix2 i k) = (args m c).kv (ix2 i k) := by
  unfold args
  blk_ext [iblk, Gen.V, idx_facts t]

/-- Input block 5 at an index. -/
theorem blk5 (n : Fin 512) (k : Fin 1024) :
    (iblk m c 5 t : Vec Ideal S512x1024 .bf16) (ix2 n k) = (args m c).w (ix2 (wa (mate n)) k) := by
  have e : (iblk m c 5 t : Vec Ideal S512x1024 .bf16) (ix2 n k) = (Gen.V m c main_v6 : Vec Ideal S512x1024 .bf16) (ix2 n k) := by
    blk_ext [iblk, idx_facts t]
  rw [e]; exact V_wa ..

/-- Input block 6 at an index. -/
theorem blk6 (n : Fin 512) (k : Fin 1024) :
    (iblk m c 6 t : Vec Ideal S512x1024 .bf16) (ix2 n k) = (args m c).w (ix2 (wb n) k) := by
  have e : (iblk m c 6 t : Vec Ideal S512x1024 .bf16) (ix2 n k) = (Gen.V m c main_v8 : Vec Ideal S512x1024 .bf16) (ix2 n k) := by
    blk_ext [iblk, idx_facts t]
  rw [e]; exact V_wb ..

/-- Input block 7 at an index. -/
theorem blk7 (n : Fin 256) (k : Fin 1024) :
    (iblk m c 7 t : Vec Ideal S256x1024 .bf16) (ix2 n k) = (args m c).w (ix2 (wm n) k) := by
  have e : (iblk m c 7 t : Vec Ideal S256x1024 .bf16) (ix2 n k) = (Gen.V m c main_v10 : Vec Ideal S256x1024 .bf16) (ix2 n k) := by
    blk_ext [iblk, idx_facts t]
  rw [e]; exact V_wm ..

/-- Input block 8 at an index. -/
theorem blk8 (i : Fin 256) (k : Fin 1024) :
    (iblk m c 8 t : Vec Ideal S256x1024 .f32) (ix2 i k) = (args m c).x (ix2 (row t i) k) := by
  unfold args row
  blk_ext [iblk, Gen.V, idx_facts t]

/-- Where the result's blocks lie. -/
theorem emb9 (i : Fin 256) (k : Fin 1024) :
    ((win0_9.blk t).view.emb (ix2 i k : S256x1024.Idx) : S16384x1024.Idx) = ix2 (row t i) k := by
  unfold row
  blk_ext [idx_facts t]

variable (hq : ∀ r k, Mem.IsReal ((args m c).e (ix2 r k))) (hk : ∀ n k, Mem.IsReal ((args m c).kv (ix2 n (Out1.kcol k))))
include hq hk

/-- The block's memory attention is the reference's. -/
theorem mem_blk (i : Fin 256) (k : Fin 256) :
    Out1.bM (iblk m c 2 t) (iblk m c 3 t) (iblk m c 4 t) (ix2 i k) = Out1.memA (mem1 (args m c)) (ix2 (row t i) k) :=
  Out1.bM_eq (mem1 (args m c)) hq hk _ _ _ i (row t i) (blk2 m c t i) (blk3 m c t i) (blk4 m c t) k

/-- The result is the reference's. -/
theorem res9 : (dats m 0 c).arrAt 9 cfg0.N = outA (args m c) := by
  refine (dats m 0 c).arrAt_eq_of_covers 9 _ (by decide +kernel) fun t hf y => ?_
  blk_simp
  rw [after0_9]
  obtain ⟨i, k, rfl⟩ : ∃ (i : Fin 256) (k : Fin 1024), y = (ix2 i k : S256x1024.Idx) := ⟨y 0, y 1, eq_ix2 y⟩
  refine Eq.trans ?_ (congrArg (outA (args m c)) (emb9 t i k)).symm
  rw [out9, outA_at]
  simp only [bY_at, mem_blk m c t hq hk, blk0, blk1, blk5, blk6, blk7, blk8]
  rfl

end Cert.Proof.Out0

end

end
-- ==== Proof.Out0Pre.lean ====
module

public import proofs.«01_k».proof.Pre_finite_scores0
public import proofs.«01_k».proof.Proof.Out1Pre

/-! # The even layer's output: what the precondition says

The memory queries and the memory keys are real numbers. -/

@[expose] public section

open Idealize Idealize.ShloMosaic

set_option maxRecDepth 16384

noncomputable section

namespace Cert.Proof.Out0

open Cert.Pre_finite_scores0 in
/-- Under the precondition the memory queries and the memory keys are real numbers. -/
theorem pre_real [Cert.Pre_finite_scores0.Facts] (a0 a1 : FVec Ideal S16384x512 .bf16) (a2 a3 : FVec Ideal S16384x256 .bf16)
    (a4 : FVec Ideal S256x512 .bf16) (a5 : FVec Ideal S1280x1024 .f32) (a6 : FVec Ideal S16384x1024 .f32)
    (h : Cert.Pre_finite_scores0.fn (F := Ideal) a0 a1 a2 a3 a4 a5 a6 = fun _ => 1#1) :
    (∀ r k, Mem.IsReal (a2 (ix2 r k))) ∧ ∀ n k, Mem.IsReal (a4 (ix2 n (Out1.kcol k))) := by
  have h0 := congrFun h ix0
  obtain ⟨h1, h2⟩ := IntOp.andi_eq_one.1 h0
  haveI : Subsingleton S_.Idx := ⟨fun a b => funext fun d => d.elim0⟩
  refine ⟨fun r k => Out1.real_of_lt _ (Host.reduce_andi_all _ _ _ _ _ h1 (ix2 r k)), fun n k => Out1.real_of_lt _ ?_⟩
  have e := Host.reduce_andi_all _ _ _ _ _ h2 (ix2 n k)
  have e2 : extractStridedSlice S256x256 ![0, 0] a4 Facts.slices_S256x512_S256x256_0_0 (ix2 n k) = a4 (ix2 n (Out1.kcol k)) := by
    pointwise [Out1.kcol]
  rw [← e2]
  exact e

end Cert.Proof.Out0

end

end
-- ==== Proof.MemKv.lean ====
module

public import proofs.«01_k».proof.Proof.Gen.Reference6Ideal.Run
public import proofs.«01_k».proof.Proof.Gen.Kernel6Ideal.Value
public import Idealize.ShloMosaic.Lib.Pointwise
public import Idealize.ShloMosaic.Lib.Pipeline.ValueKit
public import Idealize.ShloMosaic.Lib.Pipeline.ReadBack

/-! # The memory's keys and values

The memory's rows after their norm, times the weights of each layer; `kv` is the formula both sides equal. -/

@[expose] public section

open Idealize Idealize.ShloMosaic Idealize.SL.Sem

set_option maxRecDepth 16384

noncomputable section

namespace Cert.Proof.MemKv

open Cert.Reference6Ideal in
/-- The arrays the call is given. -/
structure Args where
  x : FVec Ideal S1x256x1024 .f32
  g : FVec Ideal S1024 .f32
  w0 : FVec Ideal S1024x512 .f32
  w1 : FVec Ideal S1024x512 .f32

section Ref

open Cert.Reference6Ideal Cert.Reference6Ideal.Gen Idealize.ShloMosaic.TcCoe

variable (A : Args) (w : FVec Ideal S1024x512 .f32)

/-- Entry `n` of row `r` of the product with the weights `w`. -/
def kv (r : Fin 256) (n : Fin 512) : EReal :=
  ∑ k : Fin 1024, A.x (ix3 0 r k) * Ideal.rsqrt (Ideal.div (∑ j : Fin 1024, A.x (ix3 0 r j) * A.x (ix3 0 r j)) (Ideal.ofBits .f32 0x44800000#32)
    + Ideal.ofBits .f32 0x358637BD#32) * A.g (ix1 k) * w (ix2 k n)

/-- The reference's product with the weights `w`. -/
def kvA : FVec Ideal S256x512 .bf16 :=
  truncf .bf16 (shapeCast _ (Host.dotGeneral dot_S1x256x1024_S1024x512_S1x256x512_2_0_01_1_n_n none (mulf (mulf A.x
    (broadcastInDim S1x256x1024 ![0, 1, 2] bcast_S1x256x1_S1x256x1024_0_1_2 (Host.rsqrt (addf (Host.divf (broadcastInDim S1x256x1 ![0, 1]
    bcast_S1x256_S1x256x1_0_1 (Host.reduceAdd (mulf A.x A.x) (constant S_ .f32 0x00000000#32) reducesTo_S1x256x1024_S1x256_d2 h_S_))
    (broadcastInDim S1x256x1 ![] bcast_S_S1x256x1 (constant S_ .f32 0x44800000#32))) (broadcastInDim S1x256x1 ![] bcast_S_S1x256x1
    (constant S_ .f32 0x358637BD#32)))))) (broadcastInDim S1x256x1024 ![0, 1, 2] bcast_S1x1x1024_S1x256x1024_0_1_2
    (broadcastInDim S1x1x1024 ![2] bcast_S1024_S1x1x1024_2 A.g))) w) shapeCasts_S1x256x512_S256x512) bitsLt_bf16_f32

/-- The reference's product at an index. -/
theorem kvA_at (r : Fin 256) (n : Fin 512) : kvA A w (ix2 r n) = kv A w r n := by
  pointwise [kvA, kv]

/-- The arguments the reference's memory holds. -/
def refArgs (m : (ℓ : Loc nD τ sig) → Buf (Elt Ideal) ℓ) (c : Dev nD) : Args where
  x := m ((c.tc : Thread nD τ).loc main_arg0)
  g := m ((c.tc : Thread nD τ).loc main_arg1)
  w0 := m ((c.tc : Thread nD τ).loc main_arg2)
  w1 := m ((c.tc : Thread nD τ).loc main_arg3)

/-- The reference's run, its results named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = kvA (refArgs m c) (refArgs m c).w0
      ∧ r.2.mem ((c.tc : Thread nD τ).loc main_v18) = kvA (refArgs m c) (refArgs m c).w1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Ref

open Cert.Kernel6Ideal Cert.Kernel6Ideal.Gen

section Block

variable (X : Vec Ideal S256x1024 .f32) (G : Vec Ideal S1x1024 .f32) (W0 W1 : Vec Ideal S1024x512 .bf16)

/-- Entry `n` of row `i` of a block's product with the weights `W`. -/
def bkv (W : Vec Ideal S1024x512 .bf16) (i : Fin 256) (n : Fin 512) : EReal :=
  ∑ k : Fin 1024, X (ix2 i k) * Ideal.rsqrt (Ideal.div (∑ j : Fin 1024, X (ix2 i j) * X (ix2 i j)) (Ideal.ofBits .f32 0x44800000#32)
    + Ideal.ofBits .f32 0x358637BD#32) * G (ix2 0 k) * W (ix2 k n)

/-- The first result's block at an index. -/
theorem out4 (i : Fin 256) (n : Fin 512) : out0_4 X G W0 W1 (ix2 i n) = bkv X G W0 i n := by
  have l0 : View.ld X r0_0 = X := View.ld_unit_lit _ _ (by decide)
  have l1 : View.ld G r0_1 = G := View.ld_unit_lit _ _ (by decide)
  have l2 : View.ld W0 r0_2 = W0 := View.ld_unit_lit _ _ (by decide)
  unfold out0_4
  rw [l0, l1, l2]
  canon_tiles x hx
  all_goals
    idx_vars x
    obtain rfl : i = x0 := Fin.ext hx0
    obtain rfl : n = x1 := Fin.ext hx1
    pointwise [k0_pay2, k0_pay1, bkv]

/-- The second result's block at an index. -/
theorem out5 (i : Fin 256) (n : Fin 512) : out0_5 X G W0 W1 (ix2 i n) = bkv X G W1 i n := by
  have l0 : View.ld X r0_0 = X := View.ld_unit_lit _ _ (by decide)
  have l1 : View.ld G r0_1 = G := View.ld_unit_lit _ _ (by decide)
  have l2 : View.ld W1 r0_2 = W1 := View.ld_unit_lit _ _ (by decide)
  unfold out0_5
  rw [l0, l1, l2]
  canon_tiles x hx
  all_goals
    idx_vars x
    obtain rfl : i = x0 := Fin.ext hx0
    obtain rfl : n = x1 := Fin.ext hx1
    pointwise [k0_pay3, k0_pay1, bkv]

end Block

variable (m : (ℓ : Loc nD τ sig) → Buf (Elt Ideal) ℓ) (c : Dev nD)

/-- The arguments a core holds. -/
def args : Args where
  x := m (c.tc.loc main_arg0)
  g := m (c.tc.loc main_arg1)
  w0 := m (c.tc.loc main_arg2)
  w1 := m (c.tc.loc main_arg3)

/-- The host's memory rows at an index. -/
theorem V_x (i : Fin 256) (k : Fin 1024) : (V m c main_v0 : Vec Ideal S256x1024 .f32) (ix2 i k) = (args m c).x (ix3 0 i k) := by
  have e : V m c main_v0 = shapeCast S256x1024 (args m c).x shapeCasts_S1x256x1024_S256x1024 := by
    entry_read
    rfl
  rw [e]; pointwise

/-- The host's gain row at an index. -/
theorem V_gain (k : Fin 1024) : (V m c main_v1 : Vec Ideal S1x1024 .f32) (ix2 0 k) = (args m c).g (ix1 k) := by
  have e : V m c main_v1 = broadcastInDim S1x1024 ![1] bcast_S1024_S1x1024_1 (args m c).g := by
    entry_read
    rfl
  rw [e]; pointwise

/-- The host's first weights at an index. -/
theorem V_w0 (k : Fin 1024) (n : Fin 512) : (V m c main_v2 : Vec Ideal S1024x512 .bf16) (ix2 k n) = (args m c).w0 (ix2 k n) := by
  have e : V m c main_v2 = (truncf .bf16 (args m c).w0 bitsLt_bf16_f32 : FVec Ideal S1024x512 .bf16) := by
    entry_read
    rfl
  rw [e]; pointwise

/-- The host's second weights at an index. -/
theorem V_w1 (k : Fin 1024) (n : Fin 512) : (V m c main_v3 : Vec Ideal S1024x512 .bf16) (ix2 k n) = (args m c).w1 (ix2 k n) := by
  have e : V m c main_v3 = (truncf .bf16 (args m c).w1 bitsLt_bf16_f32 : FVec Ideal S1024x512 .bf16) := by
    entry_read
    rfl
  rw [e]; pointwise

/-- Where each block lies. -/
theorem idx_facts : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0] :=
  (by decide +kernel : ∀ t : Fin grid0.N, _)

variable (t : Fin cfg0.N)

/-- Input block 0 at an index. -/
theorem blk0 (i : Fin 256) (k : Fin 1024) : (iblk m c 0 t : Vec Ideal S256x1024 .f32) (ix2 i k) = (args m c).x (ix3 0 i k) := by
  have e : (iblk m c 0 t : Vec Ideal S256x1024 .f32) (ix2 i k) = (Gen.V m c main_v0 : Vec Ideal S256x1024 .f32) (ix2 i k) := by
    blk_ext [iblk, idx_facts t]
  rw [e]; exact V_x ..

/-- Input block 1 at an index. -/
theorem blk1 (k : Fin 1024) : (iblk m c 1 t : Vec Ideal S1x1024 .f32) (ix2 0 k) = (args m c).g (ix1 k) := by
  have e : (iblk m c 1 t : Vec Ideal S1x1024 .f32) (ix2 0 k) = (Gen.V m c main_v1 : Vec Ideal S1x1024 .f32) (ix2 0 k) := by
    blk_ext [iblk, idx_facts t]
  rw [e]; exact V_gain ..

/-- Input block 2 at an index. -/
theorem blk2 (k : Fin 1024) (n : Fin 512) : (iblk m c 2 t : Vec Ideal S1024x512 .bf16) (ix2 k n) = (args m c).w0 (ix2 k n) := by
  have e : (iblk m c 2 t : Vec Ideal S1024x512 .bf16) (ix2 k n) = (Gen.V m c main_v2 : Vec Ideal S1024x512 .bf16) (ix2 k n) := by
    blk_ext [iblk, idx_facts t]
  rw [e]; exact V_w0 ..

/-- Input block 3 at an index. -/
theorem blk3 (k : Fin 1024) (n : Fin 512) : (iblk m c 3 t : Vec Ideal S1024x512 .bf16) (ix2 k n) = (args m c).w1 (ix2 k n) := by
  have e : (iblk m c 3 t : Vec Ideal S1024x512 .bf16) (ix2 k n) = (Gen.V m c main_v3 : Vec Ideal S1024x512 .bf16) (ix2 k n) := by
    blk_ext [iblk, idx_facts t]
  rw [e]; exact V_w1 ..

/-- Where the first result's block lies. -/
theorem emb4 (i : Fin 256) (n : Fin 512) : ((win0_4.blk t).view.emb (ix2 i n : S256x512.Idx) : S256x512.Idx) = ix2 i n := by
  blk_ext [idx_facts t]

/-- Where the second result's block lies. -/
theorem emb5 (i : Fin 256) (n : Fin 512) : ((win0_5.blk t).view.emb (ix2 i n : S256x512.Idx) : S256x512.Idx) = ix2 i n := by
  blk_ext [idx_facts t]

/-- Layer 0's keys and values are the reference's. -/
theorem res4 : (dats m 0 c).arrAt 4 cfg0.N = kvA (args m c) (args m c).w0 := by
  refine (dats m 0 c).arrAt_eq_of_covers 4 _ (by decide +kernel) fun t hf y => ?_
  blk_simp
  rw [after0_4]
  obtain ⟨i, n, rfl⟩ : ∃ (i : Fin 256) (n : Fin 512), y = (ix2 i n : S256x512.Idx) := ⟨y 0, y 1, eq_ix2 y⟩
  refine Eq.trans ?_ (congrArg (kvA (args m c) (args m c).w0) (emb4 t i n)).symm
  rw [out4, kvA_at]
  unfold bkv kv
  simp only [blk0, blk1, blk2]

/-- Layer 1's keys and values are the reference's. -/
theorem res5 : (dats m 0 c).arrAt 5 cfg0.N = kvA (args m c) (args m c).w1 := by
  refine (dats m 0 c).arrAt_eq_of_covers 5 _ (by decide +kernel) fun t hf y => ?_
  blk_simp
  rw [after0_5]
  obtain ⟨i, n, rfl⟩ : ∃ (i : Fin 256) (n : Fin 512), y = (ix2 i n : S256x512.Idx) := ⟨y 0, y 1, eq_ix2 y⟩
  refine Eq.trans ?_ (congrArg (kvA (args m c) (args m c).w1) (emb5 t i n)).symm
  rw [out5, kvA_at]
  unfold bkv kv
  simp only [blk0, blk1, blk3]

end Cert.Proof.MemKv

end

end
-- ==== Proof.WinMath.lean ====
module

public import proofs.«01_k».proof.Proof.MemMath
public import Idealize.ShloMosaic.Lib.WordCmp

/-! # Masked softmax attention over the extended reals

Scores outside a mask are replaced by a large negative number and weigh nothing. `att_eq` says that the
attention over all keys is the attention over a window of them that holds every key of the mask and one
more, with the division moved out of the sum. Nothing is asked of the scores, the values or the gate. -/

@[expose] public section

open Idealize Idealize.ShloMosaic

noncomputable section

namespace Cert.Proof.Win

open Mem (IsReal)
open WordCmp (toInt_ofNat_of_lt cmpi_sle_eq cmpi_sgt_eq)

variable {n k : ℕ}

/-- The scores, with the large negative number outside the mask. -/
def ms (M : Fin n → Prop) [DecidablePred M] (s : Fin n → EReal) (j : Fin n) : EReal :=
  if M j then s j else Ideal.ofBits .f32 0xF149F2CA#32
/-- The largest of the masked scores. -/
def top (M : Fin n → Prop) [DecidablePred M] (s : Fin n → EReal) : EReal :=
  Finset.univ.fold max (Ideal.ofBits .f32 0xFF800000#32) (ms M s)
/-- A key's weight. -/
def wt (M : Fin n → Prop) [DecidablePred M] (s : Fin n → EReal) (j : Fin n) : EReal :=
  if M j then Ideal.exp (ms M s j - top M s) else 0
/-- The sum of the weights, kept off zero. -/
def den (M : Fin n → Prop) [DecidablePred M] (s : Fin n → EReal) : EReal :=
  max (∑ j, wt M s j) (Ideal.ofBits .f32 0x0DA24260#32)
/-- The weighted sum of the values times the reciprocal of the sum and the gate. -/
def attK (M : Fin n → Prop) [DecidablePred M] (s v : Fin n → EReal) (g : EReal) : EReal :=
  (∑ j, wt M s j * v j) * (Ideal.div (Ideal.ofBits .f32 0x3F800000#32) (den M s) * g)
/-- The gate times the sum of the values, each times its divided weight. -/
def attR (M : Fin n → Prop) [DecidablePred M] (s v : Fin n → EReal) (g : EReal) : EReal :=
  g * ∑ j, v j * Ideal.div (wt M s j) (den M s)

/-- The large negative number is real. -/
theorem neg_real : ∃ r : ℝ, Ideal.ofBits .f32 0xF149F2CA#32 = (r : EReal) := by
  simp only [Ideal.ofBits, Ideal.ieee]
  rw [if_neg (by decide), if_neg (by decide)]
  exact ⟨_, rfl⟩

/-- The number that keeps the sum off zero is real and positive. -/
theorem eps_pos : ∃ r : ℝ, 0 < r ∧ Ideal.ofBits .f32 0x0DA24260#32 = (r : EReal) := by
  simp only [Ideal.ofBits, Ideal.ieee]
  rw [if_neg (by decide), if_neg (by decide)]
  refine ⟨_, ?_, rfl⟩
  rw [if_neg (by decide)]
  positivity

variable (M : Fin n → Prop) [DecidablePred M] (s v : Fin n → EReal)

/-- The largest masked score is a least upper bound. -/
theorem top_sup : top M s = Finset.univ.sup (ms M s) := by
  have hb : Ideal.ofBits .f32 0xFF800000#32 = (⊥ : EReal) := by simp [Ideal.ofBits, Ideal.ieee]
  unfold top
  rw [hb]
  rfl

/-- A masked score is no more than the largest. -/
theorem ms_le (j : Fin n) : ms M s j ≤ top M s := by
  rw [top_sup]
  exact Finset.le_sup (f := ms M s) (Finset.mem_univ j)

/-- The exponential of a value no more than `⊤` less an upper bound of it that is not `⊥` is a real number. -/
theorem exp_real (x T : EReal) (hx : x ≤ T) (hT : T ≠ ⊥) : ∃ r : ℝ, 0 ≤ r ∧ Ideal.exp (x - T) = r := by
  induction T using EReal.rec with
  | bot => exact absurd rfl hT
  | top => exact ⟨0, le_rfl, by rw [EReal.sub_top]; rfl⟩
  | coe t =>
    induction x using EReal.rec with
    | bot => exact ⟨0, le_rfl, by rw [EReal.bot_sub]; rfl⟩
    | top => exact absurd (top_le_iff.1 hx) (EReal.coe_ne_top t)
    | coe a => exact ⟨Real.exp (a - t), (Real.exp_pos _).le, by rw [← EReal.coe_sub]; rfl⟩

/-- A weight is a real number, when some key is outside the mask. -/
theorem wt_real (h : ∃ j, ¬M j) (j : Fin n) : IsReal (wt M s j) := by
  unfold wt
  split
  · obtain ⟨i, hi⟩ := h
    obtain ⟨a, ha⟩ := neg_real
    have hN : (a : EReal) ≤ top M s := by
      have := ms_le M s i
      unfold ms at this
      rwa [if_neg hi, ha] at this
    obtain ⟨r, _, e⟩ := exp_real _ _ (ms_le M s j) (ne_bot_of_le_ne_bot (EReal.coe_ne_bot a) hN)
    exact ⟨r, e⟩
  · exact ⟨0, rfl⟩

/-- The sum of the weights, kept off zero, is a positive real number. -/
theorem den_pos (h : ∃ j, ¬M j) : ∃ r : ℝ, 0 < r ∧ den M s = r := by
  obtain ⟨e, he, hE⟩ := eps_pos
  obtain ⟨a, ha⟩ := IsReal.sum Finset.univ _ (wt_real M s h)
  refine ⟨max a e, lt_max_of_lt_right he, ?_⟩
  unfold den
  rw [ha, hE]
  exact (EReal.coe_strictMono.monotone.map_max).symm

/-- The division moved out of the sum. -/
theorem attK_eq (h : ∃ j, ¬M j) (g : EReal) : attK M s v g = attR M s v g := by
  obtain ⟨r, hr, e⟩ := den_pos M s h
  have hne : (r : EReal) ≠ 0 := by exact_mod_cast hr.ne'
  have h1 : Ideal.ofBits .f32 0x3F800000#32 = (1 : EReal) := by
    simp only [Ideal.ofBits, Ideal.ieee]
    rw [if_neg (by decide), if_neg (by decide), if_neg (by decide)]
    rw [show (((BitVec.extractLsb' 23 8 0x3F800000#32).toNat : Int) - (2 ^ (8 - 1) - 1) - (23 : ℕ)) = -23 from by decide,
      show (BitVec.extractLsb' 0 23 0x3F800000#32).toNat = 0 from by decide, ← EReal.coe_one]
    congr 1
    norm_num
  unfold attK attR Ideal.div
  simp only [e, if_neg hne]
  rw [h1, one_mul, ← EReal.coe_inv, ← mul_assoc, Mem.sum_mul_real _ _ _ (inv_nonneg.2 hr.le), mul_comm]
  congr 1
  refine Finset.sum_congr rfl fun j _ => ?_
  rw [mul_comm (wt M s j), mul_assoc]

section Window

variable (f : Fin k → Fin n) (hf : Function.Injective f) (hM : ∀ j, M j → ∃ i, f i = j) (hN : ∃ i, ¬M (f i))

include hM hN in
/-- The largest score over the window is the largest over all keys. -/
theorem top_window : top (fun i => M (f i)) (fun i => s (f i)) = top M s := by
  rw [top_sup, top_sup]
  refine le_antisymm (Finset.sup_le fun i _ => Finset.le_sup (f := ms M s) (Finset.mem_univ (f i))) (Finset.sup_le fun j _ => ?_)
  by_cases h : M j
  · obtain ⟨i, rfl⟩ := hM j h
    exact Finset.le_sup (f := ms (fun i => M (f i)) fun i => s (f i)) (Finset.mem_univ i)
  · obtain ⟨i, hi⟩ := hN
    have e : ms M s j = ms (fun i => M (f i)) (fun i => s (f i)) i := by
      unfold ms; rw [if_neg h, if_neg hi]
    rw [e]
    exact Finset.le_sup (f := ms (fun i => M (f i)) fun i => s (f i)) (Finset.mem_univ i)

include hM hN in
/-- A key's weight in the window is its weight among all keys. -/
theorem wt_window (i : Fin k) : wt (fun i => M (f i)) (fun i => s (f i)) i = wt M s (f i) := by
  have e := top_window M s f hM hN
  unfold wt
  rw [e]
  rfl

include hf hM in
/-- A sum over all keys of what is zero outside the mask is the sum over the window. -/
theorem sum_window (g : Fin n → EReal) (hg : ∀ j, ¬M j → g j = 0) : ∑ i, g (f i) = ∑ j, g j := by
  refine Finset.sum_of_injOn f hf.injOn (fun _ _ => Finset.mem_coe.2 (Finset.mem_univ _)) (fun j _ hj => hg j fun h => hj ?_) fun _ _ => rfl
  obtain ⟨i, rfl⟩ := hM j h
  exact ⟨i, Finset.mem_coe.2 (Finset.mem_univ _), rfl⟩

include hf hM hN in
/-- The attention over the window, divided once, is the attention over all keys, every weight divided. -/
theorem att_eq (g : EReal) : attK (fun i => M (f i)) (fun i => s (f i)) (fun i => v (f i)) g = attR M s v g := by
  have hw : ∀ j, ¬M j → wt M s j = 0 := fun j h => by unfold wt; rw [if_neg h]
  have hd : den (fun i => M (f i)) (fun i => s (f i)) = den M s := by
    unfold den
    simp only [wt_window M s f hM hN]
    rw [sum_window M f hf hM (wt M s) hw]
  rw [← attK_eq M s v (hN.imp' f fun _ h => h)]
  unfold attK
  rw [hd]
  simp only [wt_window M s f hM hN]
  rw [sum_window M f hf hM (fun j => wt M s j * v j) fun j h => by rw [hw j h, zero_mul]]

end Window

/-- The mask of a row: the keys at the row's position and the 511 before it. -/
def near (r : ℕ) (j : ℕ) : Prop := j ≤ r ∧ r < j + 512

instance (r : ℕ) : DecidablePred (near r) := fun j => inferInstanceAs (Decidable (j ≤ r ∧ r < j + 512))

/-- The mask as the two comparisons of machine words. -/
theorem mask_word (r j : ℕ) (hr : r < 16384) (hj : j < 17408) :
    (IntOp.andi (IntOp.cmpi .sle (BitVec.ofNat 32 j) (BitVec.ofNat 32 r))
      (IntOp.cmpi .sgt (BitVec.ofNat 32 j) (IntOp.subi (BitVec.ofNat 32 r) 512#32)) = 1#1) = near r j := by
  have ej : (BitVec.ofNat 32 j).toInt = j := toInt_ofNat_of_lt (by omega)
  have er : (BitVec.ofNat 32 r).toInt = r := toInt_ofNat_of_lt (by omega)
  have es : (IntOp.subi (BitVec.ofNat 32 r) 512#32).toInt = (r : Int) - 512 := by
    show (BitVec.ofNat 32 r - 512#32).toInt = _
    rw [BitVec.toInt_sub, er, show (512#32).toInt = 512 from rfl, Int.bmod_eq_of_le (by omega) (by omega)]
  rw [cmpi_sle_eq, cmpi_sgt_eq, ej, er, es]
  unfold near
  by_cases h1 : j ≤ r <;> by_cases h2 : r < j + 512
  · rw [decide_eq_true (by omega), decide_eq_true (by omega)]; simp [h1, h2]; decide
  · rw [decide_eq_true (by omega), decide_eq_false (by omega)]; simp [h1, h2]; decide
  · rw [decide_eq_false (by omega), decide_eq_true (by omega)]; simp [h1, h2]; decide
  · rw [decide_eq_false (by omega), decide_eq_false (by omega)]; simp [h1, h2]; decide

/-- A choice by the two comparisons is a choice by the mask. -/
theorem select_mask (r j : ℕ) (hr : r < 16384) (hj : j < 17408) (a b : EReal) :
    Scalar.select (IntOp.andi (IntOp.cmpi .sle (BitVec.ofNat 32 j) (BitVec.ofNat 32 r))
      (IntOp.cmpi .sgt (BitVec.ofNat 32 j) (IntOp.subi (BitVec.ofNat 32 r) 512#32))) a b = if near r j then a else b := by
  unfold Scalar.select
  exact if_congr (Iff.of_eq (mask_word r j hr hj)) rfl rfl

end Cert.Proof.Win

end

end
-- ==== Proof.WinRef.lean ====
module

public import proofs.«01_k».proof.Proof.Gen.Reference7Ideal.Run
public import proofs.«01_k».proof.Proof.WinMath

/-! # The window attention: the reference's result

Every row attends to all keys, those outside its window masked; `outA_at` gives the result at a row and a
lane of a head. The heads of the two groups lie interleaved, in the queries and in the result. -/

@[expose] public section

open Idealize Idealize.ShloMosaic Idealize.ShloMosaic.TcCoe Idealize.SL.Sem
open Cert.Reference7Ideal Cert.Reference7Ideal.Gen

set_option maxRecDepth 16384

noncomputable section

namespace Cert.Proof.Win

/-- The arrays the call is given. -/
structure Args where
  q : FVec Ideal S16384x512 .bf16
  k : FVec Ideal S16384x128 .bf16
  v : FVec Ideal S16384x128 .bf16
  g : FVec Ideal S16384x128 .f32

variable (A : Args)

/-- Lane `d` of head `i` of group `g`. -/
def col (i : Fin 4) (g : Fin 2) (d : Fin 64) : Fin 512 := ⟨i.val * 128 + g.val * 64 + d.val, by omega⟩
/-- Lane `d` of group `g`'s keys and values. -/
def gcol (g : Fin 2) (d : Fin 64) : Fin 128 := ⟨g.val * 64 + d.val, by omega⟩
/-- The column of the window's gate of head `i` of group `g`. -/
def gate (i : Fin 4) (g : Fin 2) : Fin 128 := ⟨16 + g.val * 4 + i.val, by omega⟩

/-- The mask. -/
def maskA : IVec S16384x16384 1 :=
  andi (cmpi .sle (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))
    (cmpi .sgt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (subi (broadcastInDim S16384x1 ![0] bcast_S16384_S16384x1_0 (iotaInDim S16384 32 0))
        (broadcastInDim S16384x1 ![] bcast_S_S16384x1 (constantI S_ 32 512#32)))))

/-- The mask, for every head. -/
def keepA : IVec S1x2x4x16384x16384 1 := broadcastInDim S1x2x4x16384x16384 ![3, 4] bcast_S16384x16384_S1x2x4x16384x16384_3_4 maskA

/-- The scores. -/
def scoreA : FVec Ideal S1x2x4x16384x16384 .f32 :=
  transpose S1x2x4x16384x16384 [0, 1, 4, 3, 2] (Host.dotGeneral dot_S1x16384x2x64_S1x16384x2x4x64_S1x2x16384x16384x4_3_4_1_13_02_02 none
    (shapeCast _ (extf .f32 A.k bitsLt_bf16_f32) shapeCasts_S16384x128_S1x16384x2x64)
    (transpose S1x16384x2x4x64 [0, 1, 3, 2, 4] (shapeCast _ (extf .f32 A.q bitsLt_bf16_f32) shapeCasts_S16384x512_S1x16384x4x2x64)
      transposes_S1x16384x4x2x64_S1x16384x2x4x64_0_1_3_2_4)) transposes_S1x2x16384x16384x4_S1x2x4x16384x16384_0_1_4_3_2

/-- The masked scores. -/
def msA : FVec Ideal S1x2x4x16384x16384 .f32 :=
  select keepA (scoreA A) (broadcastInDim S1x2x4x16384x16384 ![] bcast_S_S1x2x4x16384x16384 (id (constant S_ .f32 0xF149F2CA#32)))

/-- The largest masked scores. -/
def topA : FVec Ideal S1x2x4x16384 .f32 :=
  Host.reduce FloatOps.maximumf (msA A) (constant S_ .f32 0xFF800000#32) reducesTo_S1x2x4x16384x16384_S1x2x4x16384_d4 h_S_

/-- The weights. -/
def wtA : FVec Ideal S1x2x4x16384x16384 .f32 :=
  select keepA (Host.exp (subf (msA A) (broadcastInDim S1x2x4x16384x16384 ![0, 1, 2, 3, 4] bcast_S1x2x4x16384x1_S1x2x4x16384x16384_0_1_2_3_4
    (broadcastInDim S1x2x4x16384x1 ![0, 1, 2, 3] bcast_S1x2x4x16384_S1x2x4x16384x1_0_1_2_3 (topA A)))))
    (broadcastInDim S1x2x4x16384x16384 ![] bcast_S_S1x2x4x16384x16384 (id (constant S_ .f32 0x00000000#32)))

/-- The sums of the weights, kept off zero. -/
def denA : FVec Ideal S1x2x4x16384x1 .f32 :=
  maximumf (broadcastInDim S1x2x4x16384x1 ![0, 1, 2, 3] bcast_S1x2x4x16384_S1x2x4x16384x1_0_1_2_3
    (Host.reduceAdd (wtA A) (constant S_ .f32 0x00000000#32) reducesTo_S1x2x4x16384x16384_S1x2x4x16384_d4 h_S_))
    (broadcastInDim S1x2x4x16384x1 ![] bcast_S_S1x2x4x16384x1 (constant S_ .f32 0x0DA24260#32))

/-- The attention before the gate. -/
def attA : FVec Ideal S1x2x64x4x16384 .f32 :=
  Host.dotGeneral dot_S1x16384x2x64_S1x2x4x16384x16384_S1x2x64x4x16384_1_4_3_23_02_01 none
    (shapeCast _ (extf .f32 A.v bitsLt_bf16_f32) shapeCasts_S16384x128_S1x16384x2x64)
    (Host.divf (wtA A) (broadcastInDim S1x2x4x16384x16384 ![0, 1, 2, 3, 4] bcast_S1x2x4x16384x1_S1x2x4x16384x16384_0_1_2_3_4 (denA A)))

/-- The window's gates. -/
def gateA : FVec Ideal S1x16384x2x4 .f32 :=
  shapeCast _ (extractStridedSlice S1x16384x1x2x4 ![0, 0, 2, 0, 0] (shapeCast _ (extractStridedSlice S16384x24 ![0, 0] A.g slices_S16384x128_S16384x24_0_0)
    shapeCasts_S16384x24_S1x16384x3x2x4) slices_S1x16384x3x2x4_S1x16384x1x2x4_0_0_2_0_0) shapeCasts_S1x16384x1x2x4_S1x16384x2x4

/-- The reference's result. -/
def outA : FVec Ideal S16384x512 .f32 :=
  shapeCast _ (transpose S1x16384x4x2x64 [0, 1, 3, 2, 4] (mulf (broadcastInDim S1x16384x2x4x64 ![0, 1, 2, 3, 4] bcast_S1x16384x2x4x1_S1x16384x2x4x64_0_1_2_3_4
    (broadcastInDim S1x16384x2x4x1 ![0, 1, 2, 3] bcast_S1x16384x2x4_S1x16384x2x4x1_0_1_2_3 (gateA A)))
    (transpose S1x16384x2x4x64 [0, 4, 1, 3, 2] (attA A) transposes_S1x2x64x4x16384_S1x16384x2x4x64_0_4_1_3_2))
    transposes_S1x16384x2x4x64_S1x16384x4x2x64_0_1_3_2_4) shapeCasts_S1x16384x4x2x64_S16384x512

/-- A row's score with key `j`, in head `i` of group `g`. -/
def score (i : Fin 4) (g : Fin 2) (r : Fin 16384) (j : Fin 16384) : EReal := ∑ d : Fin 64, A.q (ix2 r (col i g d)) * A.k (ix2 j (gcol g d))

/-- The mask over the keys. -/
abbrev M (r : Fin 16384) : Fin 16384 → Prop := fun j => near r.val j.val

/-- The scores at an index. -/
theorem scoreA_at (i : Fin 4) (g : Fin 2) (r j : Fin 16384) : scoreA A (ix5 0 g i r j) = score A i g r j := by
  pointwise [scoreA, score, col, gcol]
  exact Finset.sum_congr rfl fun d _ => mul_comm _ _

/-- The masked scores at an index. -/
theorem msA_at (i : Fin 4) (g : Fin 2) (r j : Fin 16384) : msA A (ix5 0 g i r j) = ms (M r) (score A i g r) j := by
  have e := scoreA_at A i g r j
  pointwise [msA, keepA, maskA, ms]
  rw [select_mask _ _ (by omega) (by omega), e]
  rfl

/-- The largest masked score of a row. -/
theorem topA_at (i : Fin 4) (g : Fin 2) (r : Fin 16384) : topA A (ix4 0 g i r) = top (M r) (score A i g r) := by
  have e := msA_at A i g r
  pointwise [topA, top]
  simp only [e]

/-- The weights at an index. -/
theorem wtA_at (i : Fin 4) (g : Fin 2) (r j : Fin 16384) : wtA A (ix5 0 g i r j) = wt (M r) (score A i g r) j := by
  have e := msA_at A i g r j
  have e' := topA_at A i g r
  pointwise [wtA, keepA, maskA, wt]
  rw [select_mask _ _ (by omega) (by omega), e, e']
  exact if_congr Iff.rfl rfl (by show Ideal.ofBits .f32 0x00000000#32 = (0 : EReal); simp [Ideal.ofBits, Ideal.ieee])

/-- A row's sum of weights, kept off zero. -/
theorem denA_at (i : Fin 4) (g : Fin 2) (r : Fin 16384) : denA A (ix5 0 g i r 0) = den (M r) (score A i g r) := by
  have e := wtA_at A i g r
  pointwise [denA, den]
  simp only [e]

/-- The gates at an index. -/
theorem gateA_at (i : Fin 4) (g : Fin 2) (r : Fin 16384) : gateA A (ix4 0 r g i) = A.g (ix2 r (gate i g)) := by
  pointwise [gateA, gate]

/-- The attention at an index. -/
theorem attA_at (i : Fin 4) (g : Fin 2) (r : Fin 16384) (d : Fin 64) : attA A (ix5 0 g d i r) =
    ∑ j, A.v (ix2 j (gcol g d)) * Ideal.div (wt (M r) (score A i g r) j) (den (M r) (score A i g r)) := by
  have e := wtA_at A i g r
  have e' := denA_at A i g r
  pointwise [attA, gcol]
  simp only [e, e']

/-- The result at an index. -/
theorem outA_at (i : Fin 4) (g : Fin 2) (r : Fin 16384) (d : Fin 64) : outA A (ix2 r (col i g d)) =
    attR (M r) (score A i g r) (fun j => A.v (ix2 j (gcol g d))) (A.g (ix2 r (gate i g))) := by
  have e := attA_at A i g r d
  have e' := gateA_at A i g r
  pointwise [outA, col, attR]
  rw [e, e']

/-- The arrays of the reference's arguments. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
    m ((c.tc : Thread nD τ).loc main_arg3)⟩

/-- The reference's run: its result is the named term, and its arguments stay. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = outA (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference7Ideal.Value.run (F := Ideal) m ρ

end Cert.Proof.Win

end

end
-- ==== Proof.WinKernel.lean ====
module

public import proofs.«01_k».proof.Proof.WinRef
public import proofs.«01_k».proof.Proof.Gen.Kernel7Ideal.Value
public import Idealize.ShloMosaic.Lib.Pointwise
public import Idealize.ShloMosaic.Lib.Pipeline.ValueKit
public import Idealize.ShloMosaic.Lib.Pipeline.ReadBack

/-! # The window attention: the kernel, block by block

A block of 128 rows attends to the 640 keys that end with its own. Each head's queries are a slice of the
block with the other head's lanes masked. -/

@[expose] public section

open Idealize Idealize.ShloMosaic Idealize.ShloMosaic.TcCoe
open Cert.Kernel7Ideal Cert.Kernel7Ideal.Gen

set_option maxRecDepth 16384

noncomputable section

namespace Cert.Proof.Win

/-! ## One head of a block -/

/-- The masked scores of a head. -/
def bS (q : FVec Ideal S128x128 .bf16) (keep : IVec S128x128 1) (K : FVec Ideal S640x128 .bf16) (mask : IVec S128x640 1) : FVec Ideal S128x640 .f32 :=
  select mask (matmul dot_S128x128_S640x128_S128x640_1_1_0_0_n_n none (select keep q (broadcast S128x128 (Scalar.ofBits .bf16 0x0000#16))) K
    (constant S128x640 .f32 0x00000000#32)) (broadcast S128x640 (Scalar.ofBits .f32 0xF149F2CA#32))

/-- The weights of a head. -/
def bW (s : FVec Ideal S128x640 .f32) (mask : IVec S128x640 1) : FVec Ideal S128x640 .f32 :=
  select mask (exp (subf s (broadcastTo S128x640 (shapeCast S128x1 (multiReduction .maximumf [1] S128 s 0xFF800000#32 reduces_S128x640_S128 (.inl rfl) rfl)
    shapeCasts_S128_S128x1) broadcasts_S128x1_S128x640))) (broadcast S128x640 (Scalar.ofBits .f32 0x00000000#32))

/-- The output of a head, from its weights. -/
def bO (p : FVec Ideal S128x640 .f32) (V : FVec Ideal S640x128 .bf16) (g : FVec Ideal S128x1 .f32) : FVec Ideal S128x128 .f32 :=
  mulf (matmul dot_S128x640_S640x128_S128x128_1_0_0_1_n_n none (truncf .bf16 p bitsLt_bf16_f32) V (constant S128x128 .f32 0x00000000#32))
    (broadcastTo S128x128 (mulf (divf (broadcast S128x1 (Scalar.ofBits .f32 0x3F800000#32)) (maximumf (shapeCast S128x1
      (multiReduction .add [1] S128 p 0x00000000#32 reduces_S128x640_S128 (.inl rfl) rfl) shapeCasts_S128_S128x1)
      (broadcast S128x1 (Scalar.ofBits .f32 0x0DA24260#32)))) g) broadcasts_S128x1_S128x128)

/-- The output of a head. -/
def bH (q : FVec Ideal S128x128 .bf16) (keep : IVec S128x128 1) (K V : FVec Ideal S640x128 .bf16) (mask : IVec S128x640 1) (g : FVec Ideal S128x1 .f32) :
    FVec Ideal S128x128 .f32 :=
  bO (bW (bS q keep K mask) mask) V g

/-- The first head's lanes of a slice. -/
def keepLo : IVec S128x128 1 := cmpi .slt (iota .tc S128x128 32 [1] iota_S128x128_d1_w32) (broadcast S128x128 64#32)
/-- The second head's lanes of a slice. -/
def keepHi : IVec S128x128 1 := cmpi .sge (iota .tc S128x128 32 [1] iota_S128x128_d1_w32) (broadcast S128x128 64#32)

section Head

variable (q : FVec Ideal S128x128 .bf16) (K V : FVec Ideal S640x128 .bf16) (mask : IVec S128x640 1) (g : FVec Ideal S128x1 .f32)
  (i : Fin 128) (P : Fin 640 → Prop) [DecidablePred P] (hP : ∀ (n : Fin 640) (a b : EReal), Scalar.select (mask (ix2 i n)) a b = if P n then a else b)
include hP

/-- The first head's masked scores. -/
theorem bS_lo (n : Fin 640) : bS q keepLo K mask (ix2 i n) = ms P (fun n => ∑ d : Fin 64, q (ix2 i (Mem.lo d)) * K (ix2 n (Mem.lo d))) n := by
  pointwise [bS, keepLo, ms]
  rw [hP]
  refine if_congr Iff.rfl ?_ rfl
  exact Mem.sum_lo fun l => q (ix2 i l) * K (ix2 n l)

/-- The second head's masked scores. -/
theorem bS_hi (n : Fin 640) : bS q keepHi K mask (ix2 i n) = ms P (fun n => ∑ d : Fin 64, q (ix2 i (Mem.hi d)) * K (ix2 n (Mem.hi d))) n := by
  pointwise [bS, keepHi, ms]
  rw [hP]
  refine if_congr Iff.rfl ?_ rfl
  exact Mem.sum_hi fun l => q (ix2 i l) * K (ix2 n l)

/-- A head's weights, from its masked scores. -/
theorem bW_at (s : FVec Ideal S128x640 .f32) (f : Fin 640 → EReal) (hs : ∀ n, s (ix2 i n) = ms P f n) (n : Fin 640) :
    bW s mask (ix2 i n) = wt P f n := by
  pointwise [bW, wt, top]
  rw [hP]
  simp only [hs]

/-- A head's output, from its masked scores. -/
theorem bO_at (s : FVec Ideal S128x640 .f32) (f : Fin 640 → EReal) (hs : ∀ n, s (ix2 i n) = ms P f n) (l : Fin 128) :
    bO (bW s mask) V g (ix2 i l) = attK P f (fun n => V (ix2 n l)) (g (ix2 i 0)) := by
  have e := bW_at mask i P hP s f hs
  pointwise [bO, attK, den]
  simp only [e]

end Head

/-! ## The block's stores -/

section Block

variable (i : grid0.Coords) (Q : FVec Ideal S128x512 .bf16) (K V : FVec Ideal S640x128 .bf16) (G : FVec Ideal S128x128 .f32)

/-- The lane numbers. -/
abbrev lanes : IVec S128x128 32 := iota .tc S128x128 32 [1] iota_S128x128_d1_w32

/-- Head 0 of the body's text is the formula. -/
theorem head0 : k0_pay5 V G (k0_pay3 i Q K) (k0_pay4 i Q K) = bH (extractStridedSlice S128x128 ![0, 0] Q slices_S128x512_o0_0_S128x128)
    keepLo K V (k0_pay2 i) (extractStridedSlice S128x1 ![0, 16] G slices_S128x128_o0_16_S128x1) := rfl
/-- Head 1 of the body's text is the formula. -/
theorem head1 : k0_pay6 lanes (k0_pay2 i) Q K V G = bH (extractStridedSlice S128x128 ![0, 128] Q slices_S128x512_o0_128_S128x128)
    keepLo K V (k0_pay2 i) (extractStridedSlice S128x1 ![0, 17] G slices_S128x128_o0_17_S128x1) := rfl
/-- Head 2 of the body's text is the formula. -/
theorem head2 : k0_pay8 (k0_pay2 i) V G (k0_pay7 lanes Q K) = bH (extractStridedSlice S128x128 ![0, 256] Q slices_S128x512_o0_256_S128x128)
    keepLo K V (k0_pay2 i) (extractStridedSlice S128x1 ![0, 18] G slices_S128x128_o0_18_S128x1) := rfl
/-- Head 3 of the body's text is the formula. -/
theorem head3 : k0_pay12 V G (k0_pay10 lanes (k0_pay2 i) Q K) (k0_pay11 lanes (k0_pay2 i) Q K) (constant S128x128 .f32 0x00000000#32) =
    bH (extractStridedSlice S128x128 ![0, 384] Q slices_S128x512_o0_384_S128x128)
    keepLo K V (k0_pay2 i) (extractStridedSlice S128x1 ![0, 19] G slices_S128x128_o0_19_S128x1) := rfl
/-- Head 4 of the body's text is the formula. -/
theorem head4 : k0_pay13 lanes (k0_pay2 i) Q K V G = bH (extractStridedSlice S128x128 ![0, 0] Q slices_S128x512_o0_0_S128x128)
    keepHi K V (k0_pay2 i) (extractStridedSlice S128x1 ![0, 20] G slices_S128x128_o0_20_S128x1) := rfl
/-- Head 5 of the body's text is the formula. -/
theorem head5 : k0_pay15 (k0_pay2 i) V G (k0_pay14 lanes (k0_pay2 i) Q K) = bH (extractStridedSlice S128x128 ![0, 128] Q slices_S128x512_o0_128_S128x128)
    keepHi K V (k0_pay2 i) (extractStridedSlice S128x1 ![0, 21] G slices_S128x128_o0_21_S128x1) := rfl
/-- Head 6 of the body's text is the formula. -/
theorem head6 : k0_pay16 lanes (k0_pay2 i) Q K V G = bH (extractStridedSlice S128x128 ![0, 256] Q slices_S128x512_o0_256_S128x128)
    keepHi K V (k0_pay2 i) (extractStridedSlice S128x1 ![0, 22] G slices_S128x128_o0_22_S128x1) := rfl
/-- Head 7 of the body's text is the formula. -/
theorem head7 : k0_pay19 (k0_pay2 i) K V G (k0_pay17 Q) (k0_pay18 lanes) = bH (extractStridedSlice S128x128 ![0, 384] Q slices_S128x512_o0_384_S128x128)
    keepHi K V (k0_pay2 i) (extractStridedSlice S128x1 ![0, 23] G slices_S128x128_o0_23_S128x1) := rfl

/-- The first of a block's 640 keys. -/
def start (a : ℕ) : ℕ := 128 * a - 512

/-- The first key as the kernel computes it. -/
theorem start_word : ∀ a : Fin 128, Scalar.maxsi (Scalar.subi (Scalar.muli (BitVec.ofNat 32 a.val) 128#32) 512#32) 0#32 = BitVec.ofNat 32 (start a.val) := by
  decide +kernel

/-- The block's mask is the window's. -/
theorem mask_at (r : Fin 128) (n : Fin 640) (a b : EReal) :
    Scalar.select (k0_pay2 i (ix2 r n)) a b = if near (128 * (i 0).val + r.val) (start (i 0).val + n.val) then a else b := by
  have h : (i 0).val < 128 := (i 0).isLt
  rw [← select_mask _ _ (by omega) (by unfold start; omega)]
  have e := start_word (i 0)
  rw [BitVec.ofNat_add, BitVec.ofNat_add, BitVec.ofNat_mul, ← e, BitVec.mul_comm (BitVec.ofNat 32 128)]
  pointwise [k0_pay2]
  rfl

/-- The choice between two heads, at a lane of the first. -/
theorem pick_lo (a b : FVec Ideal S128x128 .f32) (r : Fin 128) (d : Fin 64) : k0_pay20 lanes a b (ix2 r (Mem.lo d)) = a (ix2 r (Mem.lo d)) := by
  pointwise [k0_pay20, Mem.lo]
  rw [Mem.select_lo]

/-- The choice between two heads, at a lane of the second. -/
theorem pick_hi (a b : FVec Ideal S128x128 .f32) (r : Fin 128) (d : Fin 64) : k0_pay20 lanes a b (ix2 r (Mem.hi d)) = b (ix2 r (Mem.hi d)) := by
  pointwise [k0_pay20, Mem.hi]
  rw [Mem.select_hi]

/-- A block's key `n` among all keys. -/
def key (n : Fin 640) : Fin 16384 := ⟨start (i 0).val + n.val, by have h : (i 0).val < 128 := (i 0).isLt; unfold start; omega⟩

/-- Where the kernel's loads of the keys and values begin. -/
theorem off_word : ∀ a : Fin 128, (Scalar.indexCast (Scalar.maxsi (Scalar.subi (Scalar.muli (BitVec.ofNat 32 a.val) 128#32) 512#32) 0#32) : Index).toNat = start a.val := by
  decide +kernel

/-- The keys or values a block loads. -/
def win (X : Vec Ideal S16384x128 .bf16) : Vec Ideal S640x128 .bf16 := View.ld X (Rect.unit (k0_off1 i) ![640, 128] (k0_off1_inb i))

/-- They are those that begin at the block's first key. -/
theorem win_at (X : Vec Ideal S16384x128 .bf16) (n : Fin 640) (l : Fin 128) : win i X (ix2 n l) = X (ix2 (key i n) l) := by
  refine congrArg X (funext fun a => Fin.ext ?_)
  match a with
  | ⟨0, _⟩ =>
    show k0_off1 i 0 + 1 * n.val = start (i 0).val + n.val
    rw [Nat.one_mul]
    exact congrArg (· + n.val) (off_word (i 0))
  | ⟨1, _⟩ =>
    show 0 + 1 * l.val = l.val
    omega

end Block

section Stores

variable (i : grid0.Coords) (Q : FVec Ideal S128x512 .bf16) (K V : FVec Ideal S640x128 .bf16) (G : FVec Ideal S128x128 .f32)

/-- What a block leaves in lane `d` of head `j` of group `g`. -/
def blkOut (r : Fin 128) (j : Fin 4) (g : Fin 2) (d : Fin 64) : EReal :=
  attK (fun n : Fin 640 => near (128 * (i 0).val + r.val) (start (i 0).val + n.val))
    (fun n => ∑ d : Fin 64, Q (ix2 r (col j g d)) * K (ix2 n (gcol g d))) (fun n => V (ix2 n (gcol g d))) (G (ix2 r (gate j g)))

/-- A head of the first group. -/
theorem bH_lo (q : FVec Ideal S128x128 .bf16) (g : FVec Ideal S128x1 .f32) (r : Fin 128) (j : Fin 4) (hq : ∀ d, q (ix2 r (Mem.lo d)) = Q (ix2 r (col j 0 d)))
    (hg : g (ix2 r 0) = G (ix2 r (gate j 0))) (d : Fin 64) : bH q keepLo K V (k0_pay2 i) g (ix2 r (Mem.lo d)) = blkOut i Q K V G r j 0 d := by
  have e : ∀ d, gcol 0 d = Mem.lo d := by decide +kernel
  have hb := bO_at V (k0_pay2 i) g r _ (mask_at i r) _ _ (bS_lo q K (k0_pay2 i) r _ (mask_at i r)) (Mem.lo d)
  unfold bH blkOut
  simp only [e]
  rw [hb, hg]
  simp only [hq]

/-- A head of the second group. -/
theorem bH_hi (q : FVec Ideal S128x128 .bf16) (g : FVec Ideal S128x1 .f32) (r : Fin 128) (j : Fin 4) (hq : ∀ d, q (ix2 r (Mem.hi d)) = Q (ix2 r (col j 1 d)))
    (hg : g (ix2 r 0) = G (ix2 r (gate j 1))) (d : Fin 64) : bH q keepHi K V (k0_pay2 i) g (ix2 r (Mem.hi d)) = blkOut i Q K V G r j 1 d := by
  have e : ∀ d, gcol 1 d = Mem.hi d := by decide +kernel
  have hb := bO_at V (k0_pay2 i) g r _ (mask_at i r) _ _ (bS_hi q K (k0_pay2 i) r _ (mask_at i r)) (Mem.hi d)
  unfold bH blkOut
  simp only [e]
  rw [hb, hg]
  simp only [hq]

/-- The first store, at a lane of the first group. -/
theorem store0_lo (r : Fin 128) (d : Fin 64) : k0_pay20 (F := Ideal) lanes (k0_pay5 V G (k0_pay3 i Q K) (k0_pay4 i Q K))
      (k0_pay13 lanes (k0_pay2 i) Q K V G) (ix2 r (Mem.lo d)) =
    blkOut i Q K V G r 0 0 d := by
  refine (pick_lo _ _ r d).trans ?_
  rw [head0]
  exact bH_lo i Q K V G _ _ r 0 (fun d => by pointwise [Mem.lo, col]) (by pointwise [gate]) d

/-- The first store, at a lane of the second group. -/
theorem store0_hi (r : Fin 128) (d : Fin 64) : k0_pay20 (F := Ideal) lanes (k0_pay5 V G (k0_pay3 i Q K) (k0_pay4 i Q K))
      (k0_pay13 lanes (k0_pay2 i) Q K V G) (ix2 r (Mem.hi d)) =
    blkOut i Q K V G r 0 1 d := by
  refine (pick_hi _ _ r d).trans ?_
  rw [head4]
  exact bH_hi i Q K V G _ _ r 0 (fun d => by pointwise [Mem.hi, col]) (by pointwise [gate]) d

/-- The second store, at a lane of the first group. -/
theorem store1_lo (r : Fin 128) (d : Fin 64) : k0_pay21 (F := Ideal) lanes (k0_pay6 lanes (k0_pay2 i) Q K V G)
      (k0_pay15 (k0_pay2 i) V G (k0_pay14 lanes (k0_pay2 i) Q K)) (ix2 r (Mem.lo d)) =
    blkOut i Q K V G r 1 0 d := by
  refine (pick_lo _ _ r d).trans ?_
  rw [head1]
  exact bH_lo i Q K V G _ _ r 1 (fun d => by pointwise [Mem.lo, col]) (by pointwise [gate]) d

/-- The second store, at a lane of the second group. -/
theorem store1_hi (r : Fin 128) (d : Fin 64) : k0_pay21 (F := Ideal) lanes (k0_pay6 lanes (k0_pay2 i) Q K V G)
      (k0_pay15 (k0_pay2 i) V G (k0_pay14 lanes (k0_pay2 i) Q K)) (ix2 r (Mem.hi d)) =
    blkOut i Q K V G r 1 1 d := by
  refine (pick_hi _ _ r d).trans ?_
  rw [head5]
  exact bH_hi i Q K V G _ _ r 1 (fun d => by
    pointwise [Mem.hi, col]
    exact congrArg (fun k => Q (ix2 r k)) (Fin.ext (by show 128 + (64 + d.val) = 192 + d.val; omega)))
    (by pointwise [gate]) d

/-- The third store, at a lane of the first group. -/
theorem store2_lo (r : Fin 128) (d : Fin 64) : k0_pay22 (F := Ideal) lanes (k0_pay8 (k0_pay2 i) V G (k0_pay7 lanes Q K))
      (k0_pay16 lanes (k0_pay2 i) Q K V G) (ix2 r (Mem.lo d)) =
    blkOut i Q K V G r 2 0 d := by
  refine (pick_lo _ _ r d).trans ?_
  rw [head2]
  exact bH_lo i Q K V G _ _ r 2 (fun d => by pointwise [Mem.lo, col]) (by pointwise [gate]) d

/-- The third store, at a lane of the second group. -/
theorem store2_hi (r : Fin 128) (d : Fin 64) : k0_pay22 (F := Ideal) lanes (k0_pay8 (k0_pay2 i) V G (k0_pay7 lanes Q K))
      (k0_pay16 lanes (k0_pay2 i) Q K V G) (ix2 r (Mem.hi d)) =
    blkOut i Q K V G r 2 1 d := by
  refine (pick_hi _ _ r d).trans ?_
  rw [head6]
  exact bH_hi i Q K V G _ _ r 2 (fun d => by
    pointwise [Mem.hi, col]
    exact congrArg (fun k => Q (ix2 r k)) (Fin.ext (by show 256 + (64 + d.val) = 320 + d.val; omega)))
    (by pointwise [gate]) d

/-- The fourth store, at a lane of the first group. -/
theorem store3_lo (r : Fin 128) (d : Fin 64) : k0_pay1 (F := Ideal) (k0_pay12 V G (k0_pay10 lanes (k0_pay2 i) Q K) (k0_pay11 lanes (k0_pay2 i) Q K) (constant S128x128 .f32 0x00000000#32))
      (k0_pay19 (k0_pay2 i) K V G (k0_pay17 Q) (k0_pay18 lanes)) (k0_pay23 lanes) (ix2 r (Mem.lo d)) =
    blkOut i Q K V G r 3 0 d := by
  refine (pick_lo _ _ r d).trans ?_
  rw [head3]
  exact bH_lo i Q K V G _ _ r 3 (fun d => by pointwise [Mem.lo, col]) (by pointwise [gate]) d

/-- The fourth store, at a lane of the second group. -/
theorem store3_hi (r : Fin 128) (d : Fin 64) : k0_pay1 (F := Ideal) (k0_pay12 V G (k0_pay10 lanes (k0_pay2 i) Q K) (k0_pay11 lanes (k0_pay2 i) Q K) (constant S128x128 .f32 0x00000000#32))
      (k0_pay19 (k0_pay2 i) K V G (k0_pay17 Q) (k0_pay18 lanes)) (k0_pay23 lanes) (ix2 r (Mem.hi d)) =
    blkOut i Q K V G r 3 1 d := by
  refine (pick_hi _ _ r d).trans ?_
  rw [head7]
  exact bH_hi i Q K V G _ _ r 3 (fun d => by
    pointwise [Mem.hi, col]
    exact congrArg (fun k => Q (ix2 r k)) (Fin.ext (by show 384 + (64 + d.val) = 448 + d.val; omega)))
    (by pointwise [gate]) d

end Stores

section Out

variable (m : (ℓ : Loc nD τ sig) → Buf (Elt Ideal) ℓ) (c : Dev nD) (t : Fin cfg0.N)

/-- A position in a store, from its coordinates. -/
theorem store_idx (x : S128x128.Idx) (r : Fin 128) (l : Fin 128) (h1 : r.val = (x 0).val) (h2 : l.val = (x 1).val) : x = ix2 r l := by
  idx_vars x
  obtain rfl := Fin.ext h1
  obtain rfl := Fin.ext h2
  rfl

/-- The body's output, at a lane of a head of the first group. -/
theorem out_lo (r : Fin 128) (j : Fin 4) (d : Fin 64) : outsAt0 m c t (ix2 r (col j 0 d)) =
    blkOut (grid0.coords t) (iblk m c 0 t) (win (grid0.coords t) (iblk m c 1 t)) (win (grid0.coords t) (iblk m c 2 t)) (iblk m c 3 t) r j 0 d := by
  have hc : (col j 0 d).val = j.val * 128 + d.val := by simp [col]
  unfold outsAt0
  generalize (iblk m c 0 t : Vec Ideal S128x512 .bf16) = Q
  generalize (iblk m c 1 t : Vec Ideal S16384x128 .bf16) = K
  generalize (iblk m c 2 t : Vec Ideal S16384x128 .bf16) = V
  generalize (iblk m c 3 t : Vec Ideal S128x128 .f32) = G
  frame_out
  canon_tiles x hx
  · have h1 : (col j 0 d).val = 384 + (x 1).val := hx1
    obtain rfl : j = 3 := Fin.ext (by show j.val = 3; omega)
    rw [store_idx x r (Mem.lo d) hx0 (by have e : (Mem.lo d).val = d.val := rfl; have e3 : (3 : Fin 4).val = 3 := rfl; omega)]
    exact store3_lo ..
  · have h1 : (col j 0 d).val = 256 + (x 1).val := hx1
    obtain rfl : j = 2 := Fin.ext (by show j.val = 2; omega)
    rw [store_idx x r (Mem.lo d) hx0 (by have e : (Mem.lo d).val = d.val := rfl; have e3 : (2 : Fin 4).val = 2 := rfl; omega)]
    exact store2_lo ..
  · have h1 : (col j 0 d).val = 128 + (x 1).val := hx1
    obtain rfl : j = 1 := Fin.ext (by show j.val = 1; omega)
    rw [store_idx x r (Mem.lo d) hx0 (by have e : (Mem.lo d).val = d.val := rfl; have e3 : (1 : Fin 4).val = 1 := rfl; omega)]
    exact store1_lo ..
  · have h1 : (col j 0 d).val = (x 1).val := hx1
    obtain rfl : j = 0 := Fin.ext (by show j.val = 0; omega)
    rw [store_idx x r (Mem.lo d) hx0 (by have e : (Mem.lo d).val = d.val := rfl; have e3 : (0 : Fin 4).val = 0 := rfl; omega)]
    exact store0_lo ..

/-- The body's output, at a lane of a head of the second group. -/
theorem out_hi (r : Fin 128) (j : Fin 4) (d : Fin 64) : outsAt0 m c t (ix2 r (col j 1 d)) =
    blkOut (grid0.coords t) (iblk m c 0 t) (win (grid0.coords t) (iblk m c 1 t)) (win (grid0.coords t) (iblk m c 2 t)) (iblk m c 3 t) r j 1 d := by
  have hc : (col j 1 d).val = j.val * 128 + 64 + d.val := by simp [col]
  unfold outsAt0
  generalize (iblk m c 0 t : Vec Ideal S128x512 .bf16) = Q
  generalize (iblk m c 1 t : Vec Ideal S16384x128 .bf16) = K
  generalize (iblk m c 2 t : Vec Ideal S16384x128 .bf16) = V
  generalize (iblk m c 3 t : Vec Ideal S128x128 .f32) = G
  frame_out
  canon_tiles x hx
  · have h1 : (col j 1 d).val = 384 + (x 1).val := hx1
    obtain rfl : j = 3 := Fin.ext (by show j.val = 3; omega)
    rw [store_idx x r (Mem.hi d) hx0 (by have e : (Mem.hi d).val = 64 + d.val := rfl; have e3 : (3 : Fin 4).val = 3 := rfl; omega)]
    exact store3_hi ..
  · have h1 : (col j 1 d).val = 256 + (x 1).val := hx1
    obtain rfl : j = 2 := Fin.ext (by show j.val = 2; omega)
    rw [store_idx x r (Mem.hi d) hx0 (by have e : (Mem.hi d).val = 64 + d.val := rfl; have e3 : (2 : Fin 4).val = 2 := rfl; omega)]
    exact store2_hi ..
  · have h1 : (col j 1 d).val = 128 + (x 1).val := hx1
    obtain rfl : j = 1 := Fin.ext (by show j.val = 1; omega)
    rw [store_idx x r (Mem.hi d) hx0 (by have e : (Mem.hi d).val = 64 + d.val := rfl; have e3 : (1 : Fin 4).val = 1 := rfl; omega)]
    exact store1_hi ..
  · have h1 : (col j 1 d).val = (x 1).val := hx1
    obtain rfl : j = 0 := Fin.ext (by show j.val = 0; omega)
    rw [store_idx x r (Mem.hi d) hx0 (by have e : (Mem.hi d).val = 64 + d.val := rfl; have e3 : (0 : Fin 4).val = 0 := rfl; omega)]
    exact store0_hi ..

/-! ## The result -/

/-- The arrays of the kernel's arguments. -/
def args : Args :=
  ⟨m ((c.tc : Thread nD τ).loc main_arg0), m ((c.tc : Thread nD τ).loc main_arg1), m ((c.tc : Thread nD τ).loc main_arg2),
    m ((c.tc : Thread nD τ).loc main_arg3)⟩

/-- Where each block lies. -/
theorem idx_facts : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

/-- A grid point's coordinate is its number. -/
theorem coord : ∀ t : Fin cfg0.N, (grid0.coords t 0).val = t.val := (by decide +kernel : ∀ t : Fin grid0.N, _)

/-- Row `r` of block `t`. -/
def row (r : Fin 128) : Fin 16384 := ⟨t.val * 128 + r.val, by have h : t.val < 128 := t.isLt; omega⟩

/-- The block of the queries at an index. -/
theorem blk0 (r : Fin 128) (k : Fin 512) : (iblk m c 0 t : Vec Ideal S128x512 .bf16) (ix2 r k) = (args m c).q (ix2 (row t r) k) := by
  unfold args row
  blk_ext [iblk, Gen.V, idx_facts t]

/-- The keys at an index. -/
theorem blk1 (n : Fin 16384) (k : Fin 128) : (iblk m c 1 t : Vec Ideal S16384x128 .bf16) (ix2 n k) = (args m c).k (ix2 n k) := by
  unfold args
  blk_ext [iblk, Gen.V, idx_facts t]

/-- The values at an index. -/
theorem blk2 (n : Fin 16384) (k : Fin 128) : (iblk m c 2 t : Vec Ideal S16384x128 .bf16) (ix2 n k) = (args m c).v (ix2 n k) := by
  unfold args
  blk_ext [iblk, Gen.V, idx_facts t]

/-- The block of the gates at an index. -/
theorem blk3 (r : Fin 128) (k : Fin 128) : (iblk m c 3 t : Vec Ideal S128x128 .f32) (ix2 r k) = (args m c).g (ix2 (row t r) k) := by
  unfold args row
  blk_ext [iblk, Gen.V, idx_facts t]

/-- Where the result's blocks lie. -/
theorem emb4 (r : Fin 128) (k : Fin 512) : ((win0_4.blk t).view.emb (ix2 r k : S128x512.Idx) : S16384x512.Idx) = ix2 (row t r) k := by
  unfold row
  blk_ext [idx_facts t]

/-- What a block leaves is the attention over all keys. -/
theorem blkOut_eq (r : Fin 128) (j : Fin 4) (g : Fin 2) (d : Fin 64) :
    blkOut (grid0.coords t) (iblk m c 0 t) (win (grid0.coords t) (iblk m c 1 t)) (win (grid0.coords t) (iblk m c 2 t)) (iblk m c 3 t) r j g d =
      outA (args m c) (ix2 (row t r) (col j g d)) := by
  have ht : t.val < 128 := t.isLt
  have hk : ∀ n, (key (grid0.coords t) n).val = start t.val + n.val := fun n => congrArg (fun a => start a + n.val) (coord t)
  have hr : 128 * (grid0.coords t 0).val + r.val = (row t r).val := by
    rw [coord t]; show 128 * t.val + r.val = t.val * 128 + r.val; omega
  have hrow : (row t r).val = t.val * 128 + r.val := rfl
  rw [outA_at, ← att_eq (M (row t r)) (score (args m c) j g (row t r)) _ (key (grid0.coords t))
    (fun a b h => Fin.ext (by have := congrArg Fin.val h; rw [hk, hk] at this; omega))
    (fun n h => by
      obtain ⟨h1, h2⟩ : n.val ≤ (row t r).val ∧ (row t r).val < n.val + 512 := h
      exact ⟨⟨n.val - start t.val, by unfold start; omega⟩, Fin.ext (by rw [hk]; show start t.val + (n.val - start t.val) = n.val; unfold start; omega)⟩)
    (by
      by_cases h : t.val < 4
      · refine ⟨⟨639, by omega⟩, fun h' => ?_⟩
        obtain ⟨h1, h2⟩ : (key (grid0.coords t) ⟨639, by omega⟩).val ≤ (row t r).val ∧ _ := h'
        rw [hk] at h1
        have : start t.val + 639 ≤ (row t r).val := h1
        omega
      · refine ⟨⟨0, by omega⟩, fun h' => ?_⟩
        obtain ⟨h1, h2⟩ : _ ∧ (row t r).val < (key (grid0.coords t) ⟨0, by omega⟩).val + 512 := h'
        rw [hk] at h2
        have : (row t r).val < start t.val + 0 + 512 := h2
        unfold start at this
        omega)]
  unfold blkOut score
  simp only [win_at, blk0, blk1, blk2, blk3]
  simp only [hr]
  rfl

/-- A column is a lane of a head of a group. -/
theorem col_cases (k : Fin 512) : ∃ (j : Fin 4) (d : Fin 64), k = col j 0 d ∨ k = col j 1 d := by
  revert k; decide +kernel

/-- The result is the reference's. -/
theorem res4 : (dats m 0 c).arrAt 4 cfg0.N = outA (args m c) := by
  refine (dats m 0 c).arrAt_eq_of_covers 4 _ (by decide +kernel) fun t hf y => ?_
  blk_simp
  rw [after0_4]
  obtain ⟨r, k, rfl⟩ : ∃ (r : Fin 128) (k : Fin 512), y = (ix2 r k : S128x512.Idx) := ⟨y 0, y 1, eq_ix2 y⟩
  refine Eq.trans ?_ (congrArg (outA (args m c)) (emb4 t r k)).symm
  obtain ⟨j, d, rfl | rfl⟩ := col_cases k
  · rw [out_lo]; exact blkOut_eq ..
  · rw [out_hi]; exact blkOut_eq ..

end Out

end Cert.Proof.Win

end

end
-- ==== Proof.lean ====
module

public import proofs.«01_k».proof.Defs
public import proofs.«01_k».proof.Proof.Gen.Kernel.Frame
public import proofs.«01_k».proof.Proof.Gen.KernelIdeal.Value
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Pre_finite_scores0
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.RetRun
public import proofs.«01_k».proof.Proof.RetRef
public import proofs.«01_k».proof.Proof.RetKernel
public import proofs.«01_k».proof.Proof.Proj1Kernel
public import proofs.«01_k».proof.Proof.Gen.Pre_finite_scores
public import proofs.«01_k».proof.Proof.Out1Kernel
public import proofs.«01_k».proof.Proof.Out1Pre
public import proofs.«01_k».proof.Proof.Proj0Ref
public import proofs.«01_k».proof.Proof.Proj0Kernel
public import proofs.«01_k».proof.Proof.Out0Kernel
public import proofs.«01_k».proof.Proof.Out0Pre
public import proofs.«01_k».proof.Proof.MemKv
public import proofs.«01_k».proof.Proof.WinKernel
public import Idealize.ShloMosaic.Adequacy
public import Idealize.ShloMosaic.Init
public import Idealize.ShloMosaic.Lib.Quiescent

/-! # The claims

The frames are the generated ones; the value claim puts the two results side by side at an index. -/

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- After `n` trips the reference's state holds what the formulas of `RetMath` say. -/
theorem inv_states (m : (ℓ : Loc Cert.ReferenceIdeal.nD Cert.ReferenceIdeal.τ Cert.ReferenceIdeal.sig) → Buf (Elt Ideal) ℓ)
    (c : Dev Cert.ReferenceIdeal.nD) (z : Vec Ideal Cert.ReferenceIdeal.S16384x2048 .bf16) (n : ℕ) (hn : n ≤ 128) :
    Ret.Inv ⟨m (c.tc.loc Cert.ReferenceIdeal.main_arg0), m (c.tc.loc Cert.ReferenceIdeal.main_arg1),
      m (c.tc.loc Cert.ReferenceIdeal.main_arg2), z⟩ n (RetRun.states m c n) := by
  induction n with
  | zero => exact Ret.inv_zero _
  | succ n ih => exact Ret.inv_step _ n (by omega) _ (ih (by omega))

/-- Over the reals the kernel's result is the reference's: both are `Ret.res` at every row and column. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (RetRun.run (F := Ideal) m' ρ')
  rw [(h c).1]
  funext i
  obtain ⟨r, k, rfl⟩ : ∃ (r : Fin 16384) (k : Fin 2048), i = ix2 r k := ⟨i 0, i 1, eq_ix2 i⟩
  have e := Ret.ref_at ⟨m' (c.tc.loc Cert.ReferenceIdeal.main_arg0), m' (c.tc.loc Cert.ReferenceIdeal.main_arg1),
      m' (c.tc.loc Cert.ReferenceIdeal.main_arg2), m' (c.tc.loc Cert.ReferenceIdeal.main_arg3)⟩ _
      (inv_states m' c _ 128 le_rfl) r k
  refine e.trans ?_
  simp only [hagree c]
  exact (RetKernel.result_at m c r k).symm

/-- The second reference runs to its end, with no semaphore left raised and its arguments as they were. -/
theorem quiescent_Reference2Ideal : quiescent_Reference2Ideal := fun m ρ _ =>
  (θ_run Cert.Reference2Ideal.defs _ _).mono
    (fun r h => ⟨fun c => (h c).2.2.2.2.2.2, sem_eq_zero_of_no_sems (by decide) r.2⟩) (Proj1.ref_run m ρ)

/-- Over the reals the six results of layer 1's input projection are the reference's. -/
theorem algebraic_Kernel2Ideal_Reference2Ideal : algebraic_Kernel2Ideal_Reference2Ideal := by
  intro m ρ m' ρ' _ hagree
  have ea : ∀ c, Proj1.refArgs m' c = Proj1.args m c := fun c => by
    unfold Proj1.refArgs Proj1.args
    rw [(hagree c).1, (hagree c).2.1, (hagree c).2.2.1, (hagree c).2.2.2]
  refine ⟨_, _, _, _, _, _, Cert.Kernel2Ideal.Value.run_blocks (F := Ideal) m ρ, ?_⟩
  refine (θ_run Cert.Reference2Ideal.defs _ _).mono (fun _ h c => ?_) (Proj1.ref_run m' ρ')
  obtain ⟨h0, h1, h2, h3, h4, h5, ha⟩ := h c
  rw [ea c] at h0 h1 h2 h3 h4 h5
  exact ⟨h0.trans (Proj1.res6 m c).symm, h1.trans (Proj1.res7 m c).symm, h2.trans (Proj1.res8 m c).symm,
    h3.trans (Proj1.res9 m c).symm, h4.trans (Proj1.res10 m c).symm, h5.trans (Proj1.res11 m c).symm, ha⟩

/-- The third reference runs to its end, with no semaphore left raised and its arguments as they were. -/
theorem quiescent_Reference3Ideal : quiescent_Reference3Ideal := fun m ρ _ =>
  (θ_run Cert.Reference3Ideal.defs _ _).mono
    (fun r h => ⟨fun c => (h c).2, sem_eq_zero_of_no_sems (by decide) r.2⟩) (Out1.ref_run m ρ)

/-- Over the reals, where the memory queries and keys are finite, the odd layer's output is the reference's. -/
theorem algebraic_Kernel3Ideal_Reference3Ideal_pre_finite_scores : algebraic_Kernel3Ideal_Reference3Ideal_pre_finite_scores := by
  intro m ρ m' ρ' hpre hagree
  have ea : ∀ c, Out1.refArgs m' c = Out1.args m c := fun c => by
    unfold Out1.refArgs Out1.args
    rw [(hagree c).1, (hagree c).2.1, (hagree c).2.2.1, (hagree c).2.2.2.1, (hagree c).2.2.2.2.1, (hagree c).2.2.2.2.2.1,
      (hagree c).2.2.2.2.2.2]
  refine ⟨_, Cert.Kernel3Ideal.Value.run_blocks (F := Ideal) m ρ, ?_⟩
  refine (θ_run Cert.Reference3Ideal.defs _ _).mono (fun _ h c => ?_) (Out1.ref_run m' ρ')
  obtain ⟨h0, ha⟩ := h c
  rw [ea c] at h0
  have hr := Out1.pre_real _ _ _ _ _ _ _ (hpre c)
  exact ⟨h0.trans (Out1.res8 m c hr.1 hr.2).symm, ha⟩

/-- The fourth reference runs to its end, with no semaphore left raised and its arguments as they were. -/
theorem quiescent_Reference4Ideal : quiescent_Reference4Ideal := fun m ρ _ =>
  (θ_run Cert.Reference4Ideal.defs _ _).mono
    (fun r h => ⟨fun c => (h c).2.2.2.2.2.2.2.2.2.2.2.2.2.2.2.2, sem_eq_zero_of_no_sems (by decide) r.2⟩) (Proj0.ref_run m ρ)

set_option maxHeartbeats 4000000 in
/-- Over the reals the sixteen results of layer 0's input projection are the reference's. -/
theorem algebraic_Kernel4Ideal_Reference4Ideal : algebraic_Kernel4Ideal_Reference4Ideal := by
  intro m ρ m' ρ' _ hagree
  have ea : ∀ c, Proj0.refArgs m' c = Proj0.args m c := fun c => by
    unfold Proj0.refArgs Proj0.args
    rw [(hagree c).1, (hagree c).2.1, (hagree c).2.2.1, (hagree c).2.2.2.1, (hagree c).2.2.2.2]
  refine ⟨_, _, _, _, _, _, _, _, _, _, _, _, _, _, _, _, Cert.Kernel4Ideal.Value.run_blocks (F := Ideal) m ρ, ?_⟩
  refine (θ_run Cert.Reference4Ideal.defs _ _).mono (fun _ h c => ?_) (Proj0.ref_run m' ρ')
  obtain ⟨h0, h1, h2, h3, h4, h5, h6, h7, h8, h9, h10, h11, h12, h13, h14, h15, ha⟩ := h c
  rw [ea c] at h0 h1 h2 h3 h4 h5 h6 h7 h8 h9 h10 h11 h12 h13 h14 h15
  exact ⟨h0.trans (Proj0.res6 m c).symm, h1.trans (Proj0.res7 m c).symm, h2.trans (Proj0.res8 m c).symm, h3.trans (Proj0.res9 m c).symm,
    h4.trans (Proj0.res10 m c).symm, h5.trans (Proj0.res11 m c).symm, h6.trans (Proj0.res12 m c).symm, h7.trans (Proj0.res13 m c).symm,
    h8.trans (Proj0.res14 m c).symm, h9.trans (Proj0.res15 m c).symm, h10.trans (Proj0.res16 m c).symm, h11.trans (Proj0.res17 m c).symm,
    h12.trans (Proj0.res18 m c).symm, h13.trans (Proj0.res19 m c).symm, h14.trans (Proj0.res20 m c).symm, h15.trans (Proj0.res21 m c).symm, ha⟩

/-- The fifth reference runs to its end, with no semaphore left raised and its arguments as they were. -/
theorem quiescent_Reference5Ideal : quiescent_Reference5Ideal := fun m ρ _ =>
  (θ_run Cert.Reference5Ideal.defs _ _).mono
    (fun r h => ⟨fun c => (h c).2, sem_eq_zero_of_no_sems (by decide) r.2⟩) (Out0.ref_run m ρ)

/-- Over the reals, where the memory queries and keys are finite, the even layer's output is the reference's. -/
theorem algebraic_Kernel5Ideal_Reference5Ideal_pre_finite_scores0 : algebraic_Kernel5Ideal_Reference5Ideal_pre_finite_scores0 := by
  intro m ρ m' ρ' hpre hagree
  have ea : ∀ c, Out0.refArgs m' c = Out0.args m c := fun c => by
    unfold Out0.refArgs Out0.args
    rw [(hagree c).1, (hagree c).2.1, (hagree c).2.2.1, (hagree c).2.2.2.1, (hagree c).2.2.2.2.1, (hagree c).2.2.2.2.2.1,
      (hagree c).2.2.2.2.2.2]
  refine ⟨_, Cert.Kernel5Ideal.Value.run_blocks (F := Ideal) m ρ, ?_⟩
  refine (θ_run Cert.Reference5Ideal.defs _ _).mono (fun _ h c => ?_) (Out0.ref_run m' ρ')
  obtain ⟨h0, ha⟩ := h c
  rw [ea c] at h0
  have hr := Out0.pre_real _ _ _ _ _ _ _ (hpre c)
  exact ⟨h0.trans (Out0.res9 m c hr.1 hr.2).symm, ha⟩

/-- The sixth reference runs to its end, with no semaphore left raised and its arguments as they were. -/
theorem quiescent_Reference6Ideal : quiescent_Reference6Ideal := fun m ρ _ =>
  (θ_run Cert.Reference6Ideal.defs _ _).mono
    (fun r h => ⟨fun c => (h c).2.2, sem_eq_zero_of_no_sems (by decide) r.2⟩) (MemKv.ref_run m ρ)

/-- Over the reals the memory's keys and values of both layers are the reference's. -/
theorem algebraic_Kernel6Ideal_Reference6Ideal : algebraic_Kernel6Ideal_Reference6Ideal := by
  intro m ρ m' ρ' _ hagree
  have ea : ∀ c, MemKv.refArgs m' c = MemKv.args m c := fun c => by
    unfold MemKv.refArgs MemKv.args
    rw [(hagree c).1, (hagree c).2.1, (hagree c).2.2.1, (hagree c).2.2.2]
  refine ⟨_, _, Cert.Kernel6Ideal.Value.run_blocks (F := Ideal) m ρ, ?_⟩
  refine (θ_run Cert.Reference6Ideal.defs _ _).mono (fun _ h c => ?_) (MemKv.ref_run m' ρ')
  obtain ⟨h0, h1, ha⟩ := h c
  rw [ea c] at h0 h1
  exact ⟨h0.trans (MemKv.res4 m c).symm, h1.trans (MemKv.res5 m c).symm, ha⟩

/-- The seventh reference runs to its end, with no semaphore left raised and its arguments as they were. -/
theorem quiescent_Reference7Ideal : quiescent_Reference7Ideal := fun m ρ _ =>
  (θ_run Cert.Reference7Ideal.defs _ _).mono
    (fun r h => ⟨fun c => (h c).2, sem_eq_zero_of_no_sems (by decide) r.2⟩) (Win.ref_run m ρ)

/-- Over the reals the sliding window's rows are the reference's. -/
theorem algebraic_Kernel7Ideal_Reference7Ideal : algebraic_Kernel7Ideal_Reference7Ideal := by
  intro m ρ m' ρ' _ hagree
  have ea : ∀ c, Win.refArgs m' c = Win.args m c := fun c => by
    unfold Win.refArgs Win.args
    rw [(hagree c).1, (hagree c).2.1, (hagree c).2.2.1, (hagree c).2.2.2]
  refine ⟨_, Cert.Kernel7Ideal.Value.run_blocks (F := Ideal) m ρ, ?_⟩
  refine (θ_run Cert.Reference7Ideal.defs _ _).mono (fun _ h c => ?_) (Win.ref_run m' ρ')
  obtain ⟨h0, ha⟩ := h c
  rw [ea c] at h0
  exact ⟨h0.trans (Win.res4 m c).symm, ha⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_scores.Gen.facts, Cert.Pre_finite_scores0.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ,
  fun m ρ _ => Cert.Kernel3Ideal.Gen.frame m ρ, quiescent_Reference3Ideal,
  fun m ρ _ => quiescent_Reference3Ideal m ρ trivial,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ,
  fun m ρ _ => Cert.Kernel5Ideal.Gen.frame m ρ, quiescent_Reference5Ideal,
  fun m ρ _ => quiescent_Reference5Ideal m ρ trivial,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal_pre_finite_scores,
  (trivial : preserves_Kernel4_Kernel4Ideal), algebraic_Kernel4Ideal_Reference4Ideal,
  (trivial : preserves_Kernel5_Kernel5Ideal), algebraic_Kernel5Ideal_Reference5Ideal_pre_finite_scores0,
  (trivial : preserves_Kernel6_Kernel6Ideal), algebraic_Kernel6Ideal_Reference6Ideal,
  (trivial : preserves_Kernel7_Kernel7Ideal), algebraic_Kernel7Ideal_Reference7Ideal⟩

end Cert.Proof

end
